-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Expert [hPre_named : Cert.Pre_named.Facts] (m : (ℓ : Loc Cert.Expert.nD Cert.Expert.τ Cert.Expert.sig) → Buf (Elt Bits) ℓ) : Prop :=
  ∀ c : Dev Cert.Expert.nD,
    (Cert.Pre_named.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4))) = (fun _ => 1#1)

def Pre_ExpertIdeal [hPre_named : Cert.Pre_named.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_named.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4))) = (fun _ => 1#1)

def Pre_ExpertReferenceIdeal (m : (ℓ : Loc Cert.ExpertReferenceIdeal.nD Cert.ExpertReferenceIdeal.τ Cert.ExpertReferenceIdeal.sig) → Buf (Elt Ideal) ℓ) : Prop :=
  True

def Pre_ExpertReferenceIdeal_named [hPre_named : Cert.Pre_named.Facts] (m : (ℓ : Loc Cert.ExpertReferenceIdeal.nD Cert.ExpertReferenceIdeal.τ Cert.ExpertReferenceIdeal.sig) → Buf (Elt Ideal) ℓ) : Prop :=
  ∀ c : Dev Cert.ExpertReferenceIdeal.nD,
    (Cert.Pre_named.fn (F := Ideal) (m ((c.tc : Thread Cert.ExpertReferenceIdeal.nD Cert.ExpertReferenceIdeal.τ).loc Cert.ExpertReferenceIdeal.main_arg0)) (m ((c.tc : Thread Cert.ExpertReferenceIdeal.nD Cert.ExpertReferenceIdeal.τ).loc Cert.ExpertReferenceIdeal.main_arg1)) (m ((c.tc : Thread Cert.ExpertReferenceIdeal.nD Cert.ExpertReferenceIdeal.τ).loc Cert.ExpertReferenceIdeal.main_arg2)) (m ((c.tc : Thread Cert.ExpertReferenceIdeal.nD Cert.ExpertReferenceIdeal.τ).loc Cert.ExpertReferenceIdeal.main_arg3)) (m ((c.tc : Thread Cert.ExpertReferenceIdeal.nD Cert.ExpertReferenceIdeal.τ).loc Cert.ExpertReferenceIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_plain [hPre_plain : Cert.Pre_plain.Facts] (m : (ℓ : Loc Cert.RouterIdeal.nD Cert.RouterIdeal.τ Cert.RouterIdeal.sig) → Buf (Elt Ideal) ℓ) : Prop :=
  ∀ c : Dev Cert.RouterIdeal.nD,
    (Cert.Pre_plain.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_plain [hPre_plain : Cert.Pre_plain.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_plain.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2)) (m ((c.tc : Thread Cert.RouterReferenceIdeal.nD Cert.RouterReferenceIdeal.τ).loc Cert.RouterReferenceIdeal.main_arg3)) (m ((c.tc : Thread Cert.RouterReferenceIdeal.nD Cert.RouterReferenceIdeal.τ).loc Cert.RouterReferenceIdeal.main_arg4)) (m ((c.tc : Thread Cert.RouterReferenceIdeal.nD Cert.RouterReferenceIdeal.τ).loc Cert.RouterReferenceIdeal.main_arg5)) (m ((c.tc : Thread Cert.RouterReferenceIdeal.nD Cert.RouterReferenceIdeal.τ).loc Cert.RouterReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Expert [hExpert : Cert.Expert.Facts] [hPre_named : Cert.Pre_named.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4))
      ∧ r.2.sem = fun _ => 0)

def quiescent_ExpertIdeal [hExpertIdeal : Cert.ExpertIdeal.Facts] [hPre_named : Cert.Pre_named.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ r.2.sem = fun _ => 0)

def quiescent_ExpertReferenceIdeal [hExpertReferenceIdeal : Cert.ExpertReferenceIdeal.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3)
      ∧ r.2.mem ((c.tc : Thread Cert.ExpertReferenceIdeal.nD Cert.ExpertReferenceIdeal.τ).loc Cert.ExpertReferenceIdeal.main_arg4) = m ((c.tc : Thread Cert.ExpertReferenceIdeal.nD Cert.ExpertReferenceIdeal.τ).loc Cert.ExpertReferenceIdeal.main_arg4))
      ∧ r.2.sem = fun _ => 0)

def quiescent_ExpertReferenceIdeal_pre_named [hExpertReferenceIdeal : Cert.ExpertReferenceIdeal.Facts] [hPre_named : Cert.Pre_named.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal_named m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3)
      ∧ r.2.mem ((c.tc : Thread Cert.ExpertReferenceIdeal.nD Cert.ExpertReferenceIdeal.τ).loc Cert.ExpertReferenceIdeal.main_arg4) = m ((c.tc : Thread Cert.ExpertReferenceIdeal.nD Cert.ExpertReferenceIdeal.τ).loc Cert.ExpertReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6))
      ∧ r.2.sem = fun _ => 0)

def quiescent_RouterIdeal_pre_plain [hRouterIdeal : Cert.RouterIdeal.Facts] [hPre_plain : Cert.Pre_plain.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_plain m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5)
      ∧ r.2.mem ((c.tc : Thread Cert.RouterReferenceIdeal.nD Cert.RouterReferenceIdeal.τ).loc Cert.RouterReferenceIdeal.main_arg6) = m ((c.tc : Thread Cert.RouterReferenceIdeal.nD Cert.RouterReferenceIdeal.τ).loc Cert.RouterReferenceIdeal.main_arg6))
      ∧ r.2.sem = fun _ => 0)

def quiescent_RouterReferenceIdeal_pre_plain [hRouterReferenceIdeal : Cert.RouterReferenceIdeal.Facts] [hPre_plain : Cert.Pre_plain.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_plain m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5)
      ∧ r.2.mem ((c.tc : Thread Cert.RouterReferenceIdeal.nD Cert.RouterReferenceIdeal.τ).loc Cert.RouterReferenceIdeal.main_arg6) = m ((c.tc : Thread Cert.RouterReferenceIdeal.nD Cert.RouterReferenceIdeal.τ).loc Cert.RouterReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v37) = v0 c
          ∧ r.2.mem ((c.tc : Thread Cert.FfnReferenceIdeal.nD Cert.FfnReferenceIdeal.τ).loc Cert.FfnReferenceIdeal.main_v38) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Expert_ExpertIdeal : Prop :=
  True

def algebraic_ExpertIdeal_ExpertReferenceIdeal [hExpertIdeal : Cert.ExpertIdeal.Facts] [hExpertReferenceIdeal : Cert.ExpertReferenceIdeal.Facts] [hPre_named : Cert.Pre_named.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertReferenceIdeal.nD Cert.ExpertReferenceIdeal.τ Cert.ExpertReferenceIdeal.sig) → Buf (Elt Ideal) ℓ) (g' : Dev Cert.ExpertReferenceIdeal.nD → PrngReg), Pre_ExpertIdeal m →
    (∀ c : Dev Cert.ExpertIdeal.nD,
      m' ((c.tc : Thread Cert.ExpertReferenceIdeal.nD Cert.ExpertReferenceIdeal.τ).loc Cert.ExpertReferenceIdeal.main_arg0) = m ((c.tc : Thread Cert.ExpertIdeal.nD Cert.ExpertIdeal.τ).loc Cert.ExpertIdeal.main_arg0)
      ∧ m' ((c.tc : Thread Cert.ExpertReferenceIdeal.nD Cert.ExpertReferenceIdeal.τ).loc Cert.ExpertReferenceIdeal.main_arg1) = m ((c.tc : Thread Cert.ExpertIdeal.nD Cert.ExpertIdeal.τ).loc Cert.ExpertIdeal.main_arg1)
      ∧ m' ((c.tc : Thread Cert.ExpertReferenceIdeal.nD Cert.ExpertReferenceIdeal.τ).loc Cert.ExpertReferenceIdeal.main_arg2) = m ((c.tc : Thread Cert.ExpertIdeal.nD Cert.ExpertIdeal.τ).loc Cert.ExpertIdeal.main_arg2)
      ∧ m' ((c.tc : Thread Cert.ExpertReferenceIdeal.nD Cert.ExpertReferenceIdeal.τ).loc Cert.ExpertReferenceIdeal.main_arg3) = m ((c.tc : Thread Cert.ExpertIdeal.nD Cert.ExpertIdeal.τ).loc Cert.ExpertIdeal.main_arg3)
      ∧ m' ((c.tc : Thread Cert.ExpertReferenceIdeal.nD Cert.ExpertReferenceIdeal.τ).loc Cert.ExpertReferenceIdeal.main_arg4) = m ((c.tc : Thread Cert.ExpertIdeal.nD Cert.ExpertIdeal.τ).loc Cert.ExpertIdeal.main_arg4)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v0) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ θ_run (Cert.ExpertReferenceIdeal.defs (F := Ideal)) (onTc (τ := Cert.ExpertReferenceIdeal.τ) (Cert.ExpertReferenceIdeal.main (F := Ideal))) ⟨m', fun _ => 0, g'⟩ (fun r => ∀ c : Dev Cert.ExpertReferenceIdeal.nD,
          r.2.mem ((c.tc : Thread Cert.ExpertReferenceIdeal.nD Cert.ExpertReferenceIdeal.τ).loc Cert.ExpertReferenceIdeal.main_v44) = v0 c
          ∧ r.2.mem ((c.tc : Thread Cert.ExpertReferenceIdeal.nD Cert.ExpertReferenceIdeal.τ).loc Cert.ExpertReferenceIdeal.main_arg0) = m' ((c.tc : Thread Cert.ExpertReferenceIdeal.nD Cert.ExpertReferenceIdeal.τ).loc Cert.ExpertReferenceIdeal.main_arg0)
          ∧ r.2.mem ((c.tc : Thread Cert.ExpertReferenceIdeal.nD Cert.ExpertReferenceIdeal.τ).loc Cert.ExpertReferenceIdeal.main_arg1) = m' ((c.tc : Thread Cert.ExpertReferenceIdeal.nD Cert.ExpertReferenceIdeal.τ).loc Cert.ExpertReferenceIdeal.main_arg1)
          ∧ r.2.mem ((c.tc : Thread Cert.ExpertReferenceIdeal.nD Cert.ExpertReferenceIdeal.τ).loc Cert.ExpertReferenceIdeal.main_arg2) = m' ((c.tc : Thread Cert.ExpertReferenceIdeal.nD Cert.ExpertReferenceIdeal.τ).loc Cert.ExpertReferenceIdeal.main_arg2)
          ∧ r.2.mem ((c.tc : Thread Cert.ExpertReferenceIdeal.nD Cert.ExpertReferenceIdeal.τ).loc Cert.ExpertReferenceIdeal.main_arg3) = m' ((c.tc : Thread Cert.ExpertReferenceIdeal.nD Cert.ExpertReferenceIdeal.τ).loc Cert.ExpertReferenceIdeal.main_arg3)
          ∧ r.2.mem ((c.tc : Thread Cert.ExpertReferenceIdeal.nD Cert.ExpertReferenceIdeal.τ).loc Cert.ExpertReferenceIdeal.main_arg4) = m' ((c.tc : Thread Cert.ExpertReferenceIdeal.nD Cert.ExpertReferenceIdeal.τ).loc Cert.ExpertReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)) (v5 : (c : Dev Cert.InProjIdeal.nD) → Buf (Elt Ideal) ((c.tc : Thread Cert.InProjIdeal.nD Cert.InProjIdeal.τ).loc Cert.InProjIdeal.main_v0_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_v0_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v55) = v0 c
          ∧ r.2.mem ((c.tc : Thread Cert.InProjReferenceIdeal.nD Cert.InProjReferenceIdeal.τ).loc Cert.InProjReferenceIdeal.main_v57) = v1 c
          ∧ r.2.mem ((c.tc : Thread Cert.InProjReferenceIdeal.nD Cert.InProjReferenceIdeal.τ).loc Cert.InProjReferenceIdeal.main_v58) = v2 c
          ∧ r.2.mem ((c.tc : Thread Cert.InProjReferenceIdeal.nD Cert.InProjReferenceIdeal.τ).loc Cert.InProjReferenceIdeal.main_v9) = v3 c
          ∧ r.2.mem ((c.tc : Thread Cert.InProjReferenceIdeal.nD Cert.InProjReferenceIdeal.τ).loc Cert.InProjReferenceIdeal.main_v10) = v4 c
          ∧ r.2.mem ((c.tc : Thread Cert.InProjReferenceIdeal.nD Cert.InProjReferenceIdeal.τ).loc Cert.InProjReferenceIdeal.main_v59) = v5 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v34) = v0 c
          ∧ r.2.mem ((c.tc : Thread Cert.OutProjReferenceIdeal.nD Cert.OutProjReferenceIdeal.τ).loc Cert.OutProjReferenceIdeal.main_v35) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_Router_RouterIdeal : Prop :=
  True

def algebraic_RouterIdeal_RouterReferenceIdeal_pre_plain [hRouterIdeal : Cert.RouterIdeal.Facts] [hRouterReferenceIdeal : Cert.RouterReferenceIdeal.Facts] [hPre_plain : Cert.Pre_plain.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_plain m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)
      ∧ m' ((c.tc : Thread Cert.RouterReferenceIdeal.nD Cert.RouterReferenceIdeal.τ).loc Cert.RouterReferenceIdeal.main_arg5) = m ((c.tc : Thread Cert.RouterIdeal.nD Cert.RouterIdeal.τ).loc Cert.RouterIdeal.main_arg5)
      ∧ m' ((c.tc : Thread Cert.RouterReferenceIdeal.nD Cert.RouterReferenceIdeal.τ).loc Cert.RouterReferenceIdeal.main_arg6) = m ((c.tc : Thread Cert.RouterIdeal.nD Cert.RouterIdeal.τ).loc Cert.RouterIdeal.main_arg6)) →
    ∃ (v0 : (c : Dev Cert.RouterIdeal.nD) → Buf (Elt Ideal) ((c.tc : Thread Cert.RouterIdeal.nD Cert.RouterIdeal.τ).loc Cert.RouterIdeal.main_v0_0)) (v1 : (c : Dev Cert.RouterIdeal.nD) → Buf (Elt Ideal) ((c.tc : Thread Cert.RouterIdeal.nD Cert.RouterIdeal.τ).loc Cert.RouterIdeal.main_v0_1)) (v2 : (c : Dev Cert.RouterIdeal.nD) → Buf (Elt Ideal) ((c.tc : Thread Cert.RouterIdeal.nD Cert.RouterIdeal.τ).loc Cert.RouterIdeal.main_v0_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0_0) = v0 c
          ∧ r.2.mem ((c.tc : Thread Cert.RouterIdeal.nD Cert.RouterIdeal.τ).loc Cert.RouterIdeal.main_v0_1) = v1 c
          ∧ r.2.mem ((c.tc : Thread Cert.RouterIdeal.nD Cert.RouterIdeal.τ).loc Cert.RouterIdeal.main_v0_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v34) = v0 c
          ∧ r.2.mem ((c.tc : Thread Cert.RouterReferenceIdeal.nD Cert.RouterReferenceIdeal.τ).loc Cert.RouterReferenceIdeal.main_v35) = v1 c
          ∧ r.2.mem ((c.tc : Thread Cert.RouterReferenceIdeal.nD Cert.RouterReferenceIdeal.τ).loc Cert.RouterReferenceIdeal.main_v36) = v2 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4)
          ∧ r.2.mem ((c.tc : Thread Cert.RouterReferenceIdeal.nD Cert.RouterReferenceIdeal.τ).loc Cert.RouterReferenceIdeal.main_arg5) = m' ((c.tc : Thread Cert.RouterReferenceIdeal.nD Cert.RouterReferenceIdeal.τ).loc Cert.RouterReferenceIdeal.main_arg5)
          ∧ r.2.mem ((c.tc : Thread Cert.RouterReferenceIdeal.nD Cert.RouterReferenceIdeal.τ).loc Cert.RouterReferenceIdeal.main_arg6) = m' ((c.tc : Thread Cert.RouterReferenceIdeal.nD Cert.RouterReferenceIdeal.τ).loc Cert.RouterReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hExpert : Cert.Expert.Facts) (hExpertIdeal : Cert.ExpertIdeal.Facts) (hExpertReferenceIdeal : Cert.ExpertReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hRouter : Cert.Router.Facts) (hRouterIdeal : Cert.RouterIdeal.Facts) (hRouterReferenceIdeal : Cert.RouterReferenceIdeal.Facts) (hPre_finite : Cert.Pre_finite.Facts) (hPre_named : Cert.Pre_named.Facts) (hPre_plain : Cert.Pre_plain.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Expert (hExpert := hExpert) (hPre_named := hPre_named)
    ∧ quiescent_ExpertIdeal (hExpertIdeal := hExpertIdeal) (hPre_named := hPre_named)
    ∧ quiescent_ExpertReferenceIdeal (hExpertReferenceIdeal := hExpertReferenceIdeal)
    ∧ quiescent_ExpertReferenceIdeal_pre_named (hExpertReferenceIdeal := hExpertReferenceIdeal) (hPre_named := hPre_named)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Router (hRouter := hRouter)
    ∧ quiescent_RouterIdeal (hRouterIdeal := hRouterIdeal)
    ∧ quiescent_RouterIdeal_pre_plain (hRouterIdeal := hRouterIdeal) (hPre_plain := hPre_plain)
    ∧ quiescent_RouterReferenceIdeal (hRouterReferenceIdeal := hRouterReferenceIdeal)
    ∧ quiescent_RouterReferenceIdeal_pre_plain (hRouterReferenceIdeal := hRouterReferenceIdeal) (hPre_plain := hPre_plain)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Expert_ExpertIdeal
    ∧ algebraic_ExpertIdeal_ExpertReferenceIdeal (hExpertIdeal := hExpertIdeal) (hExpertReferenceIdeal := hExpertReferenceIdeal) (hPre_named := hPre_named)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Router_RouterIdeal
    ∧ algebraic_RouterIdeal_RouterReferenceIdeal_pre_plain (hRouterIdeal := hRouterIdeal) (hRouterReferenceIdeal := hRouterReferenceIdeal) (hPre_plain := hPre_plain)
-- ==== Pre_finite.lean ====
abbrev S16384x512 : Shape := ⟨2, ![16384, 512]⟩
abbrev S64x512x256 : Shape := ⟨3, ![64, 512, 256]⟩
abbrev S4x64 : Shape := ⟨2, ![4, 64]⟩
abbrev S1x128 : Shape := ⟨2, ![1, 128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S64x512x256 : S_.BroadcastsInDim S64x512x256 (![] : Fin 0 → Fin S64x512x256.rank)
  reducesTo_S64x512x256_S_d0_1_2 : S64x512x256.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v16 : IVec S_ 1) (main_v17 : FVec F S4x64 .f32) : IVec S_ 1 :=
  let main_cst_4 : FVec F S_ .f32 := constant S_ .f32 0x7F800000#32
  let main_v18 : FVec F S4x64 .f32 := broadcastInDim S4x64 ![] bcast_S_S4x64 main_cst_4
  let main_v19 : IVec S4x64 1 := cmpf .olt main_v17 main_v18
  let main_c_5 : IVec S_ 1 := constantI S_ 1 1#1
  let main_v20 : IVec S_ 1 := (fun x v => Host.reduce IntOp.andi x v reducesTo_S4x64_S_d0_1 h_S_) main_v19 main_c_5
  let main_v21 : IVec S_ 1 := andi main_v16 main_v20
  main_v21

def fn {F : FTy → Type} [FloatOps F] (main_arg0 : FVec F S16384x512 .bf16) (main_arg1 : FVec F S16384x512 .bf16) (main_arg2 : FVec F S64x512x256 .bf16) (main_arg3 : FVec F S4x64 .f32) (main_arg4 : FVec F S1x128 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S64x512x256 .f32 := (extf .f32 · bitsLt_bf16_f32) main_arg2
  let main_v12 : FVec F S64x512x256 .f32 := Host.absf main_v11
  let main_cst_2 : FVec F S_ .f32 := constant S_ .f32 0x7F800000#32
  let main_v13 : FVec F S64x512x256 .f32 := broadcastInDim S64x512x256 ![] bcast_S_S64x512x256 main_cst_2
  let main_v14 : IVec S64x512x256 1 := cmpf .olt main_v12 main_v13
  let main_c_3 : IVec S_ 1 := constantI S_ 1 1#1
  let main_v15 : IVec S_ 1 := (fun x v => Host.reduce IntOp.andi x v reducesTo_S64x512x256_S_d0_1_2 h_S_) main_v14 main_c_3
  let main_v16 : IVec S_ 1 := andi main_v10 main_v15
  let main_v17 : FVec F S4x64 .f32 := Host.absf main_arg3
  fn_part1 (F := F) main_v16 main_v17
-- ==== Pre_named.lean ====
abbrev S73 : Shape := ⟨1, ![73]⟩
abbrev S36864x1024 : Shape := ⟨2, ![36864, 1024]⟩
abbrev S2x8x1024x3584 : Shape := ⟨4, ![2, 8, 1024, 3584]⟩
abbrev S2x8x3584x1024 : Shape := ⟨4, ![2, 8, 3584, 1024]⟩
abbrev S72 : Shape := ⟨1, ![72]⟩
abbrev S_ : Shape := ⟨0, ![]⟩

class Facts : Prop where
  slices_S73_S72_0 : S73.Slices ![0] S72
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : IVec S73 32) (main_arg1 : FVec F S36864x1024 .f32) (main_arg2 : FVec F S2x8x1024x3584 .bf16) (main_arg3 : FVec F S2x8x1024x3584 .bf16) (main_arg4 : FVec F S2x8x3584x1024 .bf16) : IVec S_ 1 :=
  let main_v0 : IVec S72 32 := (extractStridedSlice S72 ![0] · slices_S73_S72_0) main_arg0
  let main_c : IVec S_ 32 := constantI S_ 32 0#32
  let main_v1 : IVec S72 32 := broadcastInDim S72 ![] bcast_S_S72 main_c
  let main_v2 : IVec S72 1 := cmpi .sge main_v0 main_v1
  let main_c_0 : IVec S_ 32 := constantI S_ 32 8#32
  let main_v3 : IVec S72 32 := broadcastInDim S72 ![] bcast_S_S72 main_c_0
  let main_v4 : IVec S72 1 := cmpi .slt main_v0 main_v3
  let main_v5 : IVec S72 1 := andi main_v2 main_v4
  let main_c_1 : IVec S_ 1 := constantI S_ 1 1#1
  let main_v6 : IVec S_ 1 := (fun x v => Host.reduce IntOp.andi x v reducesTo_S72_S_d0 h_S_) main_v5 main_c_1
  main_v6
-- ==== Pre_plain.lean ====
abbrev S16384x512 : Shape := ⟨2, ![16384, 512]⟩
abbrev S16384x1024 : Shape := ⟨2, ![16384, 1024]⟩
abbrev S4x1024x1024 : Shape := ⟨3, ![4, 1024, 1024]⟩
abbrev S1x1024 : Shape := ⟨2, ![1, 1024]⟩
abbrev S1024x128 : Shape := ⟨2, ![1024, 128]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S16384x512 .bf16) (main_arg1 : FVec F S16384x512 .bf16) (main_arg2 : FVec F S16384x1024 .f32) (main_arg3 : FVec F S4x1024x1024 .bf16) (main_arg4 : FVec F S1x1024 .f32) (main_arg5 : FVec F S1x1024 .f32) (main_arg6 : FVec F S1024x128 .f32) : IVec S_ 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024 .f32 := Host.absf main_arg5
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x128 .f32 := Host.absf main_arg6
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  main_v13
-- ==== Kernel.lean ====
abbrev S16384x512 : Shape := ⟨2, ![16384, 512]⟩
abbrev S64x512x256 : Shape := ⟨3, ![64, 512, 256]⟩
abbrev S4x64 : Shape := ⟨2, ![4, 64]⟩
abbrev S1x128 : Shape := ⟨2, ![1, 128]⟩
abbrev S256x512 : Shape := ⟨2, ![256, 512]⟩
abbrev S2048x512 : Shape := ⟨2, ![2048, 512]⟩
abbrev S8x512x256 : Shape := ⟨3, ![8, 512, 256]⟩
abbrev S256x128 : Shape := ⟨2, ![256, 128]⟩
abbrev S1x256 : Shape := ⟨2, ![1, 256]⟩
abbrev S128x256 : Shape := ⟨2, ![128, 256]⟩
abbrev S1x128x256 : Shape := ⟨3, ![1, 128, 256]⟩
abbrev S256x256 : Shape := ⟨2, ![256, 256]⟩
abbrev S256 : Shape := ⟨1, ![256]⟩
abbrev S1x64 : Shape := ⟨2, ![1, 64]⟩
abbrev S1 : Shape := ⟨1, ![1]⟩
abbrev S1x1 : Shape := ⟨2, ![1, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S64x512x256, .bf16⟩
  | .hbm, ⟨3, _⟩ => ⟨S4x64, .f32⟩
  | .hbm, ⟨4, _⟩ => ⟨S1x128, .f32⟩
  | .hbm, ⟨5, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S8x512x256, .bf16⟩
  | .local _ .vmem, ⟨5, _⟩ => ⟨S8x512x256, .bf16⟩
  | .local _ .vmem, ⟨6, _⟩ => ⟨S4x64, .f32⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v36 : BitVec 32 := Scalar.subi arg1 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_17 : BitVec 32 := 1#32
  ⟨c0_i32, v40, c1_i32_17⟩
def k0_mult1 (i : grid0.Coords) (k0_t1 : Fin (k0_t1_loop i).trips) : BitVec 32 :=
  let c0_i32 : BitVec 32 := 0#32
  let c1_i32_17 : BitVec 32 := 1#32
  let arg8 : BitVec 32 := Scf.iv c0_i32 c1_i32_17 k0_t1
  let c256_i32_108 : BitVec 32 := 256#32
  let v351 : BitVec 32 := Scalar.muli arg8 c256_i32_108
  v351
def k0_off1 (i : grid0.Coords) (k0_t1 : Fin (k0_t1_loop i).trips) : Fin 2 → Nat :=
  let c0_i32 : BitVec 32 := 0#32
  let c1_i32_17 : BitVec 32 := 1#32
  let arg8 : BitVec 32 := Scf.iv c0_i32 c1_i32_17 k0_t1
  let c256_i32_108 : BitVec 32 := 256#32
  let v351 : BitVec 32 := Scalar.muli arg8 c256_i32_108
  let v352 : BitVec 32 := v351
  let v353 : Index := Scalar.indexCast v352
  let c0_109 : Index := 0#32
  ![v353.toNat, 0]
def k0_off2 (i : grid0.Coords) (k0_t1 : Fin (k0_t1_loop i).trips) : Fin 2 → Nat :=
  let c0_i32 : BitVec 32 := 0#32
  let c1_i32_17 : BitVec 32 := 1#32
  let arg8 : BitVec 32 := Scf.iv c0_i32 c1_i32_17 k0_t1
  let c256_i32_108 : BitVec 32 := 256#32
  let v351 : BitVec 32 := Scalar.muli arg8 c256_i32_108
  let v352 : BitVec 32 := v351
  let v355 : Index := Scalar.indexCast v352
  let c128_110 : Index := 128#32
  ![v355.toNat, 128]
def k0_off3 (i : grid0.Coords) (k0_t1 : Fin (k0_t1_loop i).trips) : Fin 2 → Nat :=
  let c0_i32 : BitVec 32 := 0#32
  let c1_i32_17 : BitVec 32 := 1#32
  let arg8 : BitVec 32 := Scf.iv c0_i32 c1_i32_17 k0_t1
  let c256_i32_108 : BitVec 32 := 256#32
  let v351 : BitVec 32 := Scalar.muli arg8 c256_i32_108
  let v352 : BitVec 32 := v351
  let v357 : Index := Scalar.indexCast v352
  let c256_111 : Index := 256#32
  ![v357.toNat, 256]
def k0_off4 (i : grid0.Coords) (k0_t1 : Fin (k0_t1_loop i).trips) : Fin 2 → Nat :=
  let c0_i32 : BitVec 32 := 0#32
  let c1_i32_17 : BitVec 32 := 1#32
  let arg8 : BitVec 32 := Scf.iv c0_i32 c1_i32_17 k0_t1
  let c256_i32_108 : BitVec 32 := 256#32
  let v351 : BitVec 32 := Scalar.muli arg8 c256_i32_108
  let v352 : BitVec 32 := v351
  let v359 : Index := Scalar.indexCast v352
  let c384_112 : Index := 384#32
  ![v359.toNat, 384]
def k0_off5 (i : grid0.Coords) (k0_t1 : Fin (k0_t1_loop i).trips) : Fin 3 → Nat :=
  let c0_i32 : BitVec 32 := 0#32
  let c1_i32_17 : BitVec 32 := 1#32
  let arg8 : BitVec 32 := Scf.iv c0_i32 c1_i32_17 k0_t1
  let v361 : Index := Scalar.indexCast arg8
  let c0_113 : Index := 0#32
  let c0_114 : Index := 0#32
  ![v361.toNat, 0, 0]
def k0_off6 (i : grid0.Coords) (k0_t1 : Fin (k0_t1_loop i).trips) : Fin 3 → Nat :=
  let c0_i32 : BitVec 32 := 0#32
  let c1_i32_17 : BitVec 32 := 1#32
  let arg8 : BitVec 32 := Scf.iv c0_i32 c1_i32_17 k0_t1
  let v364 : Index := Scalar.indexCast arg8
  let c128_115 : Index := 128#32
  let c0_116 : Index := 0#32
  ![v364.toNat, 128, 0]
def k0_off7 (i : grid0.Coords) (k0_t1 : Fin (k0_t1_loop i).trips) : Fin 3 → Nat :=
  let c0_i32 : BitVec 32 := 0#32
  let c1_i32_17 : BitVec 32 := 1#32
  let arg8 : BitVec 32 := Scf.iv c0_i32 c1_i32_17 k0_t1
  let v367 : Index := Scalar.indexCast arg8
  let c256_117 : Index := 256#32
  let c0_118 : Index := 0#32
  ![v367.toNat, 256, 0]
def k0_off8 (i : grid0.Coords) (k0_t1 : Fin (k0_t1_loop i).trips) : Fin 3 → Nat :=
  let c0_i32 : BitVec 32 := 0#32
  let c1_i32_17 : BitVec 32 := 1#32
  let arg8 : BitVec 32 := Scf.iv c0_i32 c1_i32_17 k0_t1
  let v370 : Index := Scalar.indexCast arg8
  let c384_119 : Index := 384#32
  let c0_120 : Index := 0#32
  ![v370.toNat, 384, 0]
@[reducible] def k0_t2_loop (i : grid0.Coords) : Scf.Loop 32 :=
  let c0_i32 : BitVec 32 := 0#32
  let arg1 : BitVec 32 := BitVec.ofNat 32 (i 1).val
  let v36 : BitVec 32 := Scalar.subi arg1 c0_i32
  let c1_i32 : BitVec 32 := 1#32
  let v38 : BitVec 32 := Scalar.divsi v36 c1_i32
  let v39 : BitVec 32 := Scalar.muli v38 c1_i32
  let v40 : BitVec 32 := Scalar.addi c0_i32 v39
  let v37 : BitVec 32 := Scalar.addi c0_i32 v36
  let c1_i32_18 : BitVec 32 := 1#32
  ⟨v40, v37, c1_i32_18⟩
def k0_mult2 (i : grid0.Coords) (k0_t2 : Fin (k0_t2_loop i).trips) : BitVec 32 :=
  let c0_i32 : BitVec 32 := 0#32
  let arg1 : BitVec 32 := BitVec.ofNat 32 (i 1).val
  let v36 : BitVec 32 := Scalar.subi arg1 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_18 : BitVec 32 := 1#32
  let arg8 : BitVec 32 := Scf.iv v40 c1_i32_18 k0_t2
  let c256_i32_108 : BitVec 32 := 256#32
  let v351 : BitVec 32 := Scalar.muli arg8 c256_i32_108
  v351
def k0_off9 (i : grid0.Coords) (k0_t2 : Fin (k0_t2_loop i).trips) : Fin 2 → Nat :=
  let c0_i32 : BitVec 32 := 0#32
  let arg1 : BitVec 32 := BitVec.ofNat 32 (i 1).val
  let v36 : BitVec 32 := Scalar.subi arg1 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_18 : BitVec 32 := 1#32
  let arg8 : BitVec 32 := Scf.iv v40 c1_i32_18 k0_t2
  let c256_i32_108 : BitVec 32 := 256#32
  let v351 : BitVec 32 := Scalar.muli arg8 c256_i32_108
  let v352 : BitVec 32 := v351
  let v353 : Index := Scalar.indexCast v352
  let c0_109 : Index := 0#32
  ![v353.toNat, 0]
def k0_off10 (i : grid0.Coords) (k0_t2 : Fin (k0_t2_loop i).trips) : Fin 2 → Nat :=
  let c0_i32 : BitVec 32 := 0#32
  let arg1 : BitVec 32 := BitVec.ofNat 32 (i 1).val
  let v36 : BitVec 32 := Scalar.subi arg1 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_18 : BitVec 32 := 1#32
  let arg8 : BitVec 32 := Scf.iv v40 c1_i32_18 k0_t2
  let c256_i32_108 : BitVec 32 := 256#32
  let v351 : BitVec 32 := Scalar.muli arg8 c256_i32_108
  let v352 : BitVec 32 := v351
  let v355 : Index := Scalar.indexCast v352
  let c128_110 : Index := 128#32
  ![v355.toNat, 128]
def k0_off11 (i : grid0.Coords) (k0_t2 : Fin (k0_t2_loop i).trips) : Fin 2 → Nat :=
  let c0_i32 : BitVec 32 := 0#32
  let arg1 : BitVec 32 := BitVec.ofNat 32 (i 1).val
  let v36 : BitVec 32 := Scalar.subi arg1 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_18 : BitVec 32 := 1#32
  let arg8 : BitVec 32 := Scf.iv v40 c1_i32_18 k0_t2
  let c256_i32_108 : BitVec 32 := 256#32
  let v351 : BitVec 32 := Scalar.muli arg8 c256_i32_108
  let v352 : BitVec 32 := v351
  let v357 : Index := Scalar.indexCast v352
  let c256_111 : Index := 256#32
  ![v357.toNat, 256]
def k0_off12 (i : grid0.Coords) (k0_t2 : Fin (k0_t2_loop i).trips) : Fin 2 → Nat :=
  let c0_i32 : BitVec 32 := 0#32
  let arg1 : BitVec 32 := BitVec.ofNat 32 (i 1).val
  let v36 : BitVec 32 := Scalar.subi arg1 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_18 : BitVec 32 := 1#32
  let arg8 : BitVec 32 := Scf.iv v40 c1_i32_18 k0_t2
  let c256_i32_108 : BitVec 32 := 256#32
  let v351 : BitVec 32 := Scalar.muli arg8 c256_i32_108
  let v352 : BitVec 32 := v351
  let v359 : Index := Scalar.indexCast v352
  let c384_112 : Index := 384#32
  ![v359.toNat, 384]
def k0_off13 (i : grid0.Coords) (k0_t2 : Fin (k0_t2_loop i).trips) : Fin 3 → Nat :=
  let c0_i32 : BitVec 32 := 0#32
  let arg1 : BitVec 32 := BitVec.ofNat 32 (i 1).val
  let v36 : BitVec 32 := Scalar.subi arg1 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_18 : BitVec 32 := 1#32
  let arg8 : BitVec 32 := Scf.iv v40 c1_i32_18 k0_t2
  let v361 : Index := Scalar.indexCast arg8
  let c0_113 : Index := 0#32
  let c0_114 : Index := 0#32
  ![v361.toNat, 0, 0]
def k0_off14 (i : grid0.Coords) (k0_t2 : Fin (k0_t2_loop i).trips) : Fin 3 → Nat :=
  let c0_i32 : BitVec 32 := 0#32
  let arg1 : BitVec 32 := BitVec.ofNat 32 (i 1).val
  let v36 : BitVec 32 := Scalar.subi arg1 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_18 : BitVec 32 := 1#32
  let arg8 : BitVec 32 := Scf.iv v40 c1_i32_18 k0_t2
  let v364 : Index := Scalar.indexCast arg8
  let c128_115 : Index := 128#32
  let c0_116 : Index := 0#32
  ![v364.toNat, 128, 0]
def k0_off15 (i : grid0.Coords) (k0_t2 : Fin (k0_t2_loop i).trips) : Fin 3 → Nat :=
  let c0_i32 : BitVec 32 := 0#32
  let arg1 : BitVec 32 := BitVec.ofNat 32 (i 1).val
  let v36 : BitVec 32 := Scalar.subi arg1 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_18 : BitVec 32 := 1#32
  let arg8 : BitVec 32 := Scf.iv v40 c1_i32_18 k0_t2
  let v367 : Index := Scalar.indexCast arg8
  let c256_117 : Index := 256#32
  let c0_118 : Index := 0#32
  ![v367.toNat, 256, 0]
def k0_off16 (i : grid0.Coords) (k0_t2 : Fin (k0_t2_loop i).trips) : Fin 3 → Nat :=
  let c0_i32 : BitVec 32 := 0#32
  let arg1 : BitVec 32 := BitVec.ofNat 32 (i 1).val
  let v36 : BitVec 32 := Scalar.subi arg1 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_18 : BitVec 32 := 1#32
  let arg8 : BitVec 32 := Scf.iv v40 c1_i32_18 k0_t2
  let v370 : Index := Scalar.indexCast arg8
  let c384_119 : Index := 384#32
  let c0_120 : Index := 0#32
  ![v370.toNat, 384, 0]
def k0_mult3 (i : grid0.Coords) : BitVec 32 :=
  let arg1 : BitVec 32 := BitVec.ofNat 32 (i 1).val
  let c256_i32 : BitVec 32 := 256#32
  let v43 : BitVec 32 := Scalar.muli arg1 c256_i32
  v43
def k0_off17 (i : grid0.Coords) : Fin 2 → Nat :=
  let arg1 : BitVec 32 := BitVec.ofNat 32 (i 1).val
  let c256_i32 : BitVec 32 := 256#32
  let v43 : BitVec 32 := Scalar.muli arg1 c256_i32
  let v44 : BitVec 32 := v43
  let v45 : Index := Scalar.indexCast v44
  let c0_19 : Index := 0#32
  ![v45.toNat, 0]
def k0_off18 (i : grid0.Coords) : Fin 2 → Nat :=
  let arg1 : BitVec 32 := BitVec.ofNat 32 (i 1).val
  let c256_i32 : BitVec 32 := 256#32
  let v43 : BitVec 32 := Scalar.muli arg1 c256_i32
  let v44 : BitVec 32 := v43
  let v47 : Index := Scalar.indexCast v44
  let c128_20 : Index := 128#32
  ![v47.toNat, 128]
def k0_off19 (i : grid0.Coords) : Fin 2 → Nat :=
  let arg1 : BitVec 32 := BitVec.ofNat 32 (i 1).val
  let c256_i32 : BitVec 32 := 256#32
  let v43 : BitVec 32 := Scalar.muli arg1 c256_i32
  let v44 : BitVec 32 := v43
  let v49 : Index := Scalar.indexCast v44
  let c256_21 : Index := 256#32
  ![v49.toNat, 256]
def k0_off20 (i : grid0.Coords) : Fin 2 → Nat :=
  let arg1 : BitVec 32 := BitVec.ofNat 32 (i 1).val
  let c256_i32 : BitVec 32 := 256#32
  let v43 : BitVec 32 := Scalar.muli arg1 c256_i32
  let v44 : BitVec 32 := v43
  let v51 : Index := Scalar.indexCast v44
  let c384_22 : Index := 384#32
  ![v51.toNat, 384]
def k0_off21 (i : grid0.Coords) : Fin 3 → Nat :=
  let arg1 : BitVec 32 := BitVec.ofNat 32 (i 1).val
  let v53 : Index := Scalar.indexCast arg1
  let c0_23 : Index := 0#32
  let c0_24 : Index := 0#32
  ![v53.toNat, 0, 0]
def k0_off22 (i : grid0.Coords) : Fin 3 → Nat :=
  let arg1 : BitVec 32 := BitVec.ofNat 32 (i 1).val
  let v56 : Index := Scalar.indexCast arg1
  let c128_25 : Index := 128#32
  let c0_26 : Index := 0#32
  ![v56.toNat, 128, 0]
def k0_off23 (i : grid0.Coords) : Fin 3 → Nat :=
  let arg1 : BitVec 32 := BitVec.ofNat 32 (i 1).val
  let v59 : Index := Scalar.indexCast arg1
  let c256_27 : Index := 256#32
  let c0_28 : Index := 0#32
  ![v59.toNat, 256, 0]
def k0_off24 (i : grid0.Coords) : Fin 3 → Nat :=
  let arg1 : BitVec 32 := BitVec.ofNat 32 (i 1).val
  let v62 : Index := Scalar.indexCast arg1
  let c384_29 : Index := 384#32
  let c0_30 : Index := 0#32
  ![v62.toNat, 384, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S64x512x256 : Shape := ⟨3, ![64, 512, 256]⟩
abbrev S4x64 : Shape := ⟨2, ![4, 64]⟩
abbrev S1x128 : Shape := ⟨2, ![1, 128]⟩
abbrev S_ : Shape := ⟨0, ![]⟩
abbrev S8x2048x4x2x64 : Shape := ⟨5, ![8, 2048, 4, 2, 64]⟩
abbrev S64x256x512 : Shape := ⟨3, ![64, 256, 512]⟩
abbrev S8x2048x4x128 : Shape := ⟨4, ![8, 2048, 4, 128]⟩
abbrev S1x64 : Shape := ⟨2, ![1, 64]⟩
abbrev S64 : Shape := ⟨1, ![64]⟩
abbrev S8x4x2x2048x2048 : Shape := ⟨5, ![8, 4, 2, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S128 : Shape := ⟨1, ![128]⟩
abbrev S1x1x1x128 : Shape := ⟨4, ![1, 1, 1, 128]⟩

abbrev nBuf : Space → Nat
  | .hbm => 92
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S64x512x256, .bf16⟩
  | .hbm, ⟨3, _⟩ => ⟨S4x64, .f32⟩
  | .hbm, ⟨4, _⟩ => ⟨S1x128, .f32⟩
  | .hbm, ⟨5, _⟩ => ⟨S16384x512, .f32⟩
  | .hbm, ⟨6, _⟩ => ⟨S_, .f32⟩
  | .hbm, ⟨7, _⟩ => ⟨S_, .f32⟩
  | .hbm, ⟨8, _⟩ => ⟨S16384x512, .f32⟩
  | .hbm, ⟨9, _⟩ => ⟨S16384x512, .f32⟩
  | .hbm, ⟨10, _⟩ => ⟨S8x2048x4x2x64, .f32⟩
  | .hbm, ⟨11, _⟩ => ⟨S16384x512, .f32⟩
  | .hbm, ⟨12, _⟩ => ⟨S8x2048x4x2x64, .f32⟩
  | .hbm, ⟨13, _⟩ => ⟨S64x512x256, .f32⟩
  | .hbm, ⟨14, _⟩ => ⟨S64x256x512, .f32⟩
  | .hbm, ⟨15, _⟩ => ⟨S8x2048x4x128, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x4x2x2048x2048, .f32⟩
  | .hbm, ⟨36, _⟩ => ⟨S2048, .i32⟩
  | .hbm, ⟨37, _⟩ => ⟨S2048x1, .i32⟩
  | .hbm, ⟨38, _⟩ => ⟨S1x2048, .i32⟩
  | .hbm, ⟨39, _⟩ => ⟨S2048x2048, .i32⟩
  | .hbm, ⟨40, _⟩ => ⟨S2048x2048, .i32⟩
  | .hbm, ⟨41, _⟩ => ⟨S2048x2048, .i1⟩
  | .hbm, ⟨42, _⟩ => ⟨S_, .f32⟩
  | .hbm, ⟨43, _⟩ => ⟨S_, .f32⟩
  | .hbm, ⟨44, _⟩ => ⟨S8x4x2x2048x2048, .i1⟩
  | .hbm, ⟨45, _⟩ => ⟨S8x4x2x2048x2048, .f32⟩
  | .hbm, ⟨46, _⟩ => ⟨S8x4x2x2048x2048, .f32⟩
  | .hbm, ⟨47, _⟩ => ⟨S_, .f32⟩
  | .hbm, ⟨48, _⟩ => ⟨S8x4x2x2048, .f32⟩
  | .hbm, ⟨49, _⟩ => ⟨S_, .f32⟩
  | .hbm, ⟨50, _⟩ => ⟨S8x4x2x2048, .f32⟩
  | .hbm, ⟨51, _⟩ => ⟨S8x4x2x2048, .f32⟩
  | .hbm, ⟨52, _⟩ => ⟨S8x4x2x2048x1, .f32⟩
  | .hbm, ⟨53, _⟩ => ⟨S8x4x2x2048x2048, .f32⟩
  | .hbm, ⟨54, _⟩ => ⟨S8x4x2x2048x2048, .f32⟩
  | .hbm, ⟨55, _⟩ => ⟨S8x4x2x2048x2048, .f32⟩
  | .hbm, ⟨56, _⟩ => ⟨S_, .f32⟩
  | .hbm, ⟨57, _⟩ => ⟨S8x4x2x2048, .f32⟩
  | .hbm, ⟨58, _⟩ => ⟨S8x4x2x2048x1, .f32⟩
  | .hbm, ⟨59, _⟩ => ⟨S8x4x2x2048x2048, .f32⟩
  | .hbm, ⟨60, _⟩ => ⟨S8x4x2x2048x2048, .f32⟩
  | .hbm, ⟨61, _⟩ => ⟨S8x4x1x2048x2048, .f32⟩
  | .hbm, ⟨62, _⟩ => ⟨S8x4x2048x2048, .f32⟩
  | .hbm, ⟨63, _⟩ => ⟨S8x4x1x2048x2048, .f32⟩
  | .hbm, ⟨64, _⟩ => ⟨S8x4x2048x2048, .f32⟩
  | .hbm, ⟨65, _⟩ => ⟨S8x4x2048x2048, .f32⟩
  | .hbm, ⟨66, _⟩ => ⟨S8x4x2048x2048, .f32⟩
  | .hbm, ⟨67, _⟩ => ⟨S8x4x2048x2048, .f32⟩
  | .hbm, ⟨68, _⟩ => ⟨S8x4x128x2048, .f32⟩
  | .hbm, ⟨69, _⟩ => ⟨S8x2048x4x128, .f32⟩
  | .hbm, ⟨70, _⟩ => ⟨S8x2048x4x128, .f32⟩
  | .hbm, ⟨71, _⟩ => ⟨S_, .f32⟩
  | .hbm, ⟨72, _⟩ => ⟨S8x2048x4, .f32⟩
  | .hbm, ⟨73, _⟩ => ⟨S8x2048x4x1, .f32⟩
  | .hbm, ⟨74, _⟩ => ⟨S_, .f32⟩
  | .hbm, ⟨75, _⟩ => ⟨S8x2048x4x1, .f32⟩
  | .hbm, ⟨76, _⟩ => ⟨S8x2048x4x1, .f32⟩
  | .hbm, ⟨77, _⟩ => ⟨S_, .f32⟩
  | .hbm, ⟨78, _⟩ => ⟨S8x2048x4x1, .f32⟩
  | .hbm, ⟨79, _⟩ => ⟨S8x2048x4x1, .f32⟩
  | .hbm, ⟨80, _⟩ => ⟨S8x2048x4x1, .f32⟩
  | .hbm, ⟨81, _⟩ => ⟨S8x2048x4x128, .f32⟩
  | .hbm, ⟨82, _⟩ => ⟨S8x2048x4x128, .f32⟩
  | .hbm, ⟨83, _⟩ => ⟨S128, .f32⟩
  | .hbm, ⟨84, _⟩ => ⟨S1x1x1x128, .f32⟩
  | .hbm, ⟨85, _⟩ => ⟨S8x2048x4x128, .f32⟩
  | .hbm, ⟨86, _⟩ => ⟨S8x2048x4x128, .f32⟩
  | .hbm, ⟨87, _⟩ => ⟨S_, .f32⟩
  | .hbm, ⟨88, _⟩ => ⟨S8x2048x4x128, .f32⟩
  | .hbm, ⟨89, _⟩ => ⟨S8x2048x4x128, .f32⟩
  | .hbm, ⟨90, _⟩ => ⟨S16384x512, .f32⟩
  | .hbm, ⟨91, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Ffn.lean ====
abbrev S16384x1024 : Shape := ⟨2, ![16384, 1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnReferenceIdeal.lean ====
abbrev S16384x1024 : Shape := ⟨2, ![16384, 1024]⟩
abbrev S1024x2816 : Shape := ⟨2, ![1024, 2816]⟩
abbrev S2816x1024 : Shape := ⟨2, ![2816, 1024]⟩
abbrev S1x1024 : Shape := ⟨2, ![1, 1024]⟩
abbrev S16384x2816 : Shape := ⟨2, ![16384, 2816]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Expert.lean ====
abbrev S73 : Shape := ⟨1, ![73]⟩
abbrev S36864x1024 : Shape := ⟨2, ![36864, 1024]⟩
abbrev S2x8x1024x3584 : Shape := ⟨4, ![2, 8, 1024, 3584]⟩
abbrev S2x8x3584x1024 : Shape := ⟨4, ![2, 8, 3584, 1024]⟩
abbrev S512x1024 : Shape := ⟨2, ![512, 1024]⟩
abbrev S1x1x1024x1792 : Shape := ⟨4, ![1, 1, 1024, 1792]⟩
abbrev S1 : Shape := ⟨1, ![1]⟩
abbrev S1x1x1792x1024 : Shape := ⟨4, ![1, 1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 5
  | .vmem => 12
  | .smem => 1
  | _ => 0

abbrev bufTy : (tb : Table) → Fin (tcTables nBuf tb) → BufTy
  | .hbm, ⟨0, _⟩ => ⟨S36864x1024, .f32⟩
  | .hbm, ⟨1, _⟩ => ⟨S2x8x1024x3584, .bf16⟩
  | .hbm, ⟨2, _⟩ => ⟨S2x8x1024x3584, .bf16⟩
  | .hbm, ⟨3, _⟩ => ⟨S2x8x3584x1024, .bf16⟩
  | .hbm, ⟨4, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1792, .bf16⟩
  | .local _ .vmem, ⟨3, _⟩ => ⟨S1x1x1024x1792, .bf16⟩
  | .local _ .vmem, ⟨4, _⟩ => ⟨S1x1x1024x1792, .bf16⟩
  | .local _ .vmem, ⟨5, _⟩ => ⟨S1x1x1024x1792, .bf16⟩
  | .local _ .vmem, ⟨6, _⟩ => ⟨S1x1x1792x1024, .bf16⟩
  | .local _ .vmem, ⟨7, _⟩ => ⟨S1x1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S73, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond5 (i : grid0.Coords) : BitVec 1 :=
  let arg1 : BitVec 32 := BitVec.ofNat 32 (i 1).val
  let c1_i32_25 : BitVec 32 := 1#32
  let v38 : BitVec 1 := Scalar.cmpi .eq arg1 c1_i32_25
  let v39 : BitVec 32 := Scalar.extui v38
  let c0_i32_26 : BitVec 32 := 0#32
  let v40 : BitVec 1 := Scalar.cmpi .ne v39 c0_i32_26
  v40

def k0_cond6 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c1_i32 : BitVec 32 := 1#32
  let v5 : BitVec 1 := Scalar.cmpi .eq arg1 c1_i32
  let v6 : BitVec 1 := Scalar.andi v4 v5
  let v7 : BitVec 32 := Scalar.extui v6
  let c0_i32_0 : BitVec 32 := 0#32
  let v8 : BitVec 1 := Scalar.cmpi .ne v7 c0_i32_0
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S73.size a) (numel1_S1 : S1.numel = 1) (inb_S73_S1_72 : ∀ a, (![72] : Fin 1 → Nat) a + S1.size a ≤ S73.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c72 : Index := 72#32
  let v2 : BitVec 32 := pf.at 0 (Rect.unit (s := S73) ![72] S1.size inb_S73_S1_72) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S73.size a) (numel1_S1 : S1.numel = 1) (inb_S73_S1_72 : ∀ a, (![72] : Fin 1 → Nat) a + S1.size a ≤ S73.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c72 : Index := 72#32
  let v2 : BitVec 32 := pf.at 0 (Rect.unit (s := S73) ![72] S1.size inb_S73_S1_72) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (k0_off1_inb : ∀ i : grid0.Coords, ∀ a, (k0_off1 i) a + S1.size a ≤ S73.size a) (numel1_S1 : S1.numel = 1) (inb_S73_S1_72 : ∀ a, (![72] : Fin 1 → Nat) a + S1.size a ≤ S73.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S73) ![v0.toNat] S1.size (k0_off1_inb i)) numel1_S1
  let c72 : Index := 72#32
  let v2 : BitVec 32 := pf.at 0 (Rect.unit (s := S73) ![72] S1.size inb_S73_S1_72) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertReferenceIdeal.lean ====
abbrev S73 : Shape := ⟨1, ![73]⟩
abbrev S36864x1024 : Shape := ⟨2, ![36864, 1024]⟩
abbrev S2x8x1024x3584 : Shape := ⟨4, ![2, 8, 1024, 3584]⟩
abbrev S2x8x3584x1024 : Shape := ⟨4, ![2, 8, 3584, 1024]⟩
abbrev S72x512x1024 : Shape := ⟨3, ![72, 512, 1024]⟩
abbrev S72 : Shape := ⟨1, ![72]⟩
abbrev S1x8x1024x3584 : Shape := ⟨4, ![1, 8, 1024, 3584]⟩
abbrev S8x1024x3584 : Shape := ⟨3, ![8, 1024, 3584]⟩
abbrev S_ : Shape := ⟨0, ![]⟩
abbrev S72x1 : Shape := ⟨2, ![72, 1]⟩
abbrev S72x1024x3584 : Shape := ⟨3, ![72, 1024, 3584]⟩
abbrev S1x8x3584x1024 : Shape := ⟨4, ![1, 8, 3584, 1024]⟩
abbrev S8x3584x1024 : Shape := ⟨3, ![8, 3584, 1024]⟩
abbrev S72x3584x1024 : Shape := ⟨3, ![72, 3584, 1024]⟩
abbrev S72x512x3584 : Shape := ⟨3, ![72, 512, 3584]⟩
abbrev S1 : Shape := ⟨1, ![1]⟩
abbrev S72x1x1 : Shape := ⟨3, ![72, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S73, .i32⟩
  | .hbm, ⟨1, _⟩ => ⟨S36864x1024, .f32⟩
  | .hbm, ⟨2, _⟩ => ⟨S2x8x1024x3584, .bf16⟩
  | .hbm, ⟨3, _⟩ => ⟨S2x8x1024x3584, .bf16⟩
  | .hbm, ⟨4, _⟩ => ⟨S2x8x3584x1024, .bf16⟩
  | .hbm, ⟨5, _⟩ => ⟨S72x512x1024, .f32⟩
  | .hbm, ⟨6, _⟩ => ⟨S72, .i32⟩
  | .hbm, ⟨7, _⟩ => ⟨S1x8x1024x3584, .bf16⟩
  | .hbm, ⟨8, _⟩ => ⟨S8x1024x3584, .bf16⟩
  | .hbm, ⟨9, _⟩ => ⟨S_, .i32⟩
  | .hbm, ⟨10, _⟩ => ⟨S72, .i32⟩
  | .hbm, ⟨11, _⟩ => ⟨S72, .i1⟩
  | .hbm, ⟨12, _⟩ => ⟨S_, .i32⟩
  | .hbm, ⟨13, _⟩ => ⟨S72, .i32⟩
  | .hbm, ⟨14, _⟩ => ⟨S72, .i32⟩
  | .hbm, ⟨15, _⟩ => ⟨S72, .i32⟩
  | .hbm, ⟨16, _⟩ => ⟨S72x1, .i32⟩
  | .hbm, ⟨17, _⟩ => ⟨S72x1024x3584, .bf16⟩
  | .hbm, ⟨18, _⟩ => ⟨S72x1024x3584, .f32⟩
  | .hbm, ⟨19, _⟩ => ⟨S1x8x1024x3584, .bf16⟩
  | .hbm, ⟨20, _⟩ => ⟨S8x1024x3584, .bf16⟩
  | .hbm, ⟨21, _⟩ => ⟨S_, .i32⟩
  | .hbm, ⟨22, _⟩ => ⟨S72, .i32⟩
  | .hbm, ⟨23, _⟩ => ⟨S72, .i1⟩
  | .hbm, ⟨24, _⟩ => ⟨S_, .i32⟩
  | .hbm, ⟨25, _⟩ => ⟨S72, .i32⟩
  | .hbm, ⟨26, _⟩ => ⟨S72, .i32⟩
  | .hbm, ⟨27, _⟩ => ⟨S72, .i32⟩
  | .hbm, ⟨28, _⟩ => ⟨S72x1, .i32⟩
  | .hbm, ⟨29, _⟩ => ⟨S72x1024x3584, .bf16⟩
  | .hbm, ⟨30, _⟩ => ⟨S72x1024x3584, .f32⟩
  | .hbm, ⟨31, _⟩ => ⟨S1x8x3584x1024, .bf16⟩
  | .hbm, ⟨32, _⟩ => ⟨S8x3584x1024, .bf16⟩
  | .hbm, ⟨33, _⟩ => ⟨S_, .i32⟩
  | .hbm, ⟨34, _⟩ => ⟨S72, .i32⟩
  | .hbm, ⟨35, _⟩ => ⟨S72, .i1⟩
  | .hbm, ⟨36, _⟩ => ⟨S_, .i32⟩
  | .hbm, ⟨37, _⟩ => ⟨S72, .i32⟩
  | .hbm, ⟨38, _⟩ => ⟨S72, .i32⟩
  | .hbm, ⟨39, _⟩ => ⟨S72, .i32⟩
  | .hbm, ⟨40, _⟩ => ⟨S72x1, .i32⟩
  | .hbm, ⟨41, _⟩ => ⟨S72x3584x1024, .bf16⟩
  | .hbm, ⟨42, _⟩ => ⟨S72x3584x1024, .f32⟩
  | .hbm, ⟨43, _⟩ => ⟨S72x512x3584, .f32⟩
  | .hbm, ⟨44, _⟩ => ⟨S72x512x3584, .f32⟩
  | .hbm, ⟨45, _⟩ => ⟨S72x512x3584, .f32⟩
  | .hbm, ⟨46, _⟩ => ⟨S_, .f32⟩
  | .hbm, ⟨47, _⟩ => ⟨S72x512x3584, .f32⟩
  | .hbm, ⟨48, _⟩ => ⟨S72x512x3584, .f32⟩
  | .hbm, ⟨49, _⟩ => ⟨S_, .f32⟩
  | .hbm, ⟨50, _⟩ => ⟨S72x512x3584, .f32⟩
  | .hbm, ⟨51, _⟩ => ⟨S72x512x3584, .f32⟩
  | .hbm, ⟨52, _⟩ => ⟨S72x512x3584, .f32⟩
  | .hbm, ⟨53, _⟩ => ⟨S72x512x3584, .f32⟩
  | .hbm, ⟨54, _⟩ => ⟨S72x512x3584, .f32⟩
  | .hbm, ⟨55, _⟩ => ⟨S72x512x1024, .f32⟩
  | .hbm, ⟨56, _⟩ => ⟨S72, .i32⟩
  | .hbm, ⟨57, _⟩ => ⟨S1, .i32⟩
  | .hbm, ⟨58, _⟩ => ⟨S_, .i32⟩
  | .hbm, ⟨59, _⟩ => ⟨S72, .i32⟩
  | .hbm, ⟨60, _⟩ => ⟨S72, .i1⟩
  | .hbm, ⟨61, _⟩ => ⟨S72x1x1, .i1⟩
  | .hbm, ⟨62, _⟩ => ⟨S_, .f32⟩
  | .hbm, ⟨63, _⟩ => ⟨S_, .f32⟩
  | .hbm, ⟨64, _⟩ => ⟨S72x512x1024, .i1⟩
  | .hbm, ⟨65, _⟩ => ⟨S72x512x1024, .f32⟩
  | .hbm, ⟨66, _⟩ => ⟨S72x512x1024, .f32⟩
  | .hbm, ⟨67, _⟩ => ⟨S36864x1024, .f32⟩
  | _, _ => ⟨S73, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== InProj.lean ====
abbrev S16384x1024 : Shape := ⟨2, ![16384, 1024]⟩
abbrev S4x1024x3592 : Shape := ⟨3, ![4, 1024, 3592]⟩
abbrev S512x1024 : Shape := ⟨2, ![512, 1024]⟩
abbrev S1024x128 : Shape := ⟨2, ![1024, 128]⟩
abbrev S16384x128 : Shape := ⟨2, ![16384, 128]⟩
abbrev S1x128 : Shape := ⟨2, ![1, 128]⟩
abbrev S16384x512 : Shape := ⟨2, ![16384, 512]⟩
abbrev S64x512x256 : Shape := ⟨3, ![64, 512, 256]⟩
abbrev S16384x1536 : Shape := ⟨2, ![16384, 1536]⟩
abbrev S1x1024x512 : Shape := ⟨3, ![1, 1024, 512]⟩
abbrev S1x1024x1536 : Shape := ⟨3, ![1, 1024, 1536]⟩
abbrev S512x128 : Shape := ⟨2, ![512, 128]⟩
abbrev S512x512 : Shape := ⟨2, ![512, 512]⟩
abbrev S2x512x256 : Shape := ⟨3, ![2, 512, 256]⟩
abbrev S512x1536 : Shape := ⟨2, ![512, 1536]⟩
abbrev S1024x512 : Shape := ⟨2, ![1024, 512]⟩
abbrev S256x1024 : Shape := ⟨2, ![256, 1024]⟩
abbrev S512x256 : Shape := ⟨2, ![512, 256]⟩
abbrev S1x512x256 : Shape := ⟨3, ![1, 512, 256]⟩
abbrev S1024x1536 : Shape := ⟨2, ![1024, 1536]⟩

abbrev nBuf : Space → Nat
  | .hbm => 14
  | .vmem => 26
  | .smem => 0
  | _ => 0

abbrev bufTy : (tb : Table) → Fin (tcTables nBuf tb) → BufTy
  | .hbm, ⟨0, _⟩ => ⟨S16384x1024, .bf16⟩
  | .hbm, ⟨1, _⟩ => ⟨S4x1024x3592, .bf16⟩
  | .hbm, ⟨2, _⟩ => ⟨S512x1024, .bf16⟩
  | .hbm, ⟨3, _⟩ => ⟨S1024x128, .bf16⟩
  | .hbm, ⟨4, _⟩ => ⟨S16384x128, .f32⟩
  | .hbm, ⟨5, _⟩ => ⟨S16384x128, .f32⟩
  | .hbm, ⟨6, _⟩ => ⟨S1x128, .f32⟩
  | .hbm, ⟨7, _⟩ => ⟨S1x128, .f32⟩
  | .hbm, ⟨8, _⟩ => ⟨S16384x512, .bf16⟩
  | .hbm, ⟨9, _⟩ => ⟨S16384x512, .bf16⟩
  | .hbm, ⟨10, _⟩ => ⟨S64x512x256, .bf16⟩
  | .hbm, ⟨11, _⟩ => ⟨S16384x1536, .f32⟩
  | .hbm, ⟨12, _⟩ => ⟨S16384x512, .f32⟩
  | .hbm, ⟨13, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S512x1024, .bf16⟩
  | .local _ .vmem, ⟨5, _⟩ => ⟨S1x1024x1536, .bf16⟩
  | .local _ .vmem, ⟨6, _⟩ => ⟨S1x1024x512, .bf16⟩
  | .local _ .vmem, ⟨7, _⟩ => ⟨S1024x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x128, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S2x512x256, .bf16⟩
  | .local _ .vmem, ⟨19, _⟩ => ⟨S2x512x256, .bf16⟩
  | .local _ .vmem, ⟨20, _⟩ => ⟨S512x1536, .f32⟩
  | .local _ .vmem, ⟨21, _⟩ => ⟨S512x1536, .f32⟩
  | .local _ .vmem, ⟨22, _⟩ => ⟨S512x512, .f32⟩
  | .local _ .vmem, ⟨23, _⟩ => ⟨S512x512, .f32⟩
  | .local _ .vmem, ⟨24, _⟩ => ⟨S512x128, .f32⟩
  | .local _ .vmem, ⟨25, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InProjReferenceIdeal.lean ====
abbrev S16384x1024 : Shape := ⟨2, ![16384, 1024]⟩
abbrev S4x1024x3592 : Shape := ⟨3, ![4, 1024, 3592]⟩
abbrev S512x1024 : Shape := ⟨2, ![512, 1024]⟩
abbrev S1024x128 : Shape := ⟨2, ![1024, 128]⟩
abbrev S16384x128 : Shape := ⟨2, ![16384, 128]⟩
abbrev S1x128 : Shape := ⟨2, ![1, 128]⟩
abbrev S1x1024x3592 : Shape := ⟨3, ![1, 1024, 3592]⟩
abbrev S1024x3592 : Shape := ⟨2, ![1024, 3592]⟩
abbrev S16384x3592 : Shape := ⟨2, ![16384, 3592]⟩
abbrev S16384x512 : Shape := ⟨2, ![16384, 512]⟩
abbrev S16384x4x2x64 : Shape := ⟨4, ![16384, 4, 2, 64]⟩
abbrev S16384x1536 : Shape := ⟨2, ![16384, 1536]⟩
abbrev S16384x1x2x64 : Shape := ⟨4, ![16384, 1, 2, 64]⟩
abbrev S16384x4x2x32 : Shape := ⟨4, ![16384, 4, 2, 32]⟩
abbrev S_ : Shape := ⟨0, ![]⟩
abbrev S1024x512 : Shape := ⟨2, ![1024, 512]⟩
abbrev S64x256x512 : Shape := ⟨3, ![64, 256, 512]⟩
abbrev S64x512x256 : Shape := ⟨3, ![64, 512, 256]⟩
abbrev S1x4 : Shape := ⟨2, ![1, 4]⟩
abbrev S16384x4 : Shape := ⟨2, ![16384, 4]⟩
abbrev S16384x124 : Shape := ⟨2, ![16384, 124]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x1024x3592, .bf16⟩
  | .hbm, ⟨2, _⟩ => ⟨S512x1024, .bf16⟩
  | .hbm, ⟨3, _⟩ => ⟨S1024x128, .bf16⟩
  | .hbm, ⟨4, _⟩ => ⟨S16384x128, .f32⟩
  | .hbm, ⟨5, _⟩ => ⟨S16384x128, .f32⟩
  | .hbm, ⟨6, _⟩ => ⟨S1x128, .f32⟩
  | .hbm, ⟨7, _⟩ => ⟨S1x128, .f32⟩
  | .hbm, ⟨8, _⟩ => ⟨S16384x1024, .f32⟩
  | .hbm, ⟨9, _⟩ => ⟨S1x1024x3592, .bf16⟩
  | .hbm, ⟨10, _⟩ => ⟨S1024x3592, .bf16⟩
  | .hbm, ⟨11, _⟩ => ⟨S1024x3592, .f32⟩
  | .hbm, ⟨12, _⟩ => ⟨S16384x3592, .f32⟩
  | .hbm, ⟨13, _⟩ => ⟨S16384x512, .f32⟩
  | .hbm, ⟨14, _⟩ => ⟨S16384x4x2x64, .f32⟩
  | .hbm, ⟨15, _⟩ => ⟨S16384x512, .f32⟩
  | .hbm, ⟨16, _⟩ => ⟨S16384x4x2x64, .f32⟩
  | .hbm, ⟨17, _⟩ => ⟨S16384x1536, .f32⟩
  | .hbm, ⟨18, _⟩ => ⟨S16384x512, .f32⟩
  | .hbm, ⟨19, _⟩ => ⟨S16384x1x2x64, .f32⟩
  | .hbm, ⟨20, _⟩ => ⟨S16384x1x2x64, .f32⟩
  | .hbm, ⟨21, _⟩ => ⟨S16384x4x2x32, .f32⟩
  | .hbm, ⟨22, _⟩ => ⟨S16384x4x2x32, .f32⟩
  | .hbm, ⟨23, _⟩ => ⟨S16384x4x2x64, .f32⟩
  | .hbm, ⟨24, _⟩ => ⟨S16384x4x2x64, .f32⟩
  | .hbm, ⟨25, _⟩ => ⟨S16384x4x2x64, .f32⟩
  | .hbm, ⟨26, _⟩ => ⟨S16384x4x2x64, .f32⟩
  | .hbm, ⟨27, _⟩ => ⟨S16384x4x2x64, .f32⟩
  | .hbm, ⟨28, _⟩ => ⟨S16384x4x2x64, .f32⟩
  | .hbm, ⟨29, _⟩ => ⟨S_, .f32⟩
  | .hbm, ⟨30, _⟩ => ⟨S16384x4x2x64, .f32⟩
  | .hbm, ⟨31, _⟩ => ⟨S16384x4x2x64, .f32⟩
  | .hbm, ⟨32, _⟩ => ⟨S16384x4x2x32, .f32⟩
  | .hbm, ⟨33, _⟩ => ⟨S16384x4x2x32, .f32⟩
  | .hbm, ⟨34, _⟩ => ⟨S16384x4x2x64, .f32⟩
  | .hbm, ⟨35, _⟩ => ⟨S16384x4x2x64, .f32⟩
  | .hbm, ⟨36, _⟩ => ⟨S16384x4x2x64, .f32⟩
  | .hbm, ⟨37, _⟩ => ⟨S16384x4x2x64, .f32⟩
  | .hbm, ⟨38, _⟩ => ⟨S16384x4x2x64, .f32⟩
  | .hbm, ⟨39, _⟩ => ⟨S16384x4x2x64, .f32⟩
  | .hbm, ⟨40, _⟩ => ⟨S512x1024, .f32⟩
  | .hbm, ⟨41, _⟩ => ⟨S1024x512, .f32⟩
  | .hbm, ⟨42, _⟩ => ⟨S16384x512, .f32⟩
  | .hbm, ⟨43, _⟩ => ⟨S64x256x512, .f32⟩
  | .hbm, ⟨44, _⟩ => ⟨S64x512x256, .f32⟩
  | .hbm, ⟨45, _⟩ => ⟨S1024x128, .f32⟩
  | .hbm, ⟨46, _⟩ => ⟨S16384x128, .f32⟩
  | .hbm, ⟨47, _⟩ => ⟨S1x4, .f32⟩
  | .hbm, ⟨48, _⟩ => ⟨S1x4, .f32⟩
  | .hbm, ⟨49, _⟩ => ⟨S16384x4, .f32⟩
  | .hbm, ⟨50, _⟩ => ⟨S1x4, .f32⟩
  | .hbm, ⟨51, _⟩ => ⟨S16384x4, .f32⟩
  | .hbm, ⟨52, _⟩ => ⟨S16384x4, .f32⟩
  | .hbm, ⟨53, _⟩ => ⟨S_, .f32⟩
  | .hbm, ⟨54, _⟩ => ⟨S16384x4, .f32⟩
  | .hbm, ⟨55, _⟩ => ⟨S16384x4, .f32⟩
  | .hbm, ⟨56, _⟩ => ⟨S16384x4, .f32⟩
  | .hbm, ⟨57, _⟩ => ⟨S16384x4, .f32⟩
  | .hbm, ⟨58, _⟩ => ⟨S16384x4, .i1⟩
  | .hbm, ⟨59, _⟩ => ⟨S16384x4, .f32⟩
  | .hbm, ⟨60, _⟩ => ⟨S16384x4, .f32⟩
  | .hbm, ⟨61, _⟩ => ⟨S16384x4, .f32⟩
  | .hbm, ⟨62, _⟩ => ⟨S16384x4, .f32⟩
  | .hbm, ⟨63, _⟩ => ⟨S16384x4, .f32⟩
  | .hbm, ⟨64, _⟩ => ⟨S16384x4, .f32⟩
  | .hbm, ⟨65, _⟩ => ⟨S16384x4, .f32⟩
  | .hbm, ⟨66, _⟩ => ⟨S16384x4, .f32⟩
  | .hbm, ⟨67, _⟩ => ⟨S16384x4, .f32⟩
  | .hbm, ⟨68, _⟩ => ⟨S16384x4, .f32⟩
  | .hbm, ⟨69, _⟩ => ⟨S16384x124, .f32⟩
  | .hbm, ⟨70, _⟩ => ⟨S16384x124, .f32⟩
  | .hbm, ⟨71, _⟩ => ⟨S16384x124, .f32⟩
  | .hbm, ⟨72, _⟩ => ⟨S_, .f32⟩
  | .hbm, ⟨73, _⟩ => ⟨S16384x124, .f32⟩
  | .hbm, ⟨74, _⟩ => ⟨S16384x124, .f32⟩
  | .hbm, ⟨75, _⟩ => ⟨S_, .f32⟩
  | .hbm, ⟨76, _⟩ => ⟨S16384x124, .f32⟩
  | .hbm, ⟨77, _⟩ => ⟨S16384x124, .f32⟩
  | .hbm, ⟨78, _⟩ => ⟨S16384x512, .f32⟩
  | .hbm, ⟨79, _⟩ => ⟨S16384x512, .bf16⟩
  | .hbm, ⟨80, _⟩ => ⟨S16384x512, .f32⟩
  | .hbm, ⟨81, _⟩ => ⟨S16384x512, .bf16⟩
  | .hbm, ⟨82, _⟩ => ⟨S64x512x256, .bf16⟩
  | .hbm, ⟨83, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_0 : Ref sig .tc := ⟨.hbm, 72, rfl⟩
abbrev main_v50 : Ref sig .tc := ⟨.hbm, 73, rfl⟩
abbrev main_v51 : Ref sig .tc := ⟨.hbm, 74, rfl⟩
abbrev main_cst_1 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== OutProj.lean ====
abbrev S16384x512 : Shape := ⟨2, ![16384, 512]⟩
abbrev S16384x1024 : Shape := ⟨2, ![16384, 1024]⟩
abbrev S4x1024x1024 : Shape := ⟨3, ![4, 1024, 1024]⟩
abbrev S1x1024 : Shape := ⟨2, ![1, 1024]⟩
abbrev S512x512 : Shape := ⟨2, ![512, 512]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S4x1024x1024, .bf16⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjReferenceIdeal.lean ====
abbrev S16384x512 : Shape := ⟨2, ![16384, 512]⟩
abbrev S16384x1024 : Shape := ⟨2, ![16384, 1024]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S4x1024x1024, .bf16⟩
  | .hbm, ⟨4, _⟩ => ⟨S1x1024, .f32⟩
  | .hbm, ⟨5, _⟩ => ⟨S1x1024, .f32⟩
  | .hbm, ⟨6, _⟩ => ⟨S16384x1024, .bf16⟩
  | .hbm, ⟨7, _⟩ => ⟨S16384x1024, .f32⟩
  | .hbm, ⟨8, _⟩ => ⟨S1x1024x1024, .bf16⟩
  | .hbm, ⟨9, _⟩ => ⟨S1024x1024, .bf16⟩
  | .hbm, ⟨10, _⟩ => ⟨S1024x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Router.lean ====
abbrev S16384x512 : Shape := ⟨2, ![16384, 512]⟩
abbrev S16384x1024 : Shape := ⟨2, ![16384, 1024]⟩
abbrev S4x1024x1024 : Shape := ⟨3, ![4, 1024, 1024]⟩
abbrev S1x1024 : Shape := ⟨2, ![1, 1024]⟩
abbrev S1024x128 : Shape := ⟨2, ![1024, 128]⟩
abbrev S16384x128 : Shape := ⟨2, ![16384, 128]⟩
abbrev S512x512 : Shape := ⟨2, ![512, 512]⟩
abbrev S512x1024 : Shape := ⟨2, ![512, 1024]⟩
abbrev S1x512x1024 : Shape := ⟨3, ![1, 512, 1024]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 17
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S4x1024x1024, .bf16⟩
  | .hbm, ⟨4, _⟩ => ⟨S1x1024, .f32⟩
  | .hbm, ⟨5, _⟩ => ⟨S1x1024, .f32⟩
  | .hbm, ⟨6, _⟩ => ⟨S1024x128, .f32⟩
  | .hbm, ⟨7, _⟩ => ⟨S16384x1024, .f32⟩
  | .hbm, ⟨8, _⟩ => ⟨S16384x1024, .bf16⟩
  | .hbm, ⟨9, _⟩ => ⟨S16384x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x1024, .f32⟩
  | .local _ .vmem, ⟨9, _⟩ => ⟨S1x1024, .f32⟩
  | .local _ .vmem, ⟨10, _⟩ => ⟨S1024x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x128, .f32⟩
  | .local _ .vmem, ⟨16, _⟩ => ⟨S512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RouterReferenceIdeal.lean ====
abbrev S16384x512 : Shape := ⟨2, ![16384, 512]⟩
abbrev S16384x1024 : Shape := ⟨2, ![16384, 1024]⟩
abbrev S4x1024x1024 : Shape := ⟨3, ![4, 1024, 1024]⟩
abbrev S1x1024 : Shape := ⟨2, ![1, 1024]⟩
abbrev S1024x128 : Shape := ⟨2, ![1024, 128]⟩
abbrev S1x1024x1024 : Shape := ⟨3, ![1, 1024, 1024]⟩
abbrev S1024x1024 : Shape := ⟨2, ![1024, 1024]⟩
abbrev S_ : Shape := ⟨0, ![]⟩
abbrev S1024 : Shape := ⟨1, ![1024]⟩
abbrev S16384 : Shape := ⟨1, ![16384]⟩
abbrev S16384x1 : Shape := ⟨2, ![16384, 1]⟩
abbrev S16384x128 : Shape := ⟨2, ![16384, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S4x1024x1024, .bf16⟩
  | .hbm, ⟨4, _⟩ => ⟨S1x1024, .f32⟩
  | .hbm, ⟨5, _⟩ => ⟨S1x1024, .f32⟩
  | .hbm, ⟨6, _⟩ => ⟨S1024x128, .f32⟩
  | .hbm, ⟨7, _⟩ => ⟨S16384x1024, .bf16⟩
  | .hbm, ⟨8, _⟩ => ⟨S16384x1024, .f32⟩
  | .hbm, ⟨9, _⟩ => ⟨S1x1024x1024, .bf16⟩
  | .hbm, ⟨10, _⟩ => ⟨S1024x1024, .bf16⟩
  | .hbm, ⟨11, _⟩ => ⟨S1024x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .bf16⟩
  | .hbm, ⟨49, _⟩ => ⟨S16384x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Attn.Ref.lean ====
module

public import proofs.«01_k».proof.Proof.Gen.ReferenceIdeal.Run
public import Idealize.ShloMosaic.Lib.Pointwise

/-!
# The reference in stages

The reference's result is one composed term. Here it is written as the stages of its mathematics — scores, softmax,
difference, weighted sum of the values, root mean square — and each stage is read at an index.
-/

@[expose] public section

set_option maxRecDepth 16384

noncomputable section

namespace Cert.Attn.Ref

open Cert.ReferenceIdeal Cert.ReferenceIdeal.Gen Idealize.ShloMosaic Idealize.ShloMosaic.TcCoe

variable {F : FTy → Type} [FloatOps F]

/-- The scores: query `t`'s inner product with key `u`, minus infinity where the key is after the query. -/
def scores (q k : Vec F S16384x512 .bf16) : FVec F S8x4x2x2048x2048 .f32 :=
  select (broadcastInDim S8x4x2x2048x2048 ![3, 4] bcast_S2048x2048_S8x4x2x2048x2048_3_4
      (cmpi .sge (broadcastInDim S2048x2048 ![0, 1] bcast_S2048x1_S2048x2048_0_1 (broadcastInDim S2048x1 ![0] bcast_S2048_S2048x1_0 (iotaInDim S2048 32 0)))
        (broadcastInDim S2048x2048 ![0, 1] bcast_S1x2048_S2048x2048_0_1 (broadcastInDim S1x2048 ![1] bcast_S2048_S1x2048_1 (iotaInDim S2048 32 0)))))
    (Host.dotGeneral dot_S8x2048x4x2x64_S8x2048x4x2x64_S8x4x2x2048x2048_4_4_1_1_023_023 none
      (shapeCast _ (mulf (extf .f32 q bitsLt_bf16_f32) (broadcastInDim S16384x512 ![] bcast_S_S16384x512 (Host.log (constant S_ .f32 0x40000000#32))))
        shapeCasts_S16384x512_S8x2048x4x2x64)
      (shapeCast _ (extf .f32 k bitsLt_bf16_f32) shapeCasts_S16384x512_S8x2048x4x2x64))
    (broadcastInDim S8x4x2x2048x2048 ![] bcast_S_S8x4x2x2048x2048 (id (constant S_ .f32 0xFF800000#32)))

/-- Each query's largest score. -/
def largest (s : FVec F S8x4x2x2048x2048 .f32) : FVec F S8x4x2x2048 .f32 :=
  maximumf (broadcastInDim S8x4x2x2048 ![] bcast_S_S8x4x2x2048 (constant S_ .f32 0xFF800000#32))
    (Host.reduce FloatOps.maximumf s (constant S_ .f32 0xFF800000#32) reducesTo_S8x4x2x2048x2048_S8x4x2x2048_d4 h_S_)

/-- A row value for every key. -/
def overKeys (x : FVec F S8x4x2x2048 .f32) : FVec F S8x4x2x2048x2048 .f32 :=
  broadcastInDim S8x4x2x2048x2048 ![0, 1, 2, 3, 4] bcast_S8x4x2x2048x1_S8x4x2x2048x2048_0_1_2_3_4
    (broadcastInDim S8x4x2x2048x1 ![0, 1, 2, 3] bcast_S8x4x2x2048_S8x4x2x2048x1_0_1_2_3 x)

/-- The exponentials of the scores less the largest. -/
def exps (s : FVec F S8x4x2x2048x2048 .f32) : FVec F S8x4x2x2048x2048 .f32 := Host.exp (subf s (overKeys (largest s)))

/-- The softmax over the keys. -/
def probs (s : FVec F S8x4x2x2048x2048 .f32) : FVec F S8x4x2x2048x2048 .f32 :=
  Host.divf (exps s) (overKeys (Host.reduceAdd (exps s) (constant S_ .f32 0x00000000#32) reducesTo_S8x4x2x2048x2048_S8x4x2x2048_d4 h_S_))

/-- The factor of the second softmax. -/
def lam (lamv : Vec F S4x64 .f32) : FVec F S_ .f32 :=
  addf (subf
    (Host.exp (Host.reduceAdd (mulf (shapeCast _ (extractStridedSlice S1x64 ![0, 0] lamv slices_S4x64_S1x64_0_0) shapeCasts_S1x64_S64)
      (shapeCast _ (extractStridedSlice S1x64 ![1, 0] lamv slices_S4x64_S1x64_1_0) shapeCasts_S1x64_S64)) (constant S_ .f32 0x00000000#32) reducesTo_S64_S_d0 h_S_))
    (Host.exp (Host.reduceAdd (mulf (shapeCast _ (extractStridedSlice S1x64 ![2, 0] lamv slices_S4x64_S1x64_2_0) shapeCasts_S1x64_S64)
      (shapeCast _ (extractStridedSlice S1x64 ![3, 0] lamv slices_S4x64_S1x64_3_0) shapeCasts_S1x64_S64)) (constant S_ .f32 0x00000000#32) reducesTo_S64_S_d0 h_S_)))
    (constant S_ .f32 0x3E4CCCCD#32)

/-- The first softmax less the second times its factor. -/
def diff (p : FVec F S8x4x2x2048x2048 .f32) (l : FVec F S_ .f32) : FVec F S8x4x2048x2048 .f32 :=
  subf (shapeCast _ (extractStridedSlice S8x4x1x2048x2048 ![0, 0, 0, 0, 0] p slices_S8x4x2x2048x2048_S8x4x1x2048x2048_0_0_0_0_0) shapeCasts_S8x4x1x2048x2048_S8x4x2048x2048)
    (mulf (broadcastInDim S8x4x2048x2048 ![] bcast_S_S8x4x2048x2048 l)
      (shapeCast _ (extractStridedSlice S8x4x1x2048x2048 ![0, 0, 1, 0, 0] p slices_S8x4x2x2048x2048_S8x4x1x2048x2048_0_0_1_0_0) shapeCasts_S8x4x1x2048x2048_S8x4x2048x2048))

/-- The weighted sum of the values. -/
def mixed (vt : Vec F S64x512x256 .bf16) (d : FVec F S8x4x2048x2048 .f32) : FVec F S8x2048x4x128 .f32 :=
  transpose S8x2048x4x128 [0, 3, 1, 2]
    (Host.dotGeneral dot_S8x2048x4x128_S8x4x2048x2048_S8x4x128x2048_1_3_3_2_02_01 none
      (shapeCast _ (transpose S64x256x512 [0, 2, 1] (extf .f32 vt bitsLt_bf16_f32) transposes_S64x512x256_S64x256x512_0_2_1) shapeCasts_S64x256x512_S8x2048x4x128)
      d) transposes_S8x4x128x2048_S8x2048x4x128_0_3_1_2

/-- The root mean square of each head made one, times the weights and a constant. -/
def normed (o : FVec F S8x2048x4x128 .f32) (w : Vec F S1x128 .f32) : FVec F S16384x512 .bf16 :=
  truncf .bf16 (shapeCast _ (mulf (mulf (mulf o
      (broadcastInDim S8x2048x4x128 ![0, 1, 2, 3] bcast_S8x2048x4x1_S8x2048x4x128_0_1_2_3
        (Host.rsqrt (addf (Host.divf (broadcastInDim S8x2048x4x1 ![0, 1, 2] bcast_S8x2048x4_S8x2048x4x1_0_1_2
            (Host.reduceAdd (mulf o o) (constant S_ .f32 0x00000000#32) reducesTo_S8x2048x4x128_S8x2048x4_d3 h_S_))
          (broadcastInDim S8x2048x4x1 ![] bcast_S_S8x2048x4x1 (constant S_ .f32 0x43000000#32)))
          (broadcastInDim S8x2048x4x1 ![] bcast_S_S8x2048x4x1 (constant S_ .f32 0x358637BD#32))))))
      (broadcastInDim S8x2048x4x128 ![0, 1, 2, 3] bcast_S1x1x1x128_S8x2048x4x128_0_1_2_3 (broadcastInDim S1x1x1x128 ![3] bcast_S128_S1x1x1x128_3 (shapeCast _ w shapeCasts_S1x128_S128))))
      (broadcastInDim S8x2048x4x128 ![] bcast_S_S8x2048x4x128 (constant S_ .f32 0x3F4CCCCD#32))) shapeCasts_S8x2048x4x128_S16384x512) bitsLt_bf16_f32

/-- The reference's result from its five arguments. -/
def result (q k : Vec F S16384x512 .bf16) (vt : Vec F S64x512x256 .bf16) (lamv : Vec F S4x64 .f32) (w : Vec F S1x128 .f32) : FVec F S16384x512 .bf16 :=
  normed (mixed vt (diff (probs (scores q k)) (lam lamv))) w

theorem res_eq (m : (ℓ : Loc nD τ sig) → Buf (Elt F) ℓ) (c : Dev nD) :
    Cert.ReferenceIdeal.Value.res_main_v71 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.Attn.Ref
end
-- ==== Proof.Attn.Step.lean ====
module

public import proofs.«01_k».proof.Proof.Gen.KernelIdeal.Value

/-!
# The attention kernel's body as eight copies of one step

The body carries, for each of the eight (head, component) pairs, the running maximum, the running
denominator and the running numerator of a softmax over the keys. One step takes a tile of 256 keys
and updates the three. This module states what one trip of the kernel's loop does, and what the body
writes, by that one step.
-/

@[expose] public section

set_option maxRecDepth 16384

noncomputable section

namespace Cert.Attn

open Idealize.ShloMosaic Cert.KernelIdeal Cert.KernelIdeal.Gen
open Idealize.ShloMosaic.Pipeline (Dat Cfg Window BodyObligation cellOf)

variable {F : FTy → Type} [FloatOps F] [Named F]

/-- What is carried of one softmax: its running maximum, denominator and numerator. -/
abbrev St (F : FTy → Type) := FVec F S1x256 .f32 × FVec F S1x256 .f32 × FVec F S128x256 .f32

/-- What the loop carries: the eight softmaxes' states. -/
abbrev Carry (F : FTy → Type) := FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32

/-- The eight states as the loop carries them. -/
def pack (t : Fin 8 → St F) : Carry F :=
  ((t 0).1, (t 0).2.1, (t 0).2.2, (t 1).1, (t 1).2.1, (t 1).2.2, (t 2).1, (t 2).2.1, (t 2).2.2, (t 3).1, (t 3).2.1, (t 3).2.2, (t 4).1, (t 4).2.1, (t 4).2.2, (t 5).1, (t 5).2.1, (t 5).2.2, (t 6).1, (t 6).2.1, (t 6).2.2, (t 7).1, (t 7).2.1, (t 7).2.2)

/-- State `j` of the eight. -/
def part (a : Carry F) (j : Fin 8) : St F :=
  (![(a.1, a.2.1, a.2.2.1), (a.2.2.2.1, a.2.2.2.2.1, a.2.2.2.2.2.1), (a.2.2.2.2.2.2.1, a.2.2.2.2.2.2.2.1, a.2.2.2.2.2.2.2.2.1), (a.2.2.2.2.2.2.2.2.2.1, a.2.2.2.2.2.2.2.2.2.2.1, a.2.2.2.2.2.2.2.2.2.2.2.1), (a.2.2.2.2.2.2.2.2.2.2.2.2.1, a.2.2.2.2.2.2.2.2.2.2.2.2.2.1, a.2.2.2.2.2.2.2.2.2.2.2.2.2.2.1), (a.2.2.2.2.2.2.2.2.2.2.2.2.2.2.2.1, a.2.2.2.2.2.2.2.2.2.2.2.2.2.2.2.2.1, a.2.2.2.2.2.2.2.2.2.2.2.2.2.2.2.2.2.1), (a.2.2.2.2.2.2.2.2.2.2.2.2.2.2.2.2.2.2.1, a.2.2.2.2.2.2.2.2.2.2.2.2.2.2.2.2.2.2.2.1, a.2.2.2.2.2.2.2.2.2.2.2.2.2.2.2.2.2.2.2.2.1), (a.2.2.2.2.2.2.2.2.2.2.2.2.2.2.2.2.2.2.2.2.2.1, a.2.2.2.2.2.2.2.2.2.2.2.2.2.2.2.2.2.2.2.2.2.2.1, a.2.2.2.2.2.2.2.2.2.2.2.2.2.2.2.2.2.2.2.2.2.2.2)] : Fin 8 → St F) j

theorem part_pack (t : Fin 8 → St F) (j : Fin 8) : part (pack t) j = t j := by
  fin_cases j <;> rfl

/-- The head that component `j` of the eight belongs to. -/
def headOf (j : Fin 8) : Fin 4 := ⟨j.val / 2, by omega⟩

/-- The scores of a tile of keys `kk` against the queries `q`: one row per key. -/
def score (q kk : Vec F S256x128 .bf16) : FVec F S256x256 .f32 :=
  matmul dot_S256x128_S256x128_S256x256_1_1_0_0_n_n none kk q (constant S256x256 .f32 0x00000000#32)

/-- The scores of the tile on the diagonal: a key after the query has the mask's value. -/
def mscore (q kk : Vec F S256x128 .bf16) : FVec F S256x256 .f32 :=
  select (cmpi .sge (iota .tc S256x256 32 [1] iota_S256x256_d1_w32) (iota .tc S256x256 32 [0] iota_S256x256_d0_w32))
    (score q kk) (broadcast S256x256 (Named.named κ "mask" 0xF149F2CA#32 : F .f32))

/-- The maximum after a tile with the scores `s`. -/
def newMax (s : FVec F S256x256 .f32) (m : FVec F S1x256 .f32) : FVec F S1x256 .f32 :=
  maximumf m (shapeCast S1x256 (multiReduction .maximumf [0] S256 s 0xFF800000#32 reduces_S256x256_S256 (.inl rfl) rfl)
    shapeCasts_S256_S1x256)

/-- The powers of two of the scores less the maximum. -/
def powers (s : FVec F S256x256 .f32) (m' : FVec F S1x256 .f32) : FVec F S256x256 .f32 :=
  exp2 (subf s (broadcastTo S256x256 m' broadcasts_S1x256_S256x256))

/-- The denominator after a tile. -/
def newSum (p : FVec F S256x256 .f32) (a l : FVec F S1x256 .f32) : FVec F S1x256 .f32 :=
  addf (mulf a l) (shapeCast S1x256 (multiReduction .add [0] S256 p 0x00000000#32 reduces_S256x256_S256 (.inl rfl) rfl)
    shapeCasts_S256_S1x256)

/-- The numerator after a tile with the values `vt`, one column per key. -/
def newAcc (vt : FVec F S128x256 .bf16) (p : FVec F S256x256 .f32) (a : FVec F S1x256 .f32) (acc : FVec F S128x256 .f32) :
    FVec F S128x256 .f32 :=
  addf (mulf (broadcastTo S128x256 a broadcasts_S1x256_S128x256) acc)
    (matmul dot_S128x256_S256x256_S128x256_1_0_0_1_n_n none vt (truncf .bf16 p bitsLt_bf16_f32)
      (constant S128x256 .f32 0x00000000#32))

/-- One softmax's state after a tile with the scores `s` and the values `vt`. -/
def step (s : FVec F S256x256 .f32) (vt : FVec F S128x256 .bf16) (t : St F) : St F :=
  (newMax s t.1,
    newSum (powers s (newMax s t.1)) (exp2 (subf t.1 (newMax s t.1))) t.2.1,
    newAcc vt (powers s (newMax s t.1)) (exp2 (subf t.1 (newMax s t.1))) t.2.2)

/-- The state before the first tile. -/
def init : St F := (k0_pay117, k0_pay118, k0_pay119 (FloatOps.ofBits .f32 0#32))

/-- Head `h`'s tile of keys in trip `k`. -/
def keysAt (i : grid0.Coords) (arg3 : Memref sig .tc .vmem S2048x512 .bf16) (X3 : BufTy.Contents (Elt F) arg3.view.ty) (k : Fin (k0_t1_loop i).trips) (h : Fin 4) : Vec F S256x128 .bf16 :=
  (![View.readAt (Elt F) arg3.view (Rect.unit (s := S2048x512) (k0_off1 i k) S256x128.size (k0_off1_inb i k)).toLoadRect X3, View.readAt (Elt F) arg3.view (Rect.unit (s := S2048x512) (k0_off2 i k) S256x128.size (k0_off2_inb i k)).toLoadRect X3, View.readAt (Elt F) arg3.view (Rect.unit (s := S2048x512) (k0_off3 i k) S256x128.size (k0_off3_inb i k)).toLoadRect X3, View.readAt (Elt F) arg3.view (Rect.unit (s := S2048x512) (k0_off4 i k) S256x128.size (k0_off4_inb i k)).toLoadRect X3] : Fin 4 → Vec F S256x128 .bf16) h

/-- Head `h`'s tile of values in trip `k`, one column per key. -/
def valuesAt (i : grid0.Coords) (arg4 : Memref sig .tc .vmem S8x512x256 .bf16) (X4 : BufTy.Contents (Elt F) arg4.view.ty) (k : Fin (k0_t1_loop i).trips) (h : Fin 4) : FVec F S128x256 .bf16 :=
  shapeCast S128x256 ((![View.readAt (Elt F) arg4.view (Rect.unit (s := S8x512x256) (k0_off5 i k) S1x128x256.size (k0_off5_inb i k)).toLoadRect X4, View.readAt (Elt F) arg4.view (Rect.unit (s := S8x512x256) (k0_off6 i k) S1x128x256.size (k0_off6_inb i k)).toLoadRect X4, View.readAt (Elt F) arg4.view (Rect.unit (s := S8x512x256) (k0_off7 i k) S1x128x256.size (k0_off7_inb i k)).toLoadRect X4, View.readAt (Elt F) arg4.view (Rect.unit (s := S8x512x256) (k0_off8 i k) S1x128x256.size (k0_off8_inb i k)).toLoadRect X4] : Fin 4 → Vec F S1x128x256 .bf16) h) shapeCasts_S1x128x256_S128x256

/-- Head `h`'s tile of keys on the diagonal. -/
def lastKeys (i : grid0.Coords) (arg3 : Memref sig .tc .vmem S2048x512 .bf16) (X3 : BufTy.Contents (Elt F) arg3.view.ty) (h : Fin 4) : Vec F S256x128 .bf16 :=
  (![View.readAt (Elt F) arg3.view (Rect.unit (s := S2048x512) (k0_off17 i) S256x128.size (k0_off17_inb i)).toLoadRect X3, View.readAt (Elt F) arg3.view (Rect.unit (s := S2048x512) (k0_off18 i) S256x128.size (k0_off18_inb i)).toLoadRect X3, View.readAt (Elt F) arg3.view (Rect.unit (s := S2048x512) (k0_off19 i) S256x128.size (k0_off19_inb i)).toLoadRect X3, View.readAt (Elt F) arg3.view (Rect.unit (s := S2048x512) (k0_off20 i) S256x128.size (k0_off20_inb i)).toLoadRect X3] : Fin 4 → Vec F S256x128 .bf16) h

/-- Head `h`'s tile of values on the diagonal. -/
def lastValues (i : grid0.Coords) (arg4 : Memref sig .tc .vmem S8x512x256 .bf16) (X4 : BufTy.Contents (Elt F) arg4.view.ty) (h : Fin 4) : FVec F S128x256 .bf16 :=
  shapeCast S128x256 ((![View.readAt (Elt F) arg4.view (Rect.unit (s := S8x512x256) (k0_off21 i) S1x128x256.size (k0_off21_inb i)).toLoadRect X4, View.readAt (Elt F) arg4.view (Rect.unit (s := S8x512x256) (k0_off22 i) S1x128x256.size (k0_off22_inb i)).toLoadRect X4, View.readAt (Elt F) arg4.view (Rect.unit (s := S8x512x256) (k0_off23 i) S1x128x256.size (k0_off23_inb i)).toLoadRect X4, View.readAt (Elt F) arg4.view (Rect.unit (s := S8x512x256) (k0_off24 i) S1x128x256.size (k0_off24_inb i)).toLoadRect X4] : Fin 4 → Vec F S1x128x256 .bf16) h) shapeCasts_S1x128x256_S128x256

/-- One trip of the loop is one step of each of the eight softmaxes, on the tile of keys and of values the trip reads. -/
theorem trip_eq (𝒱 : Variants) (c : Dev nD) (bd : Option 𝒱.V) (i : grid0.Coords) (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S256x512 .bf16) (harg7 : arg7.IsWhole)
    (v5 v8 v13 v16 v21 v24 v29 v32 : Vec F S256x128 .bf16) (v33 v34 : FVec F S1x256 .f32) (v35 : FVec F S128x256 .f32) (c0 c1 : BitVec 32)
    (X3 : BufTy.Contents (Elt F) arg3.view.ty) (X4 : BufTy.Contents (Elt F) arg4.view.ty) (k : Fin (k0_t1_loop i).trips) (acc : Carry F) :
    tripR_k0_t1 (F := F) 𝒱 c bd i arg2 harg2 arg3 harg3 arg4 harg4 arg5 harg5 arg6 harg6 arg7 harg7 v5 v8 v13 v16 v21 v24 v29 v32 v33 v34 v35 c0 c1 X3 X4 k acc
      = pack fun j => step
          (score ((![v5, v8, v13, v16, v21, v24, v29, v32] : Fin 8 → Vec F S256x128 .bf16) j)
            (keysAt i arg3 X3 k (headOf j)))
          (valuesAt i arg4 X4 k (headOf j))
          (part acc j) := by
  unfold tripR_k0_t1 trip_k0_t1
  rfl

variable (c : Dev nD) (i : grid0.Coords) (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S256x512 .bf16) (harg7 : arg7.IsWhole)
    (x0 : Vec F S256x512 .bf16) (x1 : Vec F S2048x512 .bf16) (x2 : Vec F S8x512x256 .bf16)

/-- Head `h` of the block of queries. -/
def qhead (h : Fin 4) : Vec F S256x128 .bf16 :=
  (![View.readAt (Elt F) arg2.view (Rect.unit (s := S256x512) ![0, 0] S256x128.size inb_S256x512_S256x128_0_0).toLoadRect (harg2.unread x0), View.readAt (Elt F) arg2.view (Rect.unit (s := S256x512) ![0, 128] S256x128.size inb_S256x512_S256x128_0_128).toLoadRect (harg2.unread x0), View.readAt (Elt F) arg2.view (Rect.unit (s := S256x512) ![0, 256] S256x128.size inb_S256x512_S256x128_0_256).toLoadRect (harg2.unread x0), View.readAt (Elt F) arg2.view (Rect.unit (s := S256x512) ![0, 384] S256x128.size inb_S256x512_S256x128_0_384).toLoadRect (harg2.unread x0)] : Fin 4 → Vec F S256x128 .bf16) h

/-- The lanes of a head that belong to component `b` of its two, the other lanes zero. -/
def qlanes (b : Fin 2) (q : Vec F S256x128 .bf16) : Vec F S256x128 .bf16 :=
  (![k0_pay106 q, k0_pay107 q] : Fin 2 → Vec F S256x128 .bf16) b

/-- The queries of component `j`. -/
def qm (j : Fin 8) : Vec F S256x128 .bf16 :=
  (![kernelRun0_A.sl.r c arg2 harg2 x0, kernelRun0_A.sl.r_1 c arg2 harg2 x0, kernelRun0_A.sl.r_2 c arg2 harg2 x0, kernelRun0_A.sl.r_3 c arg2 harg2 x0, kernelRun0_A.sl.r_4 c arg2 harg2 x0, kernelRun0_A.sl.r_5 c arg2 harg2 x0, kernelRun0_A.sl.r_6 c arg2 harg2 x0, kernelRun0_A.sl.r_7 c arg2 harg2 x0] : Fin 8 → Vec F S256x128 .bf16) j

theorem qm_eq (j : Fin 8) : qm c arg2 harg2 x0 j = qlanes ⟨j.val % 2, by omega⟩ (qhead arg2 harg2 x0 (headOf j)) := by
  fin_cases j <;> rfl

/-- The eight states after `k` trips of the loop. -/
def loopState (k : ℕ) : Carry F :=
  st_k0_t1 (F := F) Variants.none c none i arg2 harg2 arg3 harg3 arg4 harg4 arg5 harg5 arg6 harg6 arg7 harg7
    (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c arg2 harg2 x0) (kernelRun0_A.sl.r_7 c arg2 harg2 x0)
    k0_pay117 k0_pay118 (k0_pay119 (FloatOps.ofBits .f32 0#32)) 0#32 1#32 (harg3.unread x1) (harg4.unread x2) (pack fun _ => init) k

/-- The eight states after both loops: the second continues the first. -/
def loopsState : Carry F :=
  st_k0_t2 (F := F) Variants.none c none i arg2 harg2 arg3 harg3 arg4 harg4 arg5 harg5 arg6 harg6 arg7 harg7
    (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c arg2 harg2 x0) (kernelRun0_A.sl.r_7 c arg2 harg2 x0) (kernelRun0_A.sl.v40 i)
    (kernelRun0_A.sl.r_9 c i arg2 harg2 arg3 harg3 arg4 harg4 arg5 harg5 arg6 harg6 arg7 harg7 x0 x1 x2) (kernelRun0_A.sl.r_10 c i arg2 harg2 arg3 harg3 arg4 harg4 arg5 harg5 arg6 harg6 arg7 harg7 x0 x1 x2) (kernelRun0_A.sl.r_11 c i arg2 harg2 arg3 harg3 arg4 harg4 arg5 harg5 arg6 harg6 arg7 harg7 x0 x1 x2) (kernelRun0_A.sl.r_12 c i arg2 harg2 arg3 harg3 arg4 harg4 arg5 harg5 arg6 harg6 arg7 harg7 x0 x1 x2) (kernelRun0_A.sl.r_13 c i arg2 harg2 arg3 harg3 arg4 harg4 arg5 harg5 arg6 harg6 arg7 harg7 x0 x1 x2) (kernelRun0_A.sl.r_14 c i arg2 harg2 arg3 harg3 arg4 harg4 arg5 harg5 arg6 harg6 arg7 harg7 x0 x1 x2) (kernelRun0_A.sl.r_15 c i arg2 harg2 arg3 harg3 arg4 harg4 arg5 harg5 arg6 harg6 arg7 harg7 x0 x1 x2) (kernelRun0_A.sl.r_16 c i arg2 harg2 arg3 harg3 arg4 harg4 arg5 harg5 arg6 harg6 arg7 harg7 x0 x1 x2) (kernelRun0_A.sl.r_17 c i arg2 harg2 arg3 harg3 arg4 harg4 arg5 harg5 arg6 harg6 arg7 harg7 x0 x1 x2) (kernelRun0_A.sl.r_18 c i arg2 harg2 arg3 harg3 arg4 harg4 arg5 harg5 arg6 harg6 arg7 harg7 x0 x1 x2) (kernelRun0_A.sl.r_19 c i arg2 harg2 arg3 harg3 arg4 harg4 arg5 harg5 arg6 harg6 arg7 harg7 x0 x1 x2) (kernelRun0_A.sl.r_20 c i arg2 harg2 arg3 harg3 arg4 harg4 arg5 harg5 arg6 harg6 arg7 harg7 x0 x1 x2) (kernelRun0_A.sl.r_21 c i arg2 harg2 arg3 harg3 arg4 harg4 arg5 harg5 arg6 harg6 arg7 harg7 x0 x1 x2) (kernelRun0_A.sl.r_22 c i arg2 harg2 arg3 harg3 arg4 harg4 arg5 harg5 arg6 harg6 arg7 harg7 x0 x1 x2) (kernelRun0_A.sl.r_23 c i arg2 harg2 arg3 harg3 arg4 harg4 arg5 harg5 arg6 harg6 arg7 harg7 x0 x1 x2) (kernelRun0_A.sl.r_24 c i arg2 harg2 arg3 harg3 arg4 harg4 arg5 harg5 arg6 harg6 arg7 harg7 x0 x1 x2) (kernelRun0_A.sl.r_25 c i arg2 harg2 arg3 harg3 arg4 harg4 arg5 harg5 arg6 harg6 arg7 harg7 x0 x1 x2) (kernelRun0_A.sl.r_26 c i arg2 harg2 arg3 harg3 arg4 harg4 arg5 harg5 arg6 harg6 arg7 harg7 x0 x1 x2) (kernelRun0_A.sl.r_27 c i arg2 harg2 arg3 harg3 arg4 harg4 arg5 harg5 arg6 harg6 arg7 harg7 x0 x1 x2) (kernelRun0_A.sl.r_28 c i arg2 harg2 arg3 harg3 arg4 harg4 arg5 harg5 arg6 harg6 arg7 harg7 x0 x1 x2) (kernelRun0_A.sl.r_29 c i arg2 harg2 arg3 harg3 arg4 harg4 arg5 harg5 arg6 harg6 arg7 harg7 x0 x1 x2) (kernelRun0_A.sl.r_30 c i arg2 harg2 arg3 harg3 arg4 harg4 arg5 harg5 arg6 harg6 arg7 harg7 x0 x1 x2) (kernelRun0_A.sl.r_31 c i arg2 harg2 arg3 harg3 arg4 harg4 arg5 harg5 arg6 harg6 arg7 harg7 x0 x1 x2) (kernelRun0_A.sl.r_32 c i arg2 harg2 arg3 harg3 arg4 harg4 arg5 harg5 arg6 harg6 arg7 harg7 x0 x1 x2)
    1#32 (harg3.unread x1) (harg4.unread x2) ((kernelRun0_A.sl.r_9 c i arg2 harg2 arg3 harg3 arg4 harg4 arg5 harg5 arg6 harg6 arg7 harg7 x0 x1 x2), (kernelRun0_A.sl.r_10 c i arg2 harg2 arg3 harg3 arg4 harg4 arg5 harg5 arg6 harg6 arg7 harg7 x0 x1 x2), (kernelRun0_A.sl.r_11 c i arg2 harg2 arg3 harg3 arg4 harg4 arg5 harg5 arg6 harg6 arg7 harg7 x0 x1 x2), (kernelRun0_A.sl.r_12 c i arg2 harg2 arg3 harg3 arg4 harg4 arg5 harg5 arg6 harg6 arg7 harg7 x0 x1 x2), (kernelRun0_A.sl.r_13 c i arg2 harg2 arg3 harg3 arg4 harg4 arg5 harg5 arg6 harg6 arg7 harg7 x0 x1 x2), (kernelRun0_A.sl.r_14 c i arg2 harg2 arg3 harg3 arg4 harg4 arg5 harg5 arg6 harg6 arg7 harg7 x0 x1 x2), (kernelRun0_A.sl.r_15 c i arg2 harg2 arg3 harg3 arg4 harg4 arg5 harg5 arg6 harg6 arg7 harg7 x0 x1 x2), (kernelRun0_A.sl.r_16 c i arg2 harg2 arg3 harg3 arg4 harg4 arg5 harg5 arg6 harg6 arg7 harg7 x0 x1 x2), (kernelRun0_A.sl.r_17 c i arg2 harg2 arg3 harg3 arg4 harg4 arg5 harg5 arg6 harg6 arg7 harg7 x0 x1 x2), (kernelRun0_A.sl.r_18 c i arg2 harg2 arg3 harg3 arg4 harg4 arg5 harg5 arg6 harg6 arg7 harg7 x0 x1 x2), (kernelRun0_A.sl.r_19 c i arg2 harg2 arg3 harg3 arg4 harg4 arg5 harg5 arg6 harg6 arg7 harg7 x0 x1 x2), (kernelRun0_A.sl.r_20 c i arg2 harg2 arg3 harg3 arg4 harg4 arg5 harg5 arg6 harg6 arg7 harg7 x0 x1 x2), (kernelRun0_A.sl.r_21 c i arg2 harg2 arg3 harg3 arg4 harg4 arg5 harg5 arg6 harg6 arg7 harg7 x0 x1 x2), (kernelRun0_A.sl.r_22 c i arg2 harg2 arg3 harg3 arg4 harg4 arg5 harg5 arg6 harg6 arg7 harg7 x0 x1 x2), (kernelRun0_A.sl.r_23 c i arg2 harg2 arg3 harg3 arg4 harg4 arg5 harg5 arg6 harg6 arg7 harg7 x0 x1 x2), (kernelRun0_A.sl.r_24 c i arg2 harg2 arg3 harg3 arg4 harg4 arg5 harg5 arg6 harg6 arg7 harg7 x0 x1 x2), (kernelRun0_A.sl.r_25 c i arg2 harg2 arg3 harg3 arg4 harg4 arg5 harg5 arg6 harg6 arg7 harg7 x0 x1 x2), (kernelRun0_A.sl.r_26 c i arg2 harg2 arg3 harg3 arg4 harg4 arg5 harg5 arg6 harg6 arg7 harg7 x0 x1 x2), (kernelRun0_A.sl.r_27 c i arg2 harg2 arg3 harg3 arg4 harg4 arg5 harg5 arg6 harg6 arg7 harg7 x0 x1 x2), (kernelRun0_A.sl.r_28 c i arg2 harg2 arg3 harg3 arg4 harg4 arg5 harg5 arg6 harg6 arg7 harg7 x0 x1 x2), (kernelRun0_A.sl.r_29 c i arg2 harg2 arg3 harg3 arg4 harg4 arg5 harg5 arg6 harg6 arg7 harg7 x0 x1 x2), (kernelRun0_A.sl.r_30 c i arg2 harg2 arg3 harg3 arg4 harg4 arg5 harg5 arg6 harg6 arg7 harg7 x0 x1 x2), (kernelRun0_A.sl.r_31 c i arg2 harg2 arg3 harg3 arg4 harg4 arg5 harg5 arg6 harg6 arg7 harg7 x0 x1 x2), (kernelRun0_A.sl.r_32 c i arg2 harg2 arg3 harg3 arg4 harg4 arg5 harg5 arg6 harg6 arg7 harg7 x0 x1 x2)) (k0_t2_loop i).trips

/-- A head's result from the denominators and numerators of its two softmaxes: the quotients' difference, its root
    mean square made one, times the weights, one row per query. -/
def headOut (t u : FVec F S1x256 .f32 × FVec F S128x256 .f32) (lamv : Vec F S4x64 .f32) (w : Vec F S1x128 .f32) :
    FVec F S256x128 .bf16 :=
  k0_pay204 t.1 u.1 t.2 u.2 lamv w

/-- State `j` after the tile on the diagonal. -/
def lastState (j : Fin 8) : St F :=
  step
    (mscore (qm c arg2 harg2 x0 j)
      (lastKeys i arg3 (harg3.unread x1) (headOf j)))
    (lastValues i arg4 (harg4.unread x2) (headOf j))
    (part (loopsState c i arg2 harg2 arg3 harg3 arg4 harg4 arg5 harg5 arg6 harg6 arg7 harg7 x0 x1 x2) j)

/-- The denominators and numerators the body has for its eight softmaxes. -/
def bodyState (j : Fin 8) : FVec F S1x256 .f32 × FVec F S128x256 .f32 :=
  (![(kernelRun0_A.sl.r_101 c i arg2 harg2 arg3 harg3 arg4 harg4 arg5 harg5 arg6 harg6 arg7 harg7 x0 x1 x2, kernelRun0_A.sl.r_113 c i arg2 harg2 arg3 harg3 arg4 harg4 arg5 harg5 arg6 harg6 arg7 harg7 x0 x1 x2), (kernelRun0_A.sl.r_102 c i arg2 harg2 arg3 harg3 arg4 harg4 arg5 harg5 arg6 harg6 arg7 harg7 x0 x1 x2, kernelRun0_A.sl.r_114 c i arg2 harg2 arg3 harg3 arg4 harg4 arg5 harg5 arg6 harg6 arg7 harg7 x0 x1 x2), (kernelRun0_A.sl.r_103 c i arg2 harg2 arg3 harg3 arg4 harg4 arg5 harg5 arg6 harg6 arg7 harg7 x0 x1 x2, kernelRun0_A.sl.r_115 c i arg2 harg2 arg3 harg3 arg4 harg4 arg5 harg5 arg6 harg6 arg7 harg7 x0 x1 x2), (kernelRun0_A.sl.r_104 c i arg2 harg2 arg3 harg3 arg4 harg4 arg5 harg5 arg6 harg6 arg7 harg7 x0 x1 x2, kernelRun0_A.sl.r_116 c i arg2 harg2 arg3 harg3 arg4 harg4 arg5 harg5 arg6 harg6 arg7 harg7 x0 x1 x2), (kernelRun0_A.sl.r_107 c i arg2 harg2 arg3 harg3 arg4 harg4 arg5 harg5 arg6 harg6 arg7 harg7 x0 x1 x2, kernelRun0_A.sl.r_117 c i arg2 harg2 arg3 harg3 arg4 harg4 arg5 harg5 arg6 harg6 arg7 harg7 x0 x1 x2), (kernelRun0_A.sl.r_108 c i arg2 harg2 arg3 harg3 arg4 harg4 arg5 harg5 arg6 harg6 arg7 harg7 x0 x1 x2, kernelRun0_A.sl.r_118 c i arg2 harg2 arg3 harg3 arg4 harg4 arg5 harg5 arg6 harg6 arg7 harg7 x0 x1 x2), (kernelRun0_A.sl.r_109 c i arg2 harg2 arg3 harg3 arg4 harg4 arg5 harg5 arg6 harg6 arg7 harg7 x0 x1 x2, kernelRun0_A.sl.r_120 c i arg2 harg2 arg3 harg3 arg4 harg4 arg5 harg5 arg6 harg6 arg7 harg7 x0 x1 x2), (kernelRun0_A.sl.r_110 c i arg2 harg2 arg3 harg3 arg4 harg4 arg5 harg5 arg6 harg6 arg7 harg7 x0 x1 x2, kernelRun0_A.sl.r_121 c i arg2 harg2 arg3 harg3 arg4 harg4 arg5 harg5 arg6 harg6 arg7 harg7 x0 x1 x2)]
    : Fin 8 → FVec F S1x256 .f32 × FVec F S128x256 .f32) j

set_option maxHeartbeats 4000000 in
/-- The body has the denominators and numerators that the last step leaves. -/
theorem bodyState_eq (j : Fin 8) : bodyState c i arg2 harg2 arg3 harg3 arg4 harg4 arg5 harg5 arg6 harg6 arg7 harg7 x0 x1 x2 j = (lastState c i arg2 harg2 arg3 harg3 arg4 harg4 arg5 harg5 arg6 harg6 arg7 harg7 x0 x1 x2 j).2 := by
  fin_cases j <;> rfl

/-- What the body writes of head `h`. -/
def pieceOf (x3 : Vec F S4x64 .f32) (x4 : Vec F S1x128 .f32) (h : Fin 4) : FVec F S256x128 .bf16 :=
  headOut (bodyState c i arg2 harg2 arg3 harg3 arg4 harg4 arg5 harg5 arg6 harg6 arg7 harg7 x0 x1 x2 ⟨2 * h.val, by omega⟩) (bodyState c i arg2 harg2 arg3 harg3 arg4 harg4 arg5 harg5 arg6 harg6 arg7 harg7 x0 x1 x2 ⟨2 * h.val + 1, by omega⟩)
    (View.readAt (Elt F) arg5.view (Rect.unit (s := S4x64) ![0, 0] S4x64.size inb_S4x64_S4x64_0_0).toLoadRect (harg5.unread x3))
    (View.readAt (Elt F) arg6.view (Rect.unit (s := S1x128) ![0, 0] S1x128.size inb_S1x128_S1x128_0_0).toLoadRect (harg6.unread x4))

/-- The body's four stores, the last first: each a head's result in its own columns. -/
theorem run_eq (x3 : Vec F S4x64 .f32) (x4 : Vec F S1x128 .f32) :
    (kernelRun0_A c i arg2 harg2 arg3 harg3 arg4 harg4 arg5 harg5 arg6 harg6 arg7 harg7 x0 x1 x2 x3 x4).1
      = [⟨Rect.unit ![0, 384] ![256, 128] inb_S256x512_S256x128_0_384, pieceOf c i arg2 harg2 arg3 harg3 arg4 harg4 arg5 harg5 arg6 harg6 arg7 harg7 x0 x1 x2 x3 x4 3⟩, ⟨Rect.unit ![0, 256] ![256, 128] inb_S256x512_S256x128_0_256, pieceOf c i arg2 harg2 arg3 harg3 arg4 harg4 arg5 harg5 arg6 harg6 arg7 harg7 x0 x1 x2 x3 x4 2⟩, ⟨Rect.unit ![0, 128] ![256, 128] inb_S256x512_S256x128_0_128, pieceOf c i arg2 harg2 arg3 harg3 arg4 harg4 arg5 harg5 arg6 harg6 arg7 harg7 x0 x1 x2 x3 x4 1⟩, ⟨Rect.unit ![0, 0] ![256, 128] inb_S256x512_S256x128_0_0, pieceOf c i arg2 harg2 arg3 harg3 arg4 harg4 arg5 harg5 arg6 harg6 arg7 harg7 x0 x1 x2 x3 x4 0⟩] := by
  unfold kernelRun0_A
  dsimp only
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  · rfl
  · rfl
  · rfl
  · rfl

end Cert.Attn

end
-- ==== Proof.Attn.Soft.lean ====
module

public import Idealize.ShloMosaic.Lib.Pointwise
public import Idealize.ShloMosaic.Lib.IdealHost
public import Idealize.ShloMosaic.Lib.WordCmp

/-!
# A softmax over tiles of its keys

A softmax's sums, as they are built up tile by tile with a running maximum, against the sums over all keys. Scores are
extended reals: a real number, or minus infinity where the key is masked.
-/

@[expose] public section

noncomputable section

namespace Cert.Attn

open Idealize.ShloMosaic Finset

/-- Two to the power of a score: zero where the key is masked. -/
def pw (x : EReal) : ℝ := if x = ⊥ then 0 else (2 : ℝ) ^ x.toReal

@[simp] theorem pw_bot : pw ⊥ = 0 := by simp [pw]
@[simp] theorem pw_coe (s : ℝ) : pw (s : EReal) = (2 : ℝ) ^ s := by simp [pw]

theorem pw_nonneg (x : EReal) : 0 ≤ pw x := by
  unfold pw; split_ifs
  · exact le_rfl
  · positivity

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The power of a score less a real maximum. -/
theorem exp2_sub (x : EReal) (hx : x ≠ ⊤) (M : ℝ) : Ideal.exp2 (x - (M : EReal)) = ((pw x * (2 : ℝ) ^ (-M) : ℝ) : EReal) := by
  induction x with
  | top => exact absurd rfl hx
  | bot => rw [EReal.bot_sub, pw_bot, zero_mul]; rfl
  | coe s =>
    rw [← EReal.coe_sub, pw_coe, ← Real.rpow_add (by norm_num : (0 : ℝ) < 2), ← sub_eq_add_neg]
    rfl

/-- The largest of finitely many scores and a bound is a real number once one score is and none is infinite. -/
theorem exists_max_eq {n : ℕ} (σ : Fin n → EReal) (m : EReal) (hm : m ≠ ⊤) (hσ : ∀ u, σ u ≠ ⊤) (hex : ∃ u, σ u ≠ ⊥) :
    ∃ M : ℝ, max m (Finset.univ.fold max ⊥ σ) = (M : EReal) := by
  have htop : max m (Finset.univ.fold max ⊥ σ) ≠ ⊤ := by
    refine ne_of_lt (max_lt (lt_top_iff_ne_top.2 hm) ?_)
    rw [Finset.fold_max_lt]
    exact ⟨bot_lt_top, fun u _ => lt_top_iff_ne_top.2 (hσ u)⟩
  have hbot : max m (Finset.univ.fold max ⊥ σ) ≠ ⊥ := by
    obtain ⟨u, hu⟩ := hex
    refine ne_of_gt (lt_of_lt_of_le (bot_lt_iff_ne_bot.2 hu) (le_trans ?_ (le_max_right _ _)))
    rw [Finset.le_fold_max]
    exact Or.inr ⟨u, Finset.mem_univ _, le_rfl⟩
  exact ⟨_, (EReal.coe_toReal htop hbot).symm⟩

/-- What a running maximum, denominator and numerator hold of the denominator `L` and the numerator `A`: nothing before
    the first key, and otherwise both over the power of the maximum. -/
def Inv (m l a : EReal) (L A : ℝ) : Prop :=
  (m = ⊥ ∧ l = 0 ∧ a = 0 ∧ L = 0 ∧ A = 0) ∨
    ∃ M : ℝ, m = (M : EReal) ∧ l = (((2 : ℝ) ^ (-M) * L : ℝ) : EReal) ∧ a = (((2 : ℝ) ^ (-M) * A : ℝ) : EReal)

theorem Inv.ne_top {m l a : EReal} {L A : ℝ} (h : Inv m l a L A) : m ≠ ⊤ := by
  rcases h with ⟨rfl, _⟩ | ⟨M, rfl, _⟩
  · exact bot_ne_top
  · exact EReal.coe_ne_top M

/-- A tile of keys adds its powers to the denominator and its weighted values to the numerator. -/
theorem Inv.step {n : ℕ} {m l a : EReal} {L A : ℝ} (h : Inv m l a L A) (σ : Fin n → EReal) (v : Fin n → ℝ)
    (hσ : ∀ u, σ u ≠ ⊤) (hex : ∃ u, σ u ≠ ⊥) (m' : EReal) (hm' : m' = max m (Finset.univ.fold max ⊥ σ)) :
    Inv m' (Ideal.exp2 (m - m') * l + ∑ u, Ideal.exp2 (σ u - m'))
      (Ideal.exp2 (m - m') * a + ∑ u, (v u : EReal) * Ideal.exp2 (σ u - m'))
      (L + ∑ u, pw (σ u)) (A + ∑ u, v u * pw (σ u)) := by
  obtain ⟨M', hM'⟩ := exists_max_eq σ m h.ne_top hσ hex
  rw [hM'] at hm'
  subst hm'
  refine Or.inr ⟨M', rfl, ?_, ?_⟩
  all_goals
    simp only [fun u => exp2_sub (σ u) (hσ u) M', exp2_sub m h.ne_top M', ← EReal.coe_mul, ← coe_sum]
    rcases h with ⟨rfl, rfl, rfl, rfl, rfl⟩ | ⟨M, rfl, rfl, rfl⟩
    · rw [mul_zero, zero_add, zero_add, EReal.coe_eq_coe_iff, Finset.mul_sum]
      exact Finset.sum_congr rfl fun u _ => by ring
    · rw [← EReal.coe_mul, ← EReal.coe_add, EReal.coe_eq_coe_iff, mul_add, Finset.mul_sum, pw_coe]
      have e : (2 : ℝ) ^ M * (2 : ℝ) ^ (-M) = 1 := by
        rw [← Real.rpow_add (by norm_num : (0 : ℝ) < 2)]; simp
      refine congrArg₂ (· + ·) ?_ (Finset.sum_congr rfl fun u _ => by ring)
      first | linear_combination (2 : ℝ) ^ (-M') * L * e | linear_combination (2 : ℝ) ^ (-M') * A * e

/-- A quotient of real numbers. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The numerator over the denominator does not depend on the running maximum. -/
theorem Inv.div {m l a : EReal} {L A : ℝ} (h : Inv m l a L A) (hL : L ≠ 0) : Ideal.div a l = ((A / L : ℝ) : EReal) := by
  rcases h with ⟨_, _, _, h, _⟩ | ⟨M, rfl, rfl, rfl⟩
  · exact absurd h hL
  · have e : (2 : ℝ) ^ (-M) ≠ 0 := by positivity
    rw [div_coe _ _ (mul_ne_zero e hL), mul_div_mul_left _ _ e]

/-! ## The sums over all keys -/

/-- The weight of key `u` for the query at position `t`: the power of its score, zero after the query. -/
def weight (s : ℕ → ℝ) (t u : ℕ) : ℝ := if u ≤ t then (2 : ℝ) ^ s u else 0

/-- The denominator over the first `n` keys. -/
def den (s : ℕ → ℝ) (t n : ℕ) : ℝ := ∑ u ∈ range n, weight s t u

/-- The numerator over the first `n` keys. -/
def num (s v : ℕ → ℝ) (t n : ℕ) : ℝ := ∑ u ∈ range n, v u * weight s t u

/-- The first softmax's mean of the values less `l` times the second's. -/
def mix (s₁ s₂ v : ℕ → ℝ) (l : ℝ) (t : ℕ) : ℝ :=
  num s₁ v t 2048 / den s₁ t 2048 - l * (num s₂ v t 2048 / den s₂ t 2048)

theorem weight_nonneg (s : ℕ → ℝ) (t u : ℕ) : 0 ≤ weight s t u := by
  unfold weight; split_ifs
  · positivity
  · exact le_rfl

theorem den_pos (s : ℕ → ℝ) (t n : ℕ) (hn : 0 < n) : 0 < den s t n := by
  refine Finset.sum_pos' (fun u _ => weight_nonneg s t u) ⟨0, Finset.mem_range.2 hn, ?_⟩
  simp only [weight, Nat.zero_le, if_true]; positivity

/-- Keys after the query add nothing. -/
theorem den_past (s : ℕ → ℝ) (t n n' : ℕ) (h : t < n) (h' : n ≤ n') : den s t n' = den s t n := by
  refine (Finset.sum_subset (Finset.range_mono h') fun u _ hu => ?_).symm
  rw [Finset.mem_range, not_lt] at hu
  exact if_neg (by omega)

theorem num_past (s v : ℕ → ℝ) (t n n' : ℕ) (h : t < n) (h' : n ≤ n') : num s v t n' = num s v t n := by
  refine (Finset.sum_subset (Finset.range_mono h') fun u _ hu => ?_).symm
  rw [Finset.mem_range, not_lt] at hu
  rw [weight, if_neg (by omega), mul_zero]

theorem den_add (s : ℕ → ℝ) (t n k : ℕ) : den s t (n + k) = den s t n + ∑ u : Fin k, weight s t (n + u) := by
  rw [den, Finset.sum_range_add, ← Finset.sum_range (fun u => weight s t (n + u))]; rfl

theorem num_add (s v : ℕ → ℝ) (t n k : ℕ) :
    num s v t (n + k) = num s v t n + ∑ u : Fin k, v (n + u) * weight s t (n + u) := by
  rw [num, Finset.sum_range_add, ← Finset.sum_range (fun u => v (n + u) * weight s t (n + u))]; rfl

/-- A score as the programs have it: minus infinity after the query. -/
def masked (s : ℕ → ℝ) (t u : ℕ) : EReal := if u ≤ t then (s u : EReal) else ⊥

theorem pw_masked (s : ℕ → ℝ) (t u : ℕ) : pw (masked s t u) = weight s t u := by
  unfold masked weight; split_ifs <;> simp

theorem masked_ne_top (s : ℕ → ℝ) (t u : ℕ) : masked s t u ≠ ⊤ := by
  unfold masked; split_ifs
  · exact EReal.coe_ne_top _
  · exact bot_ne_top

/-- The natural exponential of a score that has been multiplied by the logarithm of two. -/
theorem exp_masked (s : ℕ → ℝ) (t u : ℕ) (M : ℝ) :
    Ideal.exp (masked (fun u => s u * Real.log 2) t u - (M : EReal)) = ((weight s t u * Real.exp (-M) : ℝ) : EReal) := by
  unfold masked weight
  split_ifs
  · rw [← EReal.coe_sub, Real.rpow_def_of_pos (by norm_num : (0 : ℝ) < 2), ← Real.exp_add]
    show ((Real.exp _ : ℝ) : EReal) = _
    congr 2; ring
  · rw [EReal.bot_sub, zero_mul]; rfl

/-- The sign test that masks a key. -/
theorem select_sge {φ : Type} (t u : ℕ) (ht : t < 2 ^ 31) (hu : u < 2 ^ 31) (a b : φ) :
    Scalar.select (IntOp.cmpi .sge (BitVec.ofNat 32 t) (BitVec.ofNat 32 u)) a b = if u ≤ t then a else b := by
  rw [WordCmp.cmpi_sge_ofNat ht hu]
  by_cases h : u ≤ t <;> simp [h, Scalar.select]

theorem select_slt {φ : Type} (t u : ℕ) (ht : t < 2 ^ 31) (hu : u < 2 ^ 31) (a b : φ) :
    Scalar.select (IntOp.cmpi .slt (BitVec.ofNat 32 t) (BitVec.ofNat 32 u)) a b = if t < u then a else b := by
  rw [WordCmp.cmpi_slt_ofNat ht hu]
  by_cases h : t < u <;> simp [h, Scalar.select]

/-! ## What follows the softmaxes -/

/-- The factor of the second softmax, from the four vectors. -/
def lamOf (y : Fin 4 → Fin 64 → EReal) : EReal :=
  Ideal.exp (∑ x, y 0 x * y 1 x) - Ideal.exp (∑ x, y 2 x * y 3 x) + Ideal.ofBits .f32 0x3E4CCCCD#32

/-- A head's row with its root mean square made one, times the weights and a constant. -/
def rmsOut (o : Fin 128 → EReal) (w : Fin 128 → EReal) (e : Fin 128) : EReal :=
  o e * Ideal.rsqrt (Ideal.div (∑ x, o x * o x) (Ideal.ofBits .f32 0x43000000#32) + Ideal.ofBits .f32 0x358637BD#32)
    * w e * Ideal.ofBits .f32 0x3F4CCCCD#32

/-- The factor is a real number when the four vectors are. -/
theorem exists_lamOf (y : Fin 4 → Fin 64 → EReal) (z : Fin 4 → Fin 64 → ℝ) (h : ∀ i x, y i x = (z i x : EReal)) :
    ∃ l : ℝ, lamOf y = (l : EReal) := by
  have hb : ∃ r : ℝ, Ideal.ofBits .f32 0x3E4CCCCD#32 = (r : EReal) := by
    refine ⟨(Ideal.ofBits .f32 0x3E4CCCCD#32).toReal, (EReal.coe_toReal ?_ ?_).symm⟩ <;>
      simp [Ideal.ofBits, Ideal.ieee, -EReal.coe_mul]
  obtain ⟨r, hr⟩ := hb
  refine ⟨Real.exp (∑ x, z 0 x * z 1 x) - Real.exp (∑ x, z 2 x * z 3 x) + r, ?_⟩
  simp only [lamOf, h, hr, ← EReal.coe_mul, ← coe_sum]
  rfl

theorem ofBits_negInf : Ideal.ofBits .f32 0xFF800000#32 = ⊥ := by
  simp [Ideal.ofBits, Ideal.ieee]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h]
  show (if (2 : ℝ) ≤ 0 then (⊥ : EReal) else ((Real.log 2 : ℝ) : EReal)) = _
  rw [if_neg (by norm_num)]

end Cert.Attn
end
-- ==== Proof.Attn.Body.lean ====
module

public import proofs.«01_k».proof.Proof.Attn.Step
public import proofs.«01_k».proof.Proof.Attn.Soft
public import Idealize.ShloMosaic.Lib.Pointwise

/-!
# The kernel's operations at an index

Each operation of a step at an index, then what a step does to the running sums of one query and one lane.
-/

@[expose] public section

set_option maxRecDepth 16384

noncomputable section

namespace Cert.Attn

open Idealize.ShloMosaic Cert.KernelIdeal Cert.KernelIdeal.Gen Finset

/-- The mask's constant is minus infinity. -/
theorem mask_eq : (Named.named κ "mask" 0xF149F2CA#32 : Ideal .f32) = ⊥ :=
  IdealRules.named_const.ideal_named_scalar κ "mask" (φ := .f32) 0xF149F2CA#32 ⊥ rfl

theorem newMax_apply (s : FVec Ideal S256x256 .f32) (m : FVec Ideal S1x256 .f32) (r : Fin 256) :
    newMax s m (ix2 0 r) = max (m (ix2 0 r)) (Finset.univ.fold max ⊥ fun u => s (ix2 u r)) := by
  pointwise [newMax]
  rw [ofBits_negInf]

theorem powers_apply (s : FVec Ideal S256x256 .f32) (m : FVec Ideal S1x256 .f32) (u r : Fin 256) :
    powers s m (ix2 u r) = Ideal.exp2 (s (ix2 u r) - m (ix2 0 r)) := by
  pointwise [powers]
  rfl

theorem newSum_apply (p : FVec Ideal S256x256 .f32) (a l : FVec Ideal S1x256 .f32) (r : Fin 256) :
    newSum p a l (ix2 0 r) = a (ix2 0 r) * l (ix2 0 r) + ∑ u, p (ix2 u r) := by
  pointwise [newSum]

theorem newAcc_apply (vt : FVec Ideal S128x256 .bf16) (p : FVec Ideal S256x256 .f32) (a : FVec Ideal S1x256 .f32)
    (acc : FVec Ideal S128x256 .f32) (e : Fin 128) (r : Fin 256) :
    newAcc vt p a acc (ix2 e r) = a (ix2 0 r) * acc (ix2 e r) + ∑ u, vt (ix2 e u) * p (ix2 u r) := by
  pointwise [newAcc]

/-- The running sums of one state at one query and one lane. -/
def Holds (t : St Ideal) (e : Fin 128) (r : Fin 256) (L A : ℝ) : Prop :=
  Inv (t.1 (ix2 0 r)) (t.2.1 (ix2 0 r)) (t.2.2 (ix2 e r)) L A

/-- A step adds a tile's powers and weighted values to the running sums. -/
theorem Holds.step {t : St Ideal} {e : Fin 128} {r : Fin 256} {L A : ℝ} (h : Holds t e r L A)
    (s : FVec Ideal S256x256 .f32) (vt : FVec Ideal S128x256 .bf16) (σ : Fin 256 → EReal) (v : Fin 256 → ℝ)
    (hs : ∀ u, s (ix2 u r) = σ u) (hv : ∀ u, vt (ix2 e u) = (v u : EReal))
    (hσ : ∀ u, σ u ≠ ⊤) (hex : ∃ u, σ u ≠ ⊥) :
    Holds (step s vt t) e r (L + ∑ u, pw (σ u)) (A + ∑ u, v u * pw (σ u)) := by
  have hm : newMax s t.1 (ix2 0 r) = max (t.1 (ix2 0 r)) (Finset.univ.fold max ⊥ σ) := by
    rw [newMax_apply]; simp only [hs]
  have key := Inv.step h σ v hσ hex _ hm
  have ha : (exp2 (subf t.1 (newMax s t.1)) : FVec Ideal S1x256 .f32) (ix2 0 r)
      = Ideal.exp2 (t.1 (ix2 0 r) - newMax s t.1 (ix2 0 r)) := rfl
  unfold Holds Cert.Attn.step
  dsimp only
  rw [newSum_apply, newAcc_apply, ha]
  simp only [powers_apply, hs, hv]
  exact key

theorem Holds.init (e : Fin 128) (r : Fin 256) : Holds Cert.Attn.init e r 0 0 := by
  refine Or.inl ⟨?_, ?_, ?_, rfl, rfl⟩
  · pointwise [Cert.Attn.init, k0_pay117]
    exact mask_eq
  · pointwise [Cert.Attn.init, k0_pay118]
  · pointwise [Cert.Attn.init, k0_pay119]

/-- A tile's scores, where the queries' other lanes are zero: the inner product over the component's own lanes. -/
theorem score_apply (c : Fin 2) (q kk : Vec Ideal S256x128 .bf16) (Q K : ℕ → ℝ) (u r : Fin 256)
    (hq : ∀ x : Fin 128, q (ix2 r x) = (Q x : EReal)) (hk : ∀ x : Fin 128, kk (ix2 u x) = (K x : EReal)) :
    score (qlanes c q) kk (ix2 u r) = ((∑ d ∈ range 64, K (c * 64 + d) * Q (c * 64 + d) : ℝ) : EReal) := by
  have hl : ∀ x : Fin 128, qlanes c q (ix2 r x) = (((if x.val / 64 = c.val then Q x else 0) : ℝ) : EReal) := by
    intro x
    have hx := x.isLt
    fin_cases c
    · show k0_pay106 q (ix2 r x) = _
      pointwise [k0_pay106, k0_pay105]
      rw [select_slt _ _ (by omega) (by omega), hq]
      by_cases h : x.val < 64
      · rw [if_pos h, if_pos (show x.val / 64 = 0 by omega)]
      · rw [if_neg h, if_neg (show ¬ x.val / 64 = 0 by omega)]; simp
    · show k0_pay107 q (ix2 r x) = _
      pointwise [k0_pay107, k0_pay105]
      rw [select_sge _ _ (by omega) (by omega), hq]
      by_cases h : 64 ≤ x.val
      · rw [if_pos h, if_pos (show x.val / 64 = 1 by omega)]
      · rw [if_neg h, if_neg (show ¬ x.val / 64 = 1 by omega)]; simp
  pointwise [score]
  simp only [hl, hk, ← EReal.coe_mul, ← coe_sum]
  rw [EReal.coe_eq_coe_iff, ← Finset.sum_range (fun x => K x * if x / 64 = c.val then Q x else 0),
    show 128 = 64 + 64 from rfl, Finset.sum_range_add]
  fin_cases c
  · have h0 : ∀ d ∈ range 64, K d * (if d / 64 = 0 then Q d else 0) = K (0 * 64 + d) * Q (0 * 64 + d) := by
      intro d hd; rw [Finset.mem_range] at hd; rw [if_pos (by omega), zero_mul, zero_add]
    have h1 : ∀ d ∈ range 64, K (64 + d) * (if (64 + d) / 64 = 0 then Q (64 + d) else 0) = 0 := by
      intro d hd; rw [if_neg (by omega), mul_zero]
    simp only [Nat.cast_ofNat, Fin.zero_eta, Fin.val_zero] at *
    rw [Finset.sum_congr rfl h0, Finset.sum_congr rfl h1, Finset.sum_const_zero, add_zero]
  · have h0 : ∀ d ∈ range 64, K d * (if d / 64 = 1 then Q d else 0) = 0 := by
      intro d hd; rw [Finset.mem_range] at hd; rw [if_neg (by omega), mul_zero]
    have h1 : ∀ d ∈ range 64, K (64 + d) * (if (64 + d) / 64 = 1 then Q (64 + d) else 0) = K (1 * 64 + d) * Q (1 * 64 + d) := by
      intro d hd; rw [Finset.mem_range] at hd; rw [if_pos (by omega), one_mul]
    simp only [Fin.mk_one, Fin.val_one] at *
    rw [Finset.sum_congr rfl h0, Finset.sum_congr rfl h1, Finset.sum_const_zero, zero_add]

/-- The diagonal tile's scores. -/
theorem mscore_apply (q kk : Vec Ideal S256x128 .bf16) (u r : Fin 256) :
    mscore q kk (ix2 u r) = if u.val ≤ r.val then score q kk (ix2 u r) else ⊥ := by
  have hu := u.isLt
  have hr := r.isLt
  pointwise [mscore]
  rw [select_sge _ _ (by omega) (by omega), mask_eq]

/-- A head's result at a query and a lane. -/
theorem headOut_apply (t u : FVec Ideal S1x256 .f32 × FVec Ideal S128x256 .f32) (lamv : Vec Ideal S4x64 .f32)
    (w : Vec Ideal S1x128 .f32) (r : Fin 256) (e : Fin 128) :
    headOut t u lamv w (ix2 r e)
      = rmsOut (fun e => Ideal.div (t.2 (ix2 e r)) (t.1 (ix2 0 r))
          - lamOf (fun i x => lamv (ix2 i x)) * Ideal.div (u.2 (ix2 e r)) (u.1 (ix2 0 r))) (fun e => w (ix2 0 e)) e := by
  pointwise [headOut, k0_pay204, k0_pay203]
  rfl

end Cert.Attn
end
-- ==== Proof.Attn.Block.lean ====
module

public import proofs.«01_k».proof.Proof.Attn.Body
public import Idealize.ShloMosaic.Lib.WholeRead

/-!
# One grid point of the kernel

The tiles that the body reads, what its loop has after every trip, and what it writes.
-/

@[expose] public section

set_option maxRecDepth 16384

noncomputable section

namespace Cert.Attn

open Idealize.ShloMosaic Cert.KernelIdeal Cert.KernelIdeal.Gen Finset

/-! ## Offsets and trips -/

theorem rows_eq : ∀ k : ℕ, k < 8 → (Scalar.indexCast (Scalar.muli (Scf.iv 0#32 1#32 k) 256#32) : Index).toNat = 256 * k := by
  decide +kernel

theorem blk_eq : ∀ k : ℕ, k < 8 → (Scalar.indexCast (Scf.iv 0#32 1#32 k) : Index).toNat = k := by
  decide +kernel

theorem lastRows_eq : ∀ k : ℕ, k < 8 → (Scalar.indexCast (Scalar.muli (BitVec.ofNat 32 k) 256#32) : Index).toNat = 256 * k := by
  decide +kernel

theorem lastBlk_eq : ∀ k : ℕ, k < 8 → (Scalar.indexCast (BitVec.ofNat 32 k) : Index).toNat = k := by
  decide +kernel

theorem trips_eq (i : grid0.Coords) : (k0_t1_loop i).trips = (i 1).val :=
  (by decide +kernel : ∀ n : ℕ, n < 8 → Scf.trips 0#32 (Scalar.addi 0#32 (Scalar.muli (Scalar.divsi (Scalar.subi (BitVec.ofNat 32 n) 0#32) 1#32) 1#32)) 1#32 = n)
    (i 1).val (i 1).isLt

theorem trips2_eq (i : grid0.Coords) : (k0_t2_loop i).trips = 0 :=
  (by decide +kernel : ∀ n : ℕ, n < 8 → Scf.trips
      (Scalar.addi 0#32 (Scalar.muli (Scalar.divsi (Scalar.subi (BitVec.ofNat 32 n) 0#32) 1#32) 1#32))
      (Scalar.addi 0#32 (Scalar.subi (BitVec.ofNat 32 n) 0#32)) 1#32 = 0)
    (i 1).val (i 1).isLt

/-! ## Loads -/

variable {F : FTy → Type} [FloatOps F] [Named F]

theorem read2 {φ : EltTy} {n0 n1 m0 m1 : ℕ} (M : Memref sig .tc .vmem ⟨2, ![n0, n1]⟩ φ) (hM : M.IsWhole) (X : Vec F ⟨2, ![n0, n1]⟩ φ)
    (off : Fin 2 → ℕ) (inb : ∀ a, off a + (⟨2, ![m0, m1]⟩ : Shape).size a ≤ (⟨2, ![n0, n1]⟩ : Shape).size a) (a b : ℕ) (h : off = ![a, b])
    (u : Fin m0) (x : Fin m1) (ha : a + u.val < n0) (hb : b + x.val < n1) :
    View.readAt (Elt F) M.view (Rect.unit (s := ⟨2, ![n0, n1]⟩) off (⟨2, ![m0, m1]⟩ : Shape).size inb).toLoadRect (hM.unread X) (ix2 u x)
      = X (ix2 ⟨a + u.val, ha⟩ ⟨b + x.val, hb⟩) := by
  subst h
  rw [hM.readAt_unread]
  refine congrArg X (funext fun ax => Fin.ext ?_)
  fin_cases ax
  · show a + 1 * u.val = a + u.val; omega
  · show b + 1 * x.val = b + x.val; omega

theorem read3 {φ : EltTy} {n0 n1 n2 m1 m2 : ℕ} (M : Memref sig .tc .vmem ⟨3, ![n0, n1, n2]⟩ φ) (hM : M.IsWhole) (X : Vec F ⟨3, ![n0, n1, n2]⟩ φ)
    (off : Fin 3 → ℕ) (inb : ∀ a, off a + (⟨3, ![1, m1, m2]⟩ : Shape).size a ≤ (⟨3, ![n0, n1, n2]⟩ : Shape).size a) (a b : ℕ) (h : off = ![a, b, 0])
    (u : Fin m1) (x : Fin m2) (ha : a < n0) (hb : b + u.val < n1) (hc : x.val < n2) :
    View.readAt (Elt F) M.view (Rect.unit (s := ⟨3, ![n0, n1, n2]⟩) off (⟨3, ![1, m1, m2]⟩ : Shape).size inb).toLoadRect (hM.unread X) (ix3 0 u x)
      = X (ix3 ⟨a, ha⟩ ⟨b + u.val, hb⟩ ⟨x.val, hc⟩) := by
  subst h
  rw [hM.readAt_unread]
  refine congrArg X (funext fun ax => Fin.ext ?_)
  fin_cases ax
  · show a + 1 * 0 = a; omega
  · show b + 1 * u.val = b + u.val; omega
  · show 0 + 1 * x.val = x.val; omega

theorem keysAt_apply (i : grid0.Coords) (arg3 : Memref sig .tc .vmem S2048x512 .bf16) (harg3 : arg3.IsWhole) (x1 : Vec F S2048x512 .bf16)
    (k : Fin (k0_t1_loop i).trips) (hk : k.val < 8) (h : Fin 4) (u : Fin 256) (x : Fin 128) :
    keysAt i arg3 (harg3.unread x1) k h (ix2 u x) = x1 (ix2 ⟨256 * k.val + u.val, by omega⟩ ⟨128 * h.val + x.val, by omega⟩) := by
  have e := rows_eq k.val hk
  fin_cases h
  · exact read2 (F := F) arg3 harg3 x1 (k0_off1 i k) (k0_off1_inb i k) (256 * k.val) 0 (congrArg (fun n => ![n, 0]) e) u x _ _
  · exact read2 (F := F) arg3 harg3 x1 (k0_off2 i k) (k0_off2_inb i k) (256 * k.val) 128 (congrArg (fun n => ![n, 128]) e) u x _ _
  · exact read2 (F := F) arg3 harg3 x1 (k0_off3 i k) (k0_off3_inb i k) (256 * k.val) 256 (congrArg (fun n => ![n, 256]) e) u x _ _
  · exact read2 (F := F) arg3 harg3 x1 (k0_off4 i k) (k0_off4_inb i k) (256 * k.val) 384 (congrArg (fun n => ![n, 384]) e) u x _ _

theorem lastKeys_apply (i : grid0.Coords) (arg3 : Memref sig .tc .vmem S2048x512 .bf16) (harg3 : arg3.IsWhole) (x1 : Vec F S2048x512 .bf16)
    (hk : (i 1).val < 8) (h : Fin 4) (u : Fin 256) (x : Fin 128) :
    lastKeys i arg3 (harg3.unread x1) h (ix2 u x) = x1 (ix2 ⟨256 * (i 1).val + u.val, by omega⟩ ⟨128 * h.val + x.val, by omega⟩) := by
  have e := lastRows_eq (i 1).val hk
  fin_cases h
  · exact read2 (F := F) arg3 harg3 x1 (k0_off17 i) (k0_off17_inb i) (256 * (i 1).val) 0 (congrArg (fun n => ![n, 0]) e) u x _ _
  · exact read2 (F := F) arg3 harg3 x1 (k0_off18 i) (k0_off18_inb i) (256 * (i 1).val) 128 (congrArg (fun n => ![n, 128]) e) u x _ _
  · exact read2 (F := F) arg3 harg3 x1 (k0_off19 i) (k0_off19_inb i) (256 * (i 1).val) 256 (congrArg (fun n => ![n, 256]) e) u x _ _
  · exact read2 (F := F) arg3 harg3 x1 (k0_off20 i) (k0_off20_inb i) (256 * (i 1).val) 384 (congrArg (fun n => ![n, 384]) e) u x _ _

theorem uncast (x : Vec F S1x128x256 .bf16) (e : Fin 128) (u : Fin 256) :
    shapeCast S128x256 x shapeCasts_S1x128x256_S128x256 (ix2 e u) = x (ix3 0 e u) := by
  pointwise []

theorem valuesAt_apply (i : grid0.Coords) (arg4 : Memref sig .tc .vmem S8x512x256 .bf16) (harg4 : arg4.IsWhole) (x2 : Vec F S8x512x256 .bf16)
    (k : Fin (k0_t1_loop i).trips) (hk : k.val < 8) (h : Fin 4) (e : Fin 128) (u : Fin 256) :
    valuesAt i arg4 (harg4.unread x2) k h (ix2 e u) = x2 (ix3 ⟨k.val, hk⟩ ⟨128 * h.val + e.val, by omega⟩ u) := by
  have ek := blk_eq k.val hk
  unfold valuesAt
  rw [uncast]
  fin_cases h
  · exact read3 (F := F) arg4 harg4 x2 (k0_off5 i k) (k0_off5_inb i k) k.val 0 (congrArg (fun n => ![n, 0, 0]) ek) e u _ _ u.isLt
  · exact read3 (F := F) arg4 harg4 x2 (k0_off6 i k) (k0_off6_inb i k) k.val 128 (congrArg (fun n => ![n, 128, 0]) ek) e u _ _ u.isLt
  · exact read3 (F := F) arg4 harg4 x2 (k0_off7 i k) (k0_off7_inb i k) k.val 256 (congrArg (fun n => ![n, 256, 0]) ek) e u _ _ u.isLt
  · exact read3 (F := F) arg4 harg4 x2 (k0_off8 i k) (k0_off8_inb i k) k.val 384 (congrArg (fun n => ![n, 384, 0]) ek) e u _ _ u.isLt

theorem lastValues_apply (i : grid0.Coords) (arg4 : Memref sig .tc .vmem S8x512x256 .bf16) (harg4 : arg4.IsWhole) (x2 : Vec F S8x512x256 .bf16)
    (hk : (i 1).val < 8) (h : Fin 4) (e : Fin 128) (u : Fin 256) :
    lastValues i arg4 (harg4.unread x2) h (ix2 e u) = x2 (ix3 ⟨(i 1).val, hk⟩ ⟨128 * h.val + e.val, by omega⟩ u) := by
  have ek := lastBlk_eq (i 1).val hk
  unfold lastValues
  rw [uncast]
  fin_cases h
  · exact read3 (F := F) arg4 harg4 x2 (k0_off21 i) (k0_off21_inb i) (i 1).val 0 (congrArg (fun n => ![n, 0, 0]) ek) e u _ _ u.isLt
  · exact read3 (F := F) arg4 harg4 x2 (k0_off22 i) (k0_off22_inb i) (i 1).val 128 (congrArg (fun n => ![n, 128, 0]) ek) e u _ _ u.isLt
  · exact read3 (F := F) arg4 harg4 x2 (k0_off23 i) (k0_off23_inb i) (i 1).val 256 (congrArg (fun n => ![n, 256, 0]) ek) e u _ _ u.isLt
  · exact read3 (F := F) arg4 harg4 x2 (k0_off24 i) (k0_off24_inb i) (i 1).val 384 (congrArg (fun n => ![n, 384, 0]) ek) e u _ _ u.isLt

theorem qhead_apply (arg2 : Memref sig .tc .vmem S256x512 .bf16) (harg2 : arg2.IsWhole) (x0 : Vec F S256x512 .bf16) (h : Fin 4) (r : Fin 256)
    (x : Fin 128) : qhead arg2 harg2 x0 h (ix2 r x) = x0 (ix2 r ⟨128 * h.val + x.val, by omega⟩) := by
  have e : r = ⟨0 + r.val, by omega⟩ := Fin.ext (by simp)
  fin_cases h
  · exact (read2 (F := F) arg2 harg2 x0 ![0, 0] inb_S256x512_S256x128_0_0 0 0 rfl r x (by omega) (by omega)).trans (by rw [← e]; rfl)
  · exact (read2 (F := F) arg2 harg2 x0 ![0, 128] inb_S256x512_S256x128_0_128 0 128 rfl r x (by omega) (by omega)).trans (by rw [← e]; rfl)
  · exact (read2 (F := F) arg2 harg2 x0 ![0, 256] inb_S256x512_S256x128_0_256 0 256 rfl r x (by omega) (by omega)).trans (by rw [← e]; rfl)
  · exact (read2 (F := F) arg2 harg2 x0 ![0, 384] inb_S256x512_S256x128_0_384 0 384 rfl r x (by omega) (by omega)).trans (by rw [← e]; rfl)

end Cert.Attn
end
-- ==== Proof.Attn.State.lean ====
module

public import proofs.«01_k».proof.Proof.Attn.Block

/-!
# What the body's softmaxes hold

Every softmax's state after each trip of the loop and after the diagonal tile, against the sums over the keys.
-/

@[expose] public section

set_option maxRecDepth 16384

noncomputable section

namespace Cert.Attn

open Idealize.ShloMosaic Cert.KernelIdeal Cert.KernelIdeal.Gen Finset

/-- The score of key `u` against query `r`, both rows of real matrices, over component `j`'s 64 lanes. -/
def sc (Q K : ℕ → ℕ → ℝ) (j r u : ℕ) : ℝ := ∑ d ∈ range 64, K u (64 * j + d) * Q r (64 * j + d)

/-- A block of keys and values, and one of queries, of real numbers. -/
structure Real3 (x0 : Vec Ideal S256x512 .bf16) (x1 : Vec Ideal S2048x512 .bf16) (x2 : Vec Ideal S8x512x256 .bf16)
    (Q K V : ℕ → ℕ → ℝ) : Prop where
  q : ∀ (r : Fin 256) (x : Fin 512), x0 (ix2 r x) = (Q r x : EReal)
  k : ∀ (u : Fin 2048) (x : Fin 512), x1 (ix2 u x) = (K u x : EReal)
  v : ∀ (b : Fin 8) (x : Fin 512) (u : Fin 256), x2 (ix3 b x u) = (V (256 * b + u) x : EReal)

variable (c : Dev nD) (i : grid0.Coords) (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S256x512 .bf16) (harg7 : arg7.IsWhole)
    (x0 : Vec Ideal S256x512 .bf16) (x1 : Vec Ideal S2048x512 .bf16) (x2 : Vec Ideal S8x512x256 .bf16)

theorem carry_eta (x : Carry Ideal) : (x.1, x.2.1, x.2.2.1, x.2.2.2.1, x.2.2.2.2.1, x.2.2.2.2.2.1, x.2.2.2.2.2.2.1, x.2.2.2.2.2.2.2.1, x.2.2.2.2.2.2.2.2.1, x.2.2.2.2.2.2.2.2.2.1, x.2.2.2.2.2.2.2.2.2.2.1, x.2.2.2.2.2.2.2.2.2.2.2.1, x.2.2.2.2.2.2.2.2.2.2.2.2.1, x.2.2.2.2.2.2.2.2.2.2.2.2.2.1, x.2.2.2.2.2.2.2.2.2.2.2.2.2.2.1, x.2.2.2.2.2.2.2.2.2.2.2.2.2.2.2.1, x.2.2.2.2.2.2.2.2.2.2.2.2.2.2.2.2.1, x.2.2.2.2.2.2.2.2.2.2.2.2.2.2.2.2.2.1, x.2.2.2.2.2.2.2.2.2.2.2.2.2.2.2.2.2.2.1, x.2.2.2.2.2.2.2.2.2.2.2.2.2.2.2.2.2.2.2.1, x.2.2.2.2.2.2.2.2.2.2.2.2.2.2.2.2.2.2.2.2.1, x.2.2.2.2.2.2.2.2.2.2.2.2.2.2.2.2.2.2.2.2.2.1, x.2.2.2.2.2.2.2.2.2.2.2.2.2.2.2.2.2.2.2.2.2.2.1, x.2.2.2.2.2.2.2.2.2.2.2.2.2.2.2.2.2.2.2.2.2.2.2) = x := rfl

/-- The second loop, which makes no trip, leaves the first one's states. -/
theorem loopsState_eq : loopsState c i arg2 harg2 arg3 harg3 arg4 harg4 arg5 harg5 arg6 harg6 arg7 harg7 x0 x1 x2 = loopState c i arg2 harg2 arg3 harg3 arg4 harg4 arg5 harg5 arg6 harg6 arg7 harg7 x0 x1 x2 (i 1).val := by
  rw [← trips_eq i]
  unfold loopsState
  rw [trips2_eq, st_k0_t2_zero]
  unfold loopState kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32
  refine (carry_eta _).trans ?_
  rfl

theorem loopState_succ (k : ℕ) (hk : k < (i 1).val) (j : Fin 8) :
    part (loopState c i arg2 harg2 arg3 harg3 arg4 harg4 arg5 harg5 arg6 harg6 arg7 harg7 x0 x1 x2 (k + 1)) j
      = step (score (qm c arg2 harg2 x0 j) (keysAt i arg3 (harg3.unread x1) ⟨k, (trips_eq i).symm ▸ hk⟩ (headOf j)))
          (valuesAt i arg4 (harg4.unread x2) ⟨k, (trips_eq i).symm ▸ hk⟩ (headOf j)) (part (loopState c i arg2 harg2 arg3 harg3 arg4 harg4 arg5 harg5 arg6 harg6 arg7 harg7 x0 x1 x2 k) j) := by
  have e : loopState c i arg2 harg2 arg3 harg3 arg4 harg4 arg5 harg5 arg6 harg6 arg7 harg7 x0 x1 x2 (k + 1) = _ := st_k0_t1_succ (F := Ideal) Variants.none c none i arg2 harg2 arg3 harg3 arg4 harg4 arg5 harg5 arg6 harg6 arg7 harg7 _ _ _ _ _ _ _ _ _ _ _ _ _ _ _ _ ⟨k, (trips_eq i).symm ▸ hk⟩
  rw [e, trip_eq, part_pack]
  unfold qm
  fin_cases j <;> rfl

theorem qscore (j : Fin 8) (kk : Vec Ideal S256x128 .bf16) {Q K V : ℕ → ℕ → ℝ} (R : Real3 x0 x1 x2 Q K V) (u : ℕ) (v r : Fin 256)
    (hk : ∀ x : Fin 128, kk (ix2 v x) = (K u (128 * (headOf j).val + x) : EReal)) :
    score (qm c arg2 harg2 x0 j) kk (ix2 v r) = (sc Q K j r u : EReal) := by
  rw [qm_eq, score_apply _ _ kk (fun x => Q r (128 * (headOf j).val + x)) (fun x => K u (128 * (headOf j).val + x)) v r ?_ hk]
  · congr 1
    refine Finset.sum_congr rfl fun d _ => ?_
    have e : 128 * (headOf j).val + (j.val % 2 * 64 + d) = 64 * j.val + d := by
      show 128 * (j.val / 2) + _ = _; omega
    rw [e]
  · intro x
    rw [qhead_apply, R.q]

/-- After `k` trips every softmax has the sums over the first `k` tiles of keys. -/
theorem loop_holds {Q K V : ℕ → ℕ → ℝ} (R : Real3 x0 x1 x2 Q K V) (j : Fin 8) (e : Fin 128) (r : Fin 256) :
    ∀ k : ℕ, k ≤ (i 1).val →
      Holds (part (loopState c i arg2 harg2 arg3 harg3 arg4 harg4 arg5 harg5 arg6 harg6 arg7 harg7 x0 x1 x2 k) j) e r
        (den (sc Q K j r) (256 * (i 1).val + r) (256 * k))
        (num (sc Q K j r) (fun u => V u (128 * (headOf j).val + e)) (256 * (i 1).val + r) (256 * k)) := by
  intro k
  have hi : (i 1).val < 8 := (i 1).isLt
  induction k with
  | zero =>
    intro _
    have e0 : part (loopState c i arg2 harg2 arg3 harg3 arg4 harg4 arg5 harg5 arg6 harg6 arg7 harg7 x0 x1 x2 0) j = init := by fin_cases j <;> rfl
    rw [e0]
    have := Holds.init e r
    simpa [den, num] using this
  | succ k ih =>
    intro hk
    have h := ih (by omega)
    rw [loopState_succ c i arg2 harg2 arg3 harg3 arg4 harg4 arg5 harg5 arg6 harg6 arg7 harg7 x0 x1 x2 k (by omega) j]
    have hs : ∀ u : Fin 256, score (qm c arg2 harg2 x0 j) (keysAt i arg3 (harg3.unread x1) ⟨k, (trips_eq i).symm ▸ hk⟩ (headOf j)) (ix2 u r)
        = masked (sc Q K j r) (256 * (i 1).val + r) (256 * k + u) := by
      intro u
      have hu := u.isLt
      rw [qscore c arg2 harg2 x0 x1 x2 j _ R (256 * k + u) u r ?_, masked, if_pos (by omega)]
      intro x
      rw [keysAt_apply i arg3 harg3 x1 ⟨k, (trips_eq i).symm ▸ hk⟩ (by show k < 8; omega), R.k]
    have hv : ∀ u : Fin 256, valuesAt i arg4 (harg4.unread x2) ⟨k, (trips_eq i).symm ▸ hk⟩ (headOf j) (ix2 e u)
        = (V (256 * k + u) (128 * (headOf j).val + e) : EReal) := by
      intro u
      rw [valuesAt_apply i arg4 harg4 x2 ⟨k, (trips_eq i).symm ▸ hk⟩ (by show k < 8; omega), R.v]
    have key := h.step _ _ (fun u => masked (sc Q K j r) (256 * (i 1).val + r) (256 * k + u))
      (fun u => V (256 * k + u) (128 * (headOf j).val + e)) hs hv (fun u => masked_ne_top _ _ _)
      ⟨0, by rw [masked, if_pos (by show 256 * k + 0 ≤ _; omega)]; exact EReal.coe_ne_bot _⟩
    simp only [pw_masked] at key
    rw [Nat.mul_succ, den_add, num_add]
    exact key

/-- After the diagonal tile every softmax has the sums over all keys up to the query. -/
theorem last_holds {Q K V : ℕ → ℕ → ℝ} (R : Real3 x0 x1 x2 Q K V) (j : Fin 8) (e : Fin 128) (r : Fin 256) :
    Holds (lastState c i arg2 harg2 arg3 harg3 arg4 harg4 arg5 harg5 arg6 harg6 arg7 harg7 x0 x1 x2 j) e r
      (den (sc Q K j r) (256 * (i 1).val + r) 2048)
      (num (sc Q K j r) (fun u => V u (128 * (headOf j).val + e)) (256 * (i 1).val + r) 2048) := by
  have hi : (i 1).val < 8 := (i 1).isLt
  have hr := r.isLt
  have h := loop_holds c i arg2 harg2 arg3 harg3 arg4 harg4 arg5 harg5 arg6 harg6 arg7 harg7 x0 x1 x2 R j e r (i 1).val le_rfl
  unfold lastState
  rw [loopsState_eq]
  have hs : ∀ u : Fin 256, mscore (qm c arg2 harg2 x0 j) (lastKeys i arg3 (harg3.unread x1) (headOf j)) (ix2 u r)
      = masked (sc Q K j r) (256 * (i 1).val + r) (256 * (i 1).val + u) := by
    intro u
    rw [mscore_apply, qscore c arg2 harg2 x0 x1 x2 j _ R (256 * (i 1).val + u) u r ?_, masked]
    · simp only [Nat.add_le_add_iff_left]
    · intro x
      rw [lastKeys_apply i arg3 harg3 x1 hi, R.k]
  have hv : ∀ u : Fin 256, lastValues i arg4 (harg4.unread x2) (headOf j) (ix2 e u)
      = (V (256 * (i 1).val + u) (128 * (headOf j).val + e) : EReal) := by
    intro u
    rw [lastValues_apply i arg4 harg4 x2 hi, R.v]
  have key := h.step _ _ (fun u => masked (sc Q K j r) (256 * (i 1).val + r) (256 * (i 1).val + u))
    (fun u => V (256 * (i 1).val + u) (128 * (headOf j).val + e)) hs hv (fun u => masked_ne_top _ _ _)
    ⟨0, by rw [masked, if_pos (by show 256 * (i 1).val + 0 ≤ _; omega)]; exact EReal.coe_ne_bot _⟩
  simp only [pw_masked] at key
  rw [← den_add (sc Q K j r) _ (256 * (i 1).val) 256, ← num_add (sc Q K j r) (fun u => V u (128 * (headOf j).val + e)) _ (256 * (i 1).val) 256] at key
  rwa [den_past _ _ (256 * (i 1).val + 256) 2048 (by omega) (by omega), num_past _ _ _ (256 * (i 1).val + 256) 2048 (by omega) (by omega)]

/-- What the body writes of head `h`, at a query and a lane. -/
theorem pieceOf_apply {Q K V : ℕ → ℕ → ℝ} (R : Real3 x0 x1 x2 Q K V) (x3 : Vec Ideal S4x64 .f32) (x4 : Vec Ideal S1x128 .f32)
    (l : ℝ) (hl : lamOf (fun i x => x3 (ix2 i x)) = (l : EReal)) (h : Fin 4) (r : Fin 256) (e : Fin 128) :
    pieceOf c i arg2 harg2 arg3 harg3 arg4 harg4 arg5 harg5 arg6 harg6 arg7 harg7 x0 x1 x2 x3 x4 h (ix2 r e)
      = rmsOut (fun e => (mix (sc Q K (2 * h) r) (sc Q K (2 * h + 1) r) (fun u => V u (128 * h + e)) l (256 * (i 1).val + r) : EReal))
          (fun e => x4 (ix2 0 e)) e := by
  unfold pieceOf
  rw [headOut_apply]
  have e3 : (fun i x => View.readAt (Elt Ideal) arg5.view (Rect.unit (s := S4x64) ![0, 0] S4x64.size inb_S4x64_S4x64_0_0).toLoadRect (harg5.unread x3) (ix2 i x))
      = fun (i : Fin 4) (x : Fin 64) => x3 (ix2 i x) := by
    funext a x
    exact (read2 (F := Ideal) arg5 harg5 x3 ![0, 0] inb_S4x64_S4x64_0_0 0 0 rfl a x (by omega) (by omega)).trans (by simp only [Nat.zero_add])
  have e4 : (fun e => View.readAt (Elt Ideal) arg6.view (Rect.unit (s := S1x128) ![0, 0] S1x128.size inb_S1x128_S1x128_0_0).toLoadRect (harg6.unread x4) (ix2 0 e))
      = fun (e : Fin 128) => x4 (ix2 0 e) := by
    funext x
    exact (read2 (F := Ideal) arg6 harg6 x4 ![0, 0] inb_S1x128_S1x128_0_0 0 0 rfl 0 x (by omega) (by omega)).trans (by simp only [Nat.zero_add])
  rw [e3, e4, hl]
  congr 1
  funext e
  have q := fun j : Fin 8 => (last_holds c i arg2 harg2 arg3 harg3 arg4 harg4 arg5 harg5 arg6 harg6 arg7 harg7 x0 x1 x2 R j e r).div
    (den_pos _ _ 2048 (by norm_num)).ne'
  simp only [bodyState_eq]
  rw [q, q, ← EReal.coe_mul, ← EReal.coe_sub]
  have e1 : (headOf ⟨2 * h.val, by omega⟩).val = h.val := by show 2 * h.val / 2 = _; omega
  have e2 : (headOf ⟨2 * h.val + 1, by omega⟩).val = h.val := by show (2 * h.val + 1) / 2 = _; omega
  rw [e1, e2]
  rfl

end Cert.Attn
end
-- ==== Proof.Attn.RefValue.lean ====
module

public import proofs.«01_k».proof.Proof.Attn.Ref
public import proofs.«01_k».proof.Proof.Attn.State
public import Idealize.ShloMosaic.Lib.Pointwise

/-!
# The reference at an index

Every stage of the reference read at an index, on real arguments, up to its result as a difference of two quotients of sums.
-/

@[expose] public section

set_option maxRecDepth 16384

noncomputable section

namespace Cert.Attn.Ref
open Cert.ReferenceIdeal Cert.ReferenceIdeal.Gen Idealize.ShloMosaic Idealize.ShloMosaic.TcCoe Finset

theorem last_max {n0 n1 n2 n3 n4 : ℕ} {u : Shape} (s : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel) (a : Fin n0) (b : Fin n1) (c : Fin n2) (d : Fin n3) :
    Host.reduce FloatOps.maximumf s init h hu (ix4 a b c d)
      = Finset.univ.fold max (init (Shape.Idx.first hu)) (fun x => s (ix5 a b c d x)) := by
  have e : (FloatOps.maximumf : Ideal .f32 → Ideal .f32 → Ideal .f32) = fun x y => max (α := EReal) x y := rfl
  rw [e]
  exact (Host.reduce_eq_fold (fun x y => max (α := EReal) x y) s init h hu (ix4 a b c d)).trans (h.fold_fiber_r5_a4 (ix4 a b c d) (fun x y => max (α := EReal) x y) _ s)

/-- Where a row of scores has no plus infinity and one real number, its largest is a real number. -/
theorem largest_real (s : FVec Ideal S8x4x2x2048x2048 .f32) (b : Fin 8) (h : Fin 4) (c : Fin 2) (t : Fin 2048) (σ : Fin 2048 → EReal)
    (hs : ∀ u, s (ix5 b h c t u) = σ u) (ht : ∀ u, σ u ≠ ⊤) (hb : ∃ u, σ u ≠ ⊥) : ∃ M : ℝ, largest s (ix4 b h c t) = (M : EReal) := by
  obtain ⟨M, hM⟩ := exists_max_eq σ ⊥ (by simp) ht hb
  refine ⟨M, ?_⟩
  rw [← hM]
  have e1 : ∀ x : FVec Ideal S8x4x2x2048 .f32, maximumf (broadcastInDim S8x4x2x2048 ![] bcast_S_S8x4x2x2048 (constant S_ .f32 0xFF800000#32)) x (ix4 b h c t)
      = max (Ideal.ofBits .f32 0xFF800000#32) (x (ix4 b h c t)) := by
    intro x
    pointwise []
  unfold largest
  rw [e1, last_max, ofBits_negInf]
  refine congrArg (max ⊥) ?_
  rw [show (constant S_ .f32 0xFF800000#32 : FVec Ideal S_ .f32) (Shape.Idx.first h_S_) = (⊥ : EReal) from ofBits_negInf]
  refine congrArg (fun f => Finset.univ.fold max ⊥ f) (funext hs)

variable {q k : Vec Ideal S16384x512 .bf16} {vt : Vec Ideal S64x512x256 .bf16} {Q K V : ℕ → ℕ → ℝ}

/-- Scores of real queries and keys. -/
theorem scores_apply (hq : ∀ (r : Fin 16384) (x : Fin 512), q (ix2 r x) = (Q r x : EReal))
    (hk : ∀ (r : Fin 16384) (x : Fin 512), k (ix2 r x) = (K r x : EReal)) (b : Fin 8) (h : Fin 4) (c : Fin 2) (t u : Fin 2048) :
    scores q k (ix5 b h c t u)
      = masked (fun u => sc (fun r => Q (2048 * b + r)) (fun r => K (2048 * b + r)) (2 * h + c) t u * Real.log 2) t u := by
  have hb := b.isLt
  have hh := h.isLt
  have hc := c.isLt
  have e : scores q k (ix5 b h c t u)
      = Scalar.select (IntOp.cmpi .sge (BitVec.ofNat 32 t) (BitVec.ofNat 32 u))
          (∑ x : Fin 64, q (ix2 ⟨b.val * 2048 + t.val, by omega⟩ ⟨h.val * 128 + c.val * 64 + x.val, by omega⟩) * Ideal.log (Ideal.ofBits .f32 0x40000000#32)
            * k (ix2 ⟨b.val * 2048 + u.val, by omega⟩ ⟨h.val * 128 + c.val * 64 + x.val, by omega⟩)) (Ideal.ofBits .f32 0xFF800000#32) := by
    pointwise [scores]
    rfl
  have ht := t.isLt
  have hu := u.isLt
  rw [e, select_sge _ _ (by omega) (by omega), log_two, ofBits_negInf, masked]
  congr 1
  have e2 : ∀ x : Fin 64, q (ix2 ⟨b.val * 2048 + t.val, by omega⟩ ⟨h.val * 128 + c.val * 64 + x.val, by omega⟩) * ((Real.log 2 : ℝ) : EReal)
        * k (ix2 ⟨b.val * 2048 + u.val, by omega⟩ ⟨h.val * 128 + c.val * 64 + x.val, by omega⟩)
      = ((K (2048 * b + u) (64 * (2 * h + c) + x) * Q (2048 * b + t) (64 * (2 * h + c) + x) * Real.log 2 : ℝ) : EReal) := by
    intro x
    rw [hq, hk, ← EReal.coe_mul, ← EReal.coe_mul]
    have i1 : h.val * 128 + c.val * 64 + x.val = 64 * (2 * h.val + c.val) + x.val := by omega
    have i2 : b.val * 2048 + t.val = 2048 * b.val + t.val := by omega
    have i3 : b.val * 2048 + u.val = 2048 * b.val + u.val := by omega
    show ((Q (b.val * 2048 + t.val) (h.val * 128 + c.val * 64 + x.val) * Real.log 2 * K (b.val * 2048 + u.val) (h.val * 128 + c.val * 64 + x.val) : ℝ) : EReal) = _
    rw [i1, i2, i3]
    congr 1
    ring
  simp only [e2]
  rw [← coe_sum, sc, Finset.sum_mul, Finset.sum_range]

/-- The softmax of masked real scores: each key's weight over the sum of all weights. -/
theorem probs_apply (s : FVec Ideal S8x4x2x2048x2048 .f32) (b : Fin 8) (h : Fin 4) (c : Fin 2) (t : Fin 2048) (σ : ℕ → ℝ)
    (hs : ∀ u : Fin 2048, s (ix5 b h c t u) = masked (fun u => σ u * Real.log 2) t u) (u : Fin 2048) :
    probs s (ix5 b h c t u) = ((weight σ t u / den σ t 2048 : ℝ) : EReal) := by
  obtain ⟨M, hM⟩ := largest_real s b h c t _ hs (fun u => masked_ne_top _ _ _)
    ⟨0, by rw [masked, if_pos (show (0 : Fin 2048).val ≤ t.val from Nat.zero_le _)]; exact EReal.coe_ne_bot _⟩
  have e : ∀ u, exps s (ix5 b h c t u) = ((weight σ t u * Real.exp (-M) : ℝ) : EReal) := by
    intro u
    have e0 : ∀ z : FVec Ideal S8x4x2x2048 .f32, Host.exp (subf s (overKeys z)) (ix5 b h c t u) = Ideal.exp (s (ix5 b h c t u) - z (ix4 b h c t)) := by
      intro z
      pointwise [overKeys]
    unfold exps
    rw [e0, hM, hs, exp_masked]
  have e1 : ∀ z : FVec Ideal S8x4x2x2048x2048 .f32, Host.divf z (overKeys (Host.reduceAdd z (constant S_ .f32 0x00000000#32) reducesTo_S8x4x2x2048x2048_S8x4x2x2048_d4 h_S_)) (ix5 b h c t u)
      = Ideal.div (z (ix5 b h c t u)) (∑ x : Fin 2048, z (ix5 b h c t x)) := by
    intro z
    pointwise [overKeys]
  unfold probs
  rw [e1]
  simp only [e]
  have hd : (∑ x : Fin 2048, ((weight σ t x * Real.exp (-M) : ℝ) : EReal)) = ((den σ t 2048 * Real.exp (-M) : ℝ) : EReal) := by
    rw [← coe_sum, den, Finset.sum_mul, Finset.sum_range]
  have hp := den_pos σ t 2048 (by norm_num)
  have hx := Real.exp_pos (-M)
  rw [hd, div_coe _ _ (mul_pos hp hx).ne', mul_div_mul_right _ _ hx.ne']

/-- The reference's mean of the values, on real arguments. -/
theorem mixed_apply (hq : ∀ (r : Fin 16384) (x : Fin 512), q (ix2 r x) = (Q r x : EReal))
    (hk : ∀ (r : Fin 16384) (x : Fin 512), k (ix2 r x) = (K r x : EReal))
    (hv : ∀ (g : Fin 64) (x : Fin 512) (u : Fin 256), vt (ix3 g x u) = (V (256 * g + u) x : EReal))
    (lamv : Vec Ideal S4x64 .f32) (l : ℝ) (hl : lamOf (fun i x => lamv (ix2 i x)) = (l : EReal))
    (b : Fin 8) (t : Fin 2048) (h : Fin 4) (e : Fin 128) :
    mixed vt (diff (probs (scores q k)) (lam lamv)) (ix4 b t h e)
      = (mix (sc (fun r => Q (2048 * b + r)) (fun r => K (2048 * b + r)) (2 * h) t)
          (sc (fun r => Q (2048 * b + r)) (fun r => K (2048 * b + r)) (2 * h + 1) t) (fun u => V (2048 * b + u) (128 * h + e)) l t : EReal) := by
  have hb := b.isLt
  have hh := h.isLt
  have e0 : ∀ d : FVec Ideal S8x4x2048x2048 .f32, mixed vt d (ix4 b t h e)
      = ∑ x : Fin 2048, vt (ix3 ⟨b.val * 8 + x.val / 256, by omega⟩ ⟨h.val * 128 + e.val, by omega⟩ ⟨x.val % 256, by omega⟩) * d (ix4 b h t x) := by
    intro d
    pointwise [mixed]
  have e1 : ∀ (p : FVec Ideal S8x4x2x2048x2048 .f32) (z : FVec Ideal S_ .f32) (u : Fin 2048), diff p z (ix4 b h t u) = p (ix5 b h 0 t u) - z ix0 * p (ix5 b h 1 t u) := by
    intro p z u
    pointwise [diff]
  have e2 : lam lamv ix0 = (l : EReal) := by
    rw [← hl]
    unfold lamOf
    pointwise [lam]
  have hs0 : ∀ u : Fin 2048, scores q k (ix5 b h 0 t u) = _ := scores_apply hq hk b h 0 t
  have hs1 : ∀ u : Fin 2048, scores q k (ix5 b h 1 t u) = _ := scores_apply hq hk b h 1 t
  rw [show 2 * h.val + (0 : Fin 2).val = 2 * h.val from rfl] at hs0
  rw [show 2 * h.val + (1 : Fin 2).val = 2 * h.val + 1 from rfl] at hs1
  rw [e0]
  have e3 : ∀ x : Fin 2048, vt (ix3 ⟨b.val * 8 + x.val / 256, by omega⟩ ⟨h.val * 128 + e.val, by omega⟩ ⟨x.val % 256, by omega⟩) = (V (2048 * b + x) (128 * h + e) : EReal) := by
    intro x
    rw [hv]
    have i1 : 256 * (b.val * 8 + x.val / 256) + x.val % 256 = 2048 * b.val + x.val := by omega
    have i2 : h.val * 128 + e.val = 128 * h.val + e.val := by omega
    show ((V (256 * (b.val * 8 + x.val / 256) + x.val % 256) (h.val * 128 + e.val) : ℝ) : EReal) = _
    rw [i1, i2]
  simp only [e1, e2, e3]
  simp only [probs_apply _ b h 0 t _ hs0, probs_apply _ b h 1 t _ hs1, ← EReal.coe_mul, ← EReal.coe_sub]
  rw [← coe_sum]
  congr 1
  simp only [mix, num, Finset.sum_div, Finset.mul_sum, Finset.sum_range, ← Finset.sum_sub_distrib]
  refine Finset.sum_congr rfl fun x _ => ?_
  ring

/-- The reference's result on real arguments. -/
theorem result_apply (hq : ∀ (r : Fin 16384) (x : Fin 512), q (ix2 r x) = (Q r x : EReal))
    (hk : ∀ (r : Fin 16384) (x : Fin 512), k (ix2 r x) = (K r x : EReal))
    (hv : ∀ (g : Fin 64) (x : Fin 512) (u : Fin 256), vt (ix3 g x u) = (V (256 * g + u) x : EReal))
    (lamv : Vec Ideal S4x64 .f32) (l : ℝ) (hl : lamOf (fun i x => lamv (ix2 i x)) = (l : EReal)) (w : Vec Ideal S1x128 .f32)
    (b : Fin 8) (t : Fin 2048) (h : Fin 4) (e : Fin 128) :
    result q k vt lamv w (ix2 ⟨2048 * b + t, by omega⟩ ⟨128 * h + e, by omega⟩)
      = rmsOut (fun e => (mix (sc (fun r => Q (2048 * b + r)) (fun r => K (2048 * b + r)) (2 * h) t)
          (sc (fun r => Q (2048 * b + r)) (fun r => K (2048 * b + r)) (2 * h + 1) t) (fun u => V (2048 * b + u) (128 * h + e)) l t : EReal))
          (fun e => w (ix2 0 e)) e := by
  have hb := b.isLt
  have hh := h.isLt
  have e0 : ∀ (o : FVec Ideal S8x2048x4x128 .f32) (r : Fin 16384) (c : Fin 512), normed o w (ix2 r c)
      = rmsOut (fun x => o (ix4 ⟨r.val / 2048, by omega⟩ ⟨r.val % 2048, by omega⟩ ⟨c.val / 128, by omega⟩ x)) (fun x => w (ix2 0 x)) ⟨c.val % 128, by omega⟩ := by
    intro o r c
    unfold rmsOut
    pointwise [normed]
  unfold result
  rw [e0]
  have i1 : (⟨(2048 * b.val + t.val) / 2048, by omega⟩ : Fin 8) = b := Fin.ext (by show (2048 * b.val + t.val) / 2048 = b.val; omega)
  have i2 : (⟨(2048 * b.val + t.val) % 2048, by omega⟩ : Fin 2048) = t := Fin.ext (by show (2048 * b.val + t.val) % 2048 = t.val; omega)
  have i3 : (⟨(128 * h.val + e.val) / 128, by omega⟩ : Fin 4) = h := Fin.ext (by show (128 * h.val + e.val) / 128 = h.val; omega)
  have i4 : (⟨(128 * h.val + e.val) % 128, by omega⟩ : Fin 128) = e := Fin.ext (by show (128 * h.val + e.val) % 128 = e.val; omega)
  simp only [i1, i2, i3, i4]
  congr 1
  funext x
  exact mixed_apply hq hk hv lamv l hl b t h x

end Cert.Attn.Ref
end
-- ==== Proof.Attn.Out.lean ====
module

public import proofs.«01_k».proof.Proof.Attn.RefValue
public import proofs.«01_k».proof.Proof.Gen.KernelIdeal.Value

/-!
# The result array

What a grid point writes is its block of the reference's result, and the blocks cover the array.
-/

@[expose] public section

set_option maxRecDepth 16384

noncomputable section

namespace Cert.Attn

open Idealize.ShloMosaic Idealize.ShloMosaic.TcCoe Cert.KernelIdeal Cert.KernelIdeal.Gen Cert.KernelIdeal.Value Finset

/-- A block's row and lane as the normalized difference of the two softmaxes' means. -/
def blockOut (Q K V : ℕ → ℕ → ℝ) (w : Fin 128 → EReal) (l : ℝ) (b : ℕ) (y : S256x512.Idx) : EReal :=
  rmsOut (fun e => (mix (sc Q K (2 * ((y 1).val / 128)) (y 0).val) (sc Q K (2 * ((y 1).val / 128) + 1) (y 0).val)
    (fun u => V u (128 * ((y 1).val / 128) + e)) l (256 * b + (y 0).val) : EReal)) w ⟨(y 1).val % 128, Nat.mod_lt _ (by norm_num)⟩

variable (c : Dev nD) (i : grid0.Coords) (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S256x512 .bf16) (harg7 : arg7.IsWhole)
    (x0 : Vec Ideal S256x512 .bf16) (x1 : Vec Ideal S2048x512 .bf16) (x2 : Vec Ideal S8x512x256 .bf16)

/-- What the body leaves in its output block. -/
theorem out_eq {Q K V : ℕ → ℕ → ℝ} (R : Real3 x0 x1 x2 Q K V) (x3 : Vec Ideal S4x64 .f32) (x4 : Vec Ideal S1x128 .f32)
    (l : ℝ) (hl : lamOf (fun i x => x3 (ix2 i x)) = (l : EReal)) :
    out0_A_5 c i arg2 harg2 arg3 harg3 arg4 harg4 arg5 harg5 arg6 harg6 arg7 harg7 x0 x1 x2 x3 x4 = blockOut Q K V (fun e => x4 (ix2 0 e)) l (i 1).val := by
  unfold out0_A_5
  rw [View.read_writes_junk_eq_canon]
  funext y
  refine View.canon_apply_of_pieces (blockOut Q K V (fun e => x4 (ix2 0 e)) l (i 1).val) _ ?_ y (cover0_A_5 c i arg2 harg2 arg3 harg3 arg4 harg4 arg5 harg5 arg6 harg6 arg7 harg7 x0 x1 x2 x3 x4 y)
  rw [run_eq]
  have key : ∀ (h : Fin 4) (x : S256x128.Idx) (y : S256x512.Idx), (y 0).val = (x 0).val → (y 1).val = 128 * h.val + (x 1).val →
      pieceOf c i arg2 harg2 arg3 harg3 arg4 harg4 arg5 harg5 arg6 harg6 arg7 harg7 x0 x1 x2 x3 x4 h x = blockOut Q K V (fun e => x4 (ix2 0 e)) l (i 1).val y := by
    intro h x y h0 h1
    obtain ⟨r, e, rfl⟩ : ∃ (r : Fin 256) (e : Fin 128), x = ix2 r e := ⟨x 0, x 1, eq_ix2 x⟩
    have he : e.val < 128 := e.isLt
    replace h0 : (y 0).val = r.val := h0
    replace h1 : (y 1).val = 128 * h.val + e.val := h1
    have d : (y 1).val / 128 = h.val := by omega
    have md : (⟨(y 1).val % 128, Nat.mod_lt _ (by norm_num)⟩ : Fin 128) = e := Fin.ext (by show (y 1).val % 128 = e.val; omega)
    rw [pieceOf_apply c i arg2 harg2 arg3 harg3 arg4 harg4 arg5 harg5 arg6 harg6 arg7 harg7 x0 x1 x2 R x3 x4 l hl]
    unfold blockOut
    rw [md, d, h0]
  intro p hp
  simp only [List.mem_cons, List.not_mem_nil, or_false] at hp
  rcases hp with rfl | rfl | rfl | rfl
  · exact fun x => key 3 x _ (by show 0 + 1 * (x 0).val = _; omega) (by show 384 + 1 * (x 1).val = 128 * 3 + _; omega)
  · exact fun x => key 2 x _ (by show 0 + 1 * (x 0).val = _; omega) (by show 256 + 1 * (x 1).val = 128 * 2 + _; omega)
  · exact fun x => key 1 x _ (by show 0 + 1 * (x 0).val = _; omega) (by show 128 + 1 * (x 1).val = 128 * 1 + _; omega)
  · exact fun x => key 0 x _ (by show 0 + 1 * (x 0).val = _; omega) (by show 0 + 1 * (x 1).val = 128 * 0 + _; omega)

/-- The block index of every window at a grid point, and the point's two coordinates. -/
theorem point : ∀ t : Fin cfg0.N, (win0_0.index t (0 : Fin 2) = t.val ∧ win0_0.index t (1 : Fin 2) = 0)
    ∧ (win0_1.index t (0 : Fin 2) = t.val / 8 ∧ win0_1.index t (1 : Fin 2) = 0)
    ∧ (win0_2.index t (0 : Fin 3) = t.val / 8 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (grid0.coords t 1).val = t.val % 8 :=
  (by decide +kernel : ∀ t : Fin grid0.N, _)

variable (m : (ℓ : Loc nD τ sig) → Buf (Elt Ideal) ℓ)

theorem iblk0_apply (c : Dev nD) (t : Fin cfg0.N) (r : Fin 256) (x : Fin 512) (h : 256 * t.val + r.val < 16384) :
    iblk m c 0 t (ix2 r x) = V m c main_arg0 (ix2 ⟨256 * t.val + r.val, h⟩ x) := by
  obtain ⟨⟨e0, e1⟩, -⟩ := point t
  show V m c main_arg0 (((cfg0.win 0).blk t).view.emb (ix2 r x)) = _
  congr 1
  funext a; apply Fin.ext
  match a with
  | ⟨0, _⟩ => show win0_0.index t (0 : Fin 2) * 256 + 1 * r.val = 256 * t.val + r.val; omega
  | ⟨1, _⟩ => show win0_0.index t (1 : Fin 2) * 512 + 1 * x.val = x.val; omega

theorem iblk1_apply (c : Dev nD) (t : Fin cfg0.N) (r : Fin 2048) (x : Fin 512) (h : 2048 * (t.val / 8) + r.val < 16384) :
    iblk m c 1 t (ix2 r x) = V m c main_arg1 (ix2 ⟨2048 * (t.val / 8) + r.val, h⟩ x) := by
  obtain ⟨-, ⟨e0, e1⟩, -⟩ := point t
  show V m c main_arg1 (((cfg0.win 1).blk t).view.emb (ix2 r x)) = _
  congr 1
  funext a; apply Fin.ext
  match a with
  | ⟨0, _⟩ => show win0_1.index t (0 : Fin 2) * 2048 + 1 * r.val = 2048 * (t.val / 8) + r.val; omega
  | ⟨1, _⟩ => show win0_1.index t (1 : Fin 2) * 512 + 1 * x.val = x.val; omega

theorem iblk2_apply (c : Dev nD) (t : Fin cfg0.N) (g : Fin 8) (x : Fin 512) (u : Fin 256) (h : 8 * (t.val / 8) + g.val < 64) :
    iblk m c 2 t (ix3 g x u) = V m c main_arg2 (ix3 ⟨8 * (t.val / 8) + g.val, h⟩ x u) := by
  obtain ⟨-, -, ⟨e0, e1, e2⟩, -⟩ := point t
  show V m c main_arg2 (((cfg0.win 2).blk t).view.emb (ix3 g x u)) = _
  congr 1
  funext a; apply Fin.ext
  match a with
  | ⟨0, _⟩ => show win0_2.index t (0 : Fin 3) * 8 + 1 * g.val = 8 * (t.val / 8) + g.val; omega
  | ⟨1, _⟩ => show win0_2.index t (1 : Fin 3) * 512 + 1 * x.val = x.val; omega
  | ⟨2, _⟩ => show win0_2.index t (2 : Fin 3) * 256 + 1 * u.val = u.val; omega

theorem iblk3_eq (c : Dev nD) (t : Fin cfg0.N) : iblk m c 3 t = V m c main_arg3 := by
  obtain ⟨-, -, -, ⟨e0, e1⟩, -⟩ := point t
  funext j
  show V m c main_arg3 (((cfg0.win 3).blk t).view.emb j) = V m c main_arg3 j
  congr 1
  funext a; apply Fin.ext
  match a with
  | ⟨0, _⟩ => show win0_3.index t (0 : Fin 2) * 4 + 1 * (j 0).val = (j 0).val; omega
  | ⟨1, _⟩ => show win0_3.index t (1 : Fin 2) * 64 + 1 * (j 1).val = (j 1).val; omega

theorem iblk4_eq (c : Dev nD) (t : Fin cfg0.N) : iblk m c 4 t = V m c main_arg4 := by
  obtain ⟨-, -, -, -, ⟨e0, e1⟩, -⟩ := point t
  funext j
  show V m c main_arg4 (((cfg0.win 4).blk t).view.emb j) = V m c main_arg4 j
  congr 1
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- Where a place of a point's output block lies in the array. -/
theorem emb5 (t : Fin cfg0.N) (j : S256x512.Idx) :
    ((((cfg0.win 5).blk t).view.emb j) 0).val = 256 * t.val + (j 0).val ∧ ((((cfg0.win 5).blk t).view.emb j) 1).val = (j 1).val := by
  obtain ⟨-, -, -, -, -, ⟨e0, e1⟩, -⟩ := point t
  constructor
  · show win0_5.index t (0 : Fin 2) * 256 + 1 * (j 0).val = _; omega
  · show win0_5.index t (1 : Fin 2) * 512 + 1 * (j 1).val = _; omega

/-- Every place of the array is in the block of the point with its row. -/
theorem covered5 (y : S16384x512.Idx) : ∃ t : Fin cfg0.N, (cfg0.win 5).flush t = true ∧ y ∈ ((cfg0.win 5).blk t).view.set := by
  have h0 : (y 0).val < 16384 := (y 0).isLt
  have h1 : (y 1).val < 512 := (y 1).isLt
  have hN : cfg0.N = 64 := by decide +kernel
  let t : Fin cfg0.N := ⟨(y 0).val / 256, by omega⟩
  refine ⟨t, flush0_5 t, ?_⟩
  have e : ((cfg0.win 5).blk t).view.emb (ix2 (⟨(y 0).val % 256, by omega⟩ : Fin 256) (⟨(y 1).val, h1⟩ : Fin 512)) = y := by
    have := emb5 t (ix2 (⟨(y 0).val % 256, by omega⟩ : Fin 256) (⟨(y 1).val, h1⟩ : Fin 512))
    funext a; apply Fin.ext
    match a with
    | ⟨0, _⟩ => refine this.1.trans ?_; show 256 * ((y 0).val / 256) + (y 0).val % 256 = (y 0).val; omega
    | ⟨1, _⟩ => exact this.2
  rw [← e]
  exact ((cfg0.win 5).blk t).view.emb_mem_set _

/-- The array after the run is the reference's result, where queries, keys, values and the factor are real numbers. -/
theorem final5 (c : Dev nD) {Q K W : ℕ → ℕ → ℝ}
    (hq : ∀ (r : Fin 16384) (x : Fin 512), V m c main_arg0 (ix2 r x) = (Q r x : EReal))
    (hk : ∀ (r : Fin 16384) (x : Fin 512), V m c main_arg1 (ix2 r x) = (K r x : EReal))
    (hv : ∀ (g : Fin 64) (x : Fin 512) (u : Fin 256), V m c main_arg2 (ix3 g x u) = (W (256 * g + u) x : EReal))
    (l : ℝ) (hl : lamOf (fun i x => V m c main_arg3 (ix2 i x)) = (l : EReal)) :
    (dats m 0 c).arrAt 5 cfg0.N
      = Ref.result (V m c main_arg0) (V m c main_arg1) (V m c main_arg2) (V m c main_arg3) (V m c main_arg4) := by
  refine (dats m 0 c).arrAt_eq_of_cover 5 (Ref.result (V m c main_arg0) (V m c main_arg1) (V m c main_arg2) (V m c main_arg3) (V m c main_arg4)) (fun t _ => ?_) covered5
  have hN : cfg0.N = 64 := by decide +kernel
  have ht : t.val < 64 := hN ▸ t.isLt
  have hc : (grid0.coords t 1).val = t.val % 8 := (point t).2.2.2.2.2.2
  have R : Real3 (iblk m c 0 t) (iblk m c 1 t) (iblk m c 2 t) (fun r => Q (2048 * (t.val / 8) + (256 * (t.val % 8) + r)))
      (fun r => K (2048 * (t.val / 8) + r)) (fun r => W (2048 * (t.val / 8) + r)) := by
    refine ⟨fun r x => ?_, fun r x => ?_, fun g x u => ?_⟩
    · rw [iblk0_apply m c t r x (by omega), hq]
      have e : 256 * t.val + r.val = 2048 * (t.val / 8) + (256 * (t.val % 8) + r.val) := by omega
      show ((Q (256 * t.val + r.val) x : ℝ) : EReal) = _
      rw [e]
    · rw [iblk1_apply m c t r x (by omega), hk]
    · rw [iblk2_apply m c t g x u (by omega), hv]
      have e : 256 * (8 * (t.val / 8) + g.val) + u.val = 2048 * (t.val / 8) + (256 * g.val + u.val) := by omega
      show ((W (256 * (8 * (t.val / 8) + g.val) + u.val) x : ℝ) : EReal) = _
      rw [e]
  rw [flushed5_A, out_eq _ _ _ _ _ _ _ _ _ _ _ _ _ _ _ _ _ R _ _ l (by rw [iblk3_eq]; exact hl), iblk4_eq, hc]
  funext j
  have j0 : (j 0).val < 256 := (j 0).isLt
  have j1 : (j 1).val < 512 := (j 1).isLt
  have he : ((cfg0.win 5).blk t).view.emb j = ix2 (⟨2048 * (t.val / 8) + (256 * (t.val % 8) + (j 0).val), by omega⟩ : Fin 16384)
      (⟨128 * ((j 1).val / 128) + (j 1).val % 128, by omega⟩ : Fin 512) := by
    have := emb5 t j
    funext a; apply Fin.ext
    match a with
    | ⟨0, _⟩ => refine this.1.trans ?_; show 256 * t.val + (j 0).val = 2048 * (t.val / 8) + (256 * (t.val % 8) + (j 0).val); omega
    | ⟨1, _⟩ => refine this.2.trans ?_; show (j 1).val = 128 * ((j 1).val / 128) + (j 1).val % 128; omega
  show blockOut _ _ _ _ l (t.val % 8) j = (Ref.result (F := Ideal) (V m c main_arg0) (V m c main_arg1) (V m c main_arg2) (V m c main_arg3) (V m c main_arg4)) (((cfg0.win 5).blk t).view.emb j)
  rw [he]
  exact (Ref.result_apply hq hk hv (V m c main_arg3) l hl (V m c main_arg4) ⟨t.val / 8, by omega⟩ ⟨256 * (t.val % 8) + (j 0).val, by omega⟩
    ⟨(j 1).val / 128, by omega⟩ ⟨(j 1).val % 128, by omega⟩).symm

end Cert.Attn
end
-- ==== Proof.Attn.Finite.lean ====
module

public import proofs.«01_k».proof.Pre_finite
public import Idealize.ShloMosaic.Lib.ReduceAll
public import Idealize.ShloMosaic.Lib.ValueIdx
public import Idealize.ShloMosaic.PureOps.Ideal

/-!
# Finite arguments

The precondition's four conjunctions, each over all of an array, say that every element is a real number.
-/

@[expose] public section

noncomputable section

namespace Cert.Attn

open Idealize.ShloMosaic

/-- The shape relations the precondition's operations take. -/
theorem finiteFacts : Cert.Pre_finite.Facts where
  bitsLt_bf16_f32 := by decide
  bcast_S_S16384x512 := by decide
  reducesTo_S16384x512_S_d0_1 := by decide
  h_S_ := by decide
  bcast_S_S64x512x256 := by decide
  reducesTo_S64x512x256_S_d0_1_2 := by decide
  bcast_S_S4x64 := by decide
  reducesTo_S4x64_S_d0_1 := by decide

/-- A number whose absolute value is below plus infinity is real. -/
theorem real_of_abs_lt {x : EReal} (h : Ideal.cmp .olt (max x (-x)) (Ideal.ofBits .f32 0x7F800000#32) = 1#1) :
    ∃ z : ℝ, x = (z : EReal) := by
  have htop : Ideal.ofBits .f32 0x7F800000#32 = ⊤ := by simp [Ideal.ofBits, Ideal.ieee]
  have hlt : max x (-x) < ⊤ := by
    rw [htop] at h
    by_contra hc
    simp [Ideal.cmp, hc] at h
  refine ⟨x.toReal, (EReal.coe_toReal ?_ ?_).symm⟩
  · rintro rfl; simp at hlt
  · rintro rfl; simp at hlt

/-- If all of an array's absolute values are below plus infinity then all of its elements are real. -/
theorem real_of_all {s t u : Shape} [Subsingleton t.Idx] {axes : List (Fin s.rank)} (x : s.Idx → EReal) (p : s.Idx → BitVec 1)
    (hp : ∀ i, p i = Ideal.cmp .olt (max (x i) (-(x i))) (Ideal.ofBits .f32 0x7F800000#32)) (init : u.Idx → BitVec 1)
    (h : s.ReducesTo axes t) (hu : 0 < u.numel) (j : t.Idx) (e : Host.reduce IntOp.andi p init h hu j = 1#1) (i : s.Idx) :
    ∃ z : ℝ, x i = (z : EReal) :=
  real_of_abs_lt ((hp i).symm.trans (Host.reduce_andi_all p init h hu j e i))

instance : Subsingleton Cert.Pre_finite.S_.Idx := ⟨fun _ _ => funext fun a => a.elim0⟩

open Cert.Pre_finite in
/-- The precondition, read: the queries, keys, values and the four vectors are real. -/
theorem finite_args [hF : Cert.Pre_finite.Facts] (q k : FVec Ideal S16384x512 .bf16) (v : FVec Ideal S64x512x256 .bf16) (y : FVec Ideal S4x64 .f32)
    (w : FVec Ideal S1x128 .f32) (h : Cert.Pre_finite.fn q k v y w = fun _ => 1#1) :
    (∀ i, ∃ z : ℝ, (q i : EReal) = (z : EReal)) ∧ (∀ i, ∃ z : ℝ, (k i : EReal) = (z : EReal)) ∧ (∀ i, ∃ z : ℝ, (v i : EReal) = (z : EReal))
      ∧ ∀ i, ∃ z : ℝ, (y i : EReal) = (z : EReal) := by
  have h0 := congrFun h (fun a => a.elim0)
  obtain ⟨h1, hy⟩ := IntOp.andi_eq_one.1 h0
  obtain ⟨h2, hv⟩ := IntOp.andi_eq_one.1 h1
  obtain ⟨hq, hk⟩ := IntOp.andi_eq_one.1 h2
  exact ⟨real_of_all (fun i => (q i : EReal)) _ (fun _ => rfl) _ _ _ _ hq, real_of_all (fun i => (k i : EReal)) _ (fun _ => rfl) _ _ _ _ hk,
    real_of_all (fun i => (v i : EReal)) _ (fun _ => rfl) _ _ _ _ hv, real_of_all (fun i => (y i : EReal)) _ (fun _ => rfl) _ _ _ _ hy⟩

/-- Matrices of real numbers, as functions of two numbers. -/
theorem exists_matrix {a b : ℕ} (x : Fin a → Fin b → EReal) (h : ∀ i j, ∃ z : ℝ, x i j = (z : EReal)) :
    ∃ X : ℕ → ℕ → ℝ, ∀ i j, x i j = (X i j : EReal) := by
  choose z hz using h
  refine ⟨fun n m => if hn : n < a ∧ m < b then z ⟨n, hn.1⟩ ⟨m, hn.2⟩ else 0, fun i j => ?_⟩
  rw [hz]; simp only [i.isLt, j.isLt, and_self, dif_pos]

end Cert.Attn
end
-- ==== Proof.Attn.Claims.lean ====
module

public import proofs.«01_k».proof.Defs
public import proofs.«01_k».proof.Proof.Gen.Kernel.Frame
public import proofs.«01_k».proof.Proof.Gen.ReferenceIdeal.Run
public import proofs.«01_k».proof.Proof.Attn.Out
public import proofs.«01_k».proof.Proof.Attn.Finite
public import Idealize.ShloMosaic.Lib.Quiescent

/-!
# The attention's claims

The kernel's and the reference's runs, and that their results are equal.
-/

@[expose] public section

set_option maxRecDepth 16384

noncomputable section

namespace Cert.Attn

open Idealize.ShloMosaic Idealize.ShloMosaic.TcCoe Idealize.SL.Sem

theorem frameP : Cert.quiescent_Kernel := fun m ρ _ => Cert.Kernel.Gen.frame m ρ

theorem framePI : Cert.quiescent_KernelIdeal := fun m ρ _ => Cert.KernelIdeal.Gen.frame m ρ

/-- The reference runs, keeps its arguments, and has no semaphore that could be left above zero. -/
theorem frameRI : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The mask's large negative number names minus infinity. -/
theorem preserves : Cert.preserves_Kernel_KernelIdeal := IdealRules.named_const.statement Cert.KernelIdeal.κ "mask" .f32 _ ⊥ rfl

open Cert.KernelIdeal Cert.KernelIdeal.Gen in
/-- The array that the kernel leaves is the reference's result of the arguments. -/
theorem array_eq [Cert.Pre_finite.Facts] (m : (ℓ : Loc nD τ sig) → Buf (Elt Ideal) ℓ) (hm : Cert.Pre_KernelIdeal_finite m) (c : Dev nD) :
    (dats m 0 c).arrAt 5 cfg0.N
      = Ref.result (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  obtain ⟨hq, hk, hv, hy⟩ := finite_args _ _ _ _ _ (hm c)
  obtain ⟨Q, hQ⟩ := exists_matrix (fun (r : Fin 16384) (x : Fin 512) => (V m c main_arg0 (ix2 r x) : EReal)) (fun r x => by rw [V_main_arg0]; exact hq _)
  obtain ⟨K, hK⟩ := exists_matrix (fun (r : Fin 16384) (x : Fin 512) => (V m c main_arg1 (ix2 r x) : EReal)) (fun r x => by rw [V_main_arg1]; exact hk _)
  obtain ⟨W, hW⟩ := exists_matrix (fun (r : Fin 16384) (x : Fin 512) => (V m c main_arg2 (ix3 (⟨r.val / 256, by omega⟩ : Fin 64) x (⟨r.val % 256, by omega⟩ : Fin 256)) : EReal))
    (fun r x => by rw [V_main_arg2]; exact hv _)
  obtain ⟨Y, hY⟩ := exists_matrix (fun (r : Fin 4) (x : Fin 64) => (V m c main_arg3 (ix2 r x) : EReal)) (fun r x => by rw [V_main_arg3]; exact hy _)
  obtain ⟨l, hl⟩ := exists_lamOf (fun (r : Fin 4) (x : Fin 64) => (V m c main_arg3 (ix2 r x) : EReal)) (fun r x => Y r x) hY
  rw [final5 m c hQ hK (W := W) (fun g x u => ?_) l hl, V_main_arg0, V_main_arg1, V_main_arg2, V_main_arg3, V_main_arg4]
  have h := hW (⟨256 * g.val + u.val, by omega⟩ : Fin 16384) x
  have e1 : (⟨(256 * g.val + u.val) / 256, by omega⟩ : Fin 64) = g := Fin.ext (by show (256 * g.val + u.val) / 256 = g.val; omega)
  have e2 : (⟨(256 * g.val + u.val) % 256, by omega⟩ : Fin 256) = u := Fin.ext (by show (256 * g.val + u.val) % 256 = u.val; omega)
  simp only [e1, e2] at h
  exact h

/-- From finite arguments the kernel's result and the reference's are equal. -/
theorem algebraic [Cert.Pre_finite.Facts] : Cert.algebraic_KernelIdeal_ReferenceIdeal_pre_finite := by
  intro m g m' g' hm hagree
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨a0, a1, a2, a3, a4⟩ := hagree c
  rw [Ref.res_eq]
  exact (congr (congr (congr (congr (congrArg (Ref.result (F := Ideal)) a0) a1) a2) a3) a4).trans (array_eq m hm c).symm

end Cert.Attn
end
-- ==== Proof.Gated.Spec.lean ====
module

public import Idealize.ShloMosaic.Lib.Pointwise

/-!
# The gated feed-forward and the layer norm, over the extended reals

One row of inputs goes through two products, the first of which gates the second, and the hidden row through a third.
A layer norm subtracts the mean of a row and divides by the root of its variance.
-/

@[expose] public section

noncomputable section

namespace Cert.Gated

open Idealize.ShloMosaic Finset

/-- A hidden unit: `a` times the logistic function of `a`, times `u`. -/
def gate (a u : EReal) : EReal := a * Ideal.div 1 (1 + Ideal.exp (-a)) * u

/-- Hidden unit `j` of the input row `x`. -/
def hidden {D M : ℕ} (x : Fin D → EReal) (wg wu : Fin D → Fin M → EReal) (j : Fin M) : EReal :=
  gate (∑ d, x d * wg d j) (∑ d, x d * wu d j)

/-- Output `o` of the input row `x`. -/
def swiglu {D M N : ℕ} (x : Fin D → EReal) (wg wu : Fin D → Fin M → EReal) (wd : Fin M → Fin N → EReal) (o : Fin N) : EReal :=
  ∑ j, hidden x wg wu j * wd j o

/-- The hidden units in two halves: the output is the sum of what each half gives. -/
theorem swiglu_halves {D M N : ℕ} (x : Fin D → EReal) (wg wu : Fin D → Fin (M + M) → EReal) (wd : Fin (M + M) → Fin N → EReal) (o : Fin N) :
    swiglu x (fun d j => wg d (Fin.castAdd M j)) (fun d j => wu d (Fin.castAdd M j)) (fun j o => wd (Fin.castAdd M j) o) o
      + swiglu x (fun d j => wg d (Fin.natAdd M j)) (fun d j => wu d (Fin.natAdd M j)) (fun j o => wd (Fin.natAdd M j) o) o
      = swiglu x wg wu wd o :=
  (Fin.sum_univ_add (fun j => hidden x wg wu j * wd j o)).symm

/-- The mean of a row, by the count `n`. -/
def mean {N : ℕ} (n : EReal) (y : Fin N → EReal) : EReal := Ideal.div (∑ x, y x) n

/-- A row less its mean. -/
def centred {N : ℕ} (n : EReal) (y : Fin N → EReal) (x : Fin N) : EReal := y x - mean n y

/-- The layer norm of the row `y` with the weights `g`, `b` and the small number `e`. -/
def normed {N : ℕ} (n e : EReal) (y g b : Fin N → EReal) (o : Fin N) : EReal :=
  centred n y o * Ideal.rsqrt (mean n (fun x => centred n y x * centred n y x) + e) * g o + b o

end Cert.Gated
end
-- ==== Proof.Ffn.Body.lean ====
module

public import proofs.«01_k».proof.Proof.Gen.FfnIdeal.Value
public import proofs.«01_k».proof.Proof.Gated.Spec

/-!
# The dense feed-forward's body

The first of two points stores the part of the first half of the hidden units, the second adds the other half's part
and writes the layer norm of the sum.
-/

@[expose] public section

set_option maxRecDepth 16384

noncomputable section

namespace Cert.Ffn

open Idealize.ShloMosaic Idealize.ShloMosaic.TcCoe Cert.FfnIdeal Cert.FfnIdeal.Gen

theorem origin : (![0, 0] : Fin 2 → ℕ) = fun _ => 0 := by funext a; fin_cases a <;> rfl

section
variable {F : FTy → Type} [FloatOps F]
variable (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole)
  (x0 : Vec F S512x1024 .bf16) (x1 : Vec F S512x1024 .f32) (x2 : Vec F S1024x1408 .bf16) (x3 : Vec F S1024x1408 .bf16) (x4 : Vec F S1408x1024 .bf16) (x5 : Vec F S1x1024 .f32) (x6 : Vec F S1x1024 .f32) (xs0 : Vec F S512x1024 .f32)

/-- The first point leaves in the accumulator the first half's part. -/
theorem first_eq (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6
      = k0_pay1 x0 x2 x3 x4 := by
  unfold sout0_A_0
  rw [View.read_writes_junk_eq_canon]
  unfold kernelRun0_A
  dsimp only
  rw [View.canon_unit_zero origin]
  unfold k0_pay2
  simp only [View.readAt_eq_ld, harg2.read_unread, harg4.read_unread, harg5.read_unread, harg6.read_unread, View.ld_unit_zero (S := S512x1024) origin,
    View.ld_unit_zero (S := S1024x1408) origin, View.ld_unit_zero (S := S1408x1024) origin, shapeCast_self]

/-- The second point writes the layer norm of the input's multiple and the two parts. -/
theorem second_eq (hc0 : ¬cond0_0 i) (hc1 : cond0_1 i) (hc2 : cond0_2 i) :
    out0_B_7 c i arg2 harg2 arg3 harg3 arg4 harg4 arg5 harg5 arg6 harg6 arg7 harg7 arg8 harg8 arg9 harg9 arg10 harg10 arg11 harg11 hc0 hc1 hc2 x0 x1 x2 x3 x4 x5 x6 xs0
      = k0_pay4 x1 (addf xs0 (k0_pay1 x0 x2 x3 x4)) x5 x6 := by
  unfold out0_B_7
  rw [View.read_writes_junk_eq_canon]
  unfold kernelRun0_B
  dsimp only
  sl_unfold_words
  rw [View.canon_unit_zero origin, View.readCov_unit_zero _ origin]
  unfold k0_pay3
  simp only [View.readAt_eq_ld, harg2.read_unread, harg3.read_unread, harg4.read_unread, harg5.read_unread, harg6.read_unread, harg7.read_unread,
    harg8.read_unread, harg11.read_unread, View.ld_unit_zero (S := S512x1024) origin, View.ld_unit_zero (S := S1x1024) origin,
    View.ld_unit_zero (S := S1024x1408) origin, View.ld_unit_zero (S := S1408x1024) origin, shapeCast_self]

/-- … and the same in the narrow format. -/
theorem second_narrow_eq (hc0 : ¬cond0_0 i) (hc1 : cond0_1 i) (hc2 : cond0_2 i) :
    out0_B_8 c i arg2 harg2 arg3 harg3 arg4 harg4 arg5 harg5 arg6 harg6 arg7 harg7 arg8 harg8 arg9 harg9 arg10 harg10 arg11 harg11 hc0 hc1 hc2 x0 x1 x2 x3 x4 x5 x6 xs0
      = truncf .bf16 (k0_pay4 x1 (addf xs0 (k0_pay1 x0 x2 x3 x4)) x5 x6) bitsLt_bf16_f32 := by
  unfold out0_B_8
  rw [View.read_writes_junk_eq_canon]
  unfold kernelRun0_B
  dsimp only
  sl_unfold_words
  rw [View.canon_unit_zero origin, View.readCov_unit_zero _ origin]
  unfold k0_pay5 k0_pay3
  simp only [View.readAt_eq_ld, harg2.read_unread, harg3.read_unread, harg4.read_unread, harg5.read_unread, harg6.read_unread, harg7.read_unread,
    harg8.read_unread, harg11.read_unread, View.ld_unit_zero (S := S512x1024) origin, View.ld_unit_zero (S := S1x1024) origin,
    View.ld_unit_zero (S := S1024x1408) origin, View.ld_unit_zero (S := S1408x1024) origin, shapeCast_self]

end

/-- A part, read at a row and a column. -/
theorem part_apply (x : Vec Ideal S512x1024 .bf16) (wg wu : Vec Ideal S1024x1408 .bf16) (wd : Vec Ideal S1408x1024 .bf16) (r : Fin 512) (o : Fin 1024) :
    k0_pay1 x wg wu wd (ix2 r o)
      = Gated.swiglu (fun d => (x (ix2 r d) : EReal)) (fun d j => wg (ix2 d j)) (fun d j => wu (ix2 d j)) (fun j o => wd (ix2 j o)) o := by
  unfold k0_pay1
  pointwise []
  simp only [zero_sub]
  rfl

/-- The factor of the residual, the length of a row and the layer norm's small number, as the words that the program has. -/
abbrev alpha : EReal := Ideal.ofBits .f32 1071072509#32
abbrev count : EReal := Ideal.ofBits .f32 1149239296#32
abbrev small : EReal := Ideal.ofBits .f32 925353388#32

/-- The layer norm, read at a row and a column. -/
theorem norm_apply (x f : Vec Ideal S512x1024 .f32) (g b : Vec Ideal S1x1024 .f32) (r : Fin 512) (o : Fin 1024) :
    k0_pay4 x f g b (ix2 r o)
      = Gated.normed count small (fun o => alpha * (x (ix2 r o) : EReal) + f (ix2 r o)) (fun o => g (ix2 0 o)) (fun o => b (ix2 0 o)) o := by
  unfold k0_pay4
  pointwise []
  rfl

end Cert.Ffn
end
-- ==== Proof.Ffn.Ref.lean ====
module

public import proofs.«01_k».proof.Proof.Gen.FfnReferenceIdeal.Run
public import proofs.«01_k».proof.Proof.Gated.Spec

/-!
# The dense feed-forward's reference

The reference in its stages: the hidden units, the sum that is normed, the layer norm.
-/

@[expose] public section

set_option maxRecDepth 16384

noncomputable section

namespace Cert.Ffn.Ref

open Cert.FfnReferenceIdeal Cert.FfnReferenceIdeal.Gen Idealize.ShloMosaic Idealize.ShloMosaic.TcCoe

section
variable {F : FTy → Type} [FloatOps F]

/-- The product with a weight matrix into the hidden width. -/
def wide (x : Vec F S16384x1024 .bf16) (w : Vec F S1024x2816 .bf16) : FVec F S16384x2816 .f32 :=
  Host.dotGeneral dot_S16384x1024_S1024x2816_S16384x2816_1_0_0_1_n_n none (extf .f32 x bitsLt_bf16_f32) (extf .f32 w bitsLt_bf16_f32)

/-- One over every place. -/
def ones : FVec F S16384x2816 .f32 := broadcastInDim S16384x2816 ![] bcast_S_S16384x2816 (constant S_ .f32 0x3F800000#32)

/-- The hidden units. -/
def hidden (a u : FVec F S16384x2816 .f32) : FVec F S16384x2816 .f32 :=
  mulf (mulf a (Host.divf ones (addf ones (Host.exp (Host.negf a))))) u

/-- The feed-forward and the residual. -/
def total (xb : Vec F S16384x1024 .bf16) (x : Vec F S16384x1024 .f32) (wg wu : Vec F S1024x2816 .bf16) (wd : Vec F S2816x1024 .bf16) : FVec F S16384x1024 .f32 :=
  addf (mulf (broadcastInDim S16384x1024 ![] bcast_S_S16384x1024 (constant S_ .f32 0x3FD744FD#32)) x)
    (Host.dotGeneral dot_S16384x2816_S2816x1024_S16384x1024_1_0_0_1_n_n none (hidden (wide xb wg) (wide xb wu)) (extf .f32 wd bitsLt_bf16_f32))

/-- Each row's mean. -/
def means (y : FVec F S16384x1024 .f32) : FVec F S16384x1 .f32 :=
  Host.divf (broadcastInDim S16384x1 ![0] bcast_S16384_S16384x1_0 (Host.reduceAdd y (constant S_ .f32 0x00000000#32) reducesTo_S16384x1024_S16384_d1 h_S_))
    (broadcastInDim S16384x1 ![] bcast_S_S16384x1 (constant S_ .f32 0x44800000#32))

/-- The rows less their means. -/
def centred (y : FVec F S16384x1024 .f32) : FVec F S16384x1024 .f32 :=
  subf y (broadcastInDim S16384x1024 ![0, 1] bcast_S16384x1_S16384x1024_0_1 (means y))

/-- A row of weights for every row. -/
def everyRow (g : Vec F S1x1024 .f32) : FVec F S16384x1024 .f32 :=
  broadcastInDim S16384x1024 ![0, 1] bcast_S1x1024_S16384x1024_0_1
    (broadcastInDim S1x1024 ![1] bcast_S1024_S1x1024_1 (shapeCast S1024 g shapeCasts_S1x1024_S1024))

/-- The layer norm. -/
def normed (y : FVec F S16384x1024 .f32) (g b : Vec F S1x1024 .f32) : FVec F S16384x1024 .f32 :=
  addf (mulf (mulf (centred y) (broadcastInDim S16384x1024 ![0, 1] bcast_S16384x1_S16384x1024_0_1
    (Host.rsqrt (addf (means (mulf (centred y) (centred y))) (broadcastInDim S16384x1 ![] bcast_S_S16384x1 (constant S_ .f32 0x3727C5AC#32))))))
    (everyRow g)) (everyRow b)

variable (m : (ℓ : Loc nD τ sig) → Buf (Elt F) ℓ) (c : Dev nD)

theorem res0_eq : Value.res_out0 m c
    = normed (total (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
      (m ((c.tc : Thread nD τ).loc main_arg5)) (m ((c.tc : Thread nD τ).loc main_arg6)) := rfl

theorem res1_eq : Value.res_out1 m c = truncf .bf16 (Value.res_out0 m c) bitsLt_bf16_f32 := rfl

end

/-- The sum that is normed, read at a row and a column. -/
theorem total_apply (xb : Vec Ideal S16384x1024 .bf16) (x : Vec Ideal S16384x1024 .f32) (wg wu : Vec Ideal S1024x2816 .bf16) (wd : Vec Ideal S2816x1024 .bf16)
    (r : Fin 16384) (o : Fin 1024) : total xb x wg wu wd (ix2 r o)
      = Ideal.ofBits .f32 1071072509#32 * (x (ix2 r o) : EReal)
        + Gated.swiglu (fun d => (xb (ix2 r d) : EReal)) (fun d j => wg (ix2 d j)) (fun d j => wu (ix2 d j)) (fun j o => wd (ix2 j o)) o := by
  pointwise [total, hidden, wide, ones]
  rfl

theorem means_apply (y : FVec Ideal S16384x1024 .f32) (r : Fin 16384) :
    means y (ix2 r 0) = Gated.mean (Ideal.ofBits .f32 1149239296#32) (fun o : Fin 1024 => (y (ix2 r o) : EReal)) := by
  unfold Gated.mean
  pointwise [means]

theorem centred_apply (y : FVec Ideal S16384x1024 .f32) (r : Fin 16384) (o : Fin 1024) :
    centred y (ix2 r o) = Gated.centred (Ideal.ofBits .f32 1149239296#32) (fun o : Fin 1024 => (y (ix2 r o) : EReal)) o := by
  unfold Gated.centred
  pointwise [centred]
  rw [means_apply]

/-- The layer norm, read at a row and a column. -/
theorem normed_apply (y : FVec Ideal S16384x1024 .f32) (g b : Vec Ideal S1x1024 .f32) (r : Fin 16384) (o : Fin 1024) :
    normed y g b (ix2 r o) = Gated.normed (Ideal.ofBits .f32 1149239296#32) (Ideal.ofBits .f32 925353388#32)
      (fun o => (y (ix2 r o) : EReal)) (fun o => g (ix2 0 o)) (fun o => b (ix2 0 o)) o := by
  pointwise [normed, everyRow]
  simp only [centred_apply, means_apply]
  show _ = Gated.centred _ _ o * Ideal.rsqrt (Gated.mean _ (fun x => Gated.centred _ _ x * Gated.centred _ _ x) + _) * _ + _
  simp only [← centred_apply]
  rfl

end Cert.Ffn.Ref
end
-- ==== Proof.Ffn.Out.lean ====
module

public import proofs.«01_k».proof.Proof.Ffn.Body
public import proofs.«01_k».proof.Proof.Ffn.Ref

/-!
# The dense feed-forward's arrays

A block of rows passes two grid points. What the second writes is the block's rows of the reference's result.
-/

@[expose] public section

set_option maxRecDepth 16384

noncomputable section

namespace Cert.Ffn

open Idealize.ShloMosaic Idealize.ShloMosaic.TcCoe Cert.FfnIdeal Cert.FfnIdeal.Gen Cert.FfnIdeal.Value

/-- The block index of every window at a grid point. -/
theorem point : ∀ t : Fin cfg0.N, (win0_0.index t (0 : Fin 2) = t.val / 2 ∧ win0_0.index t (1 : Fin 2) = 0)
    ∧ (win0_1.index t (0 : Fin 2) = t.val / 2 ∧ win0_1.index t (1 : Fin 2) = 0)
    ∧ (win0_2.index t (0 : Fin 2) = 0 ∧ win0_2.index t (1 : Fin 2) = t.val % 2)
    ∧ (win0_3.index t (0 : Fin 2) = 0 ∧ win0_3.index t (1 : Fin 2) = t.val % 2)
    ∧ (win0_4.index t (0 : Fin 2) = t.val % 2 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val / 2 ∧ win0_7.index t (1 : Fin 2) = 0)
    ∧ (win0_8.index t (0 : Fin 2) = t.val / 2 ∧ win0_8.index t (1 : Fin 2) = 0) :=
  (by decide +kernel : ∀ t : Fin grid0.N, _)

variable (m : (ℓ : Loc nD τ sig) → Buf (Elt Ideal) ℓ) (c : Dev nD) (t : Fin cfg0.N)

theorem iblk0_apply (r : Fin 512) (x : Fin 1024) (g : Fin 16384) (hg : g.val = 512 * (t.val / 2) + r.val) :
    iblk m c 0 t (ix2 r x) = V m c main_arg0 (ix2 g x) := by
  obtain ⟨⟨e0, e1⟩, -⟩ := point t
  show V m c main_arg0 (((cfg0.win 0).blk t).view.emb (ix2 r x)) = _
  congr 1
  funext a; apply Fin.ext
  match a with
  | ⟨0, _⟩ => show win0_0.index t (0 : Fin 2) * 512 + 1 * r.val = g.val; omega
  | ⟨1, _⟩ => show win0_0.index t (1 : Fin 2) * 1024 + 1 * x.val = x.val; omega

theorem iblk1_apply (r : Fin 512) (x : Fin 1024) (g : Fin 16384) (hg : g.val = 512 * (t.val / 2) + r.val) :
    iblk m c 1 t (ix2 r x) = V m c main_arg1 (ix2 g x) := by
  obtain ⟨-, ⟨e0, e1⟩, -⟩ := point t
  show V m c main_arg1 (((cfg0.win 1).blk t).view.emb (ix2 r x)) = _
  congr 1
  funext a; apply Fin.ext
  match a with
  | ⟨0, _⟩ => show win0_1.index t (0 : Fin 2) * 512 + 1 * r.val = g.val; omega
  | ⟨1, _⟩ => show win0_1.index t (1 : Fin 2) * 1024 + 1 * x.val = x.val; omega

theorem iblk2_apply (d : Fin 1024) (j : Fin 1408) (k : Fin 2816) (hk : k.val = 1408 * (t.val % 2) + j.val) :
    iblk m c 2 t (ix2 d j) = V m c main_arg2 (ix2 d k) := by
  obtain ⟨-, -, ⟨e0, e1⟩, -⟩ := point t
  show V m c main_arg2 (((cfg0.win 2).blk t).view.emb (ix2 d j)) = _
  congr 1
  funext a; apply Fin.ext
  match a with
  | ⟨0, _⟩ => show win0_2.index t (0 : Fin 2) * 1024 + 1 * d.val = d.val; omega
  | ⟨1, _⟩ => show win0_2.index t (1 : Fin 2) * 1408 + 1 * j.val = k.val; omega

theorem iblk3_apply (d : Fin 1024) (j : Fin 1408) (k : Fin 2816) (hk : k.val = 1408 * (t.val % 2) + j.val) :
    iblk m c 3 t (ix2 d j) = V m c main_arg3 (ix2 d k) := by
  obtain ⟨-, -, -, ⟨e0, e1⟩, -⟩ := point t
  show V m c main_arg3 (((cfg0.win 3).blk t).view.emb (ix2 d j)) = _
  congr 1
  funext a; apply Fin.ext
  match a with
  | ⟨0, _⟩ => show win0_3.index t (0 : Fin 2) * 1024 + 1 * d.val = d.val; omega
  | ⟨1, _⟩ => show win0_3.index t (1 : Fin 2) * 1408 + 1 * j.val = k.val; omega

theorem iblk4_apply (j : Fin 1408) (o : Fin 1024) (k : Fin 2816) (hk : k.val = 1408 * (t.val % 2) + j.val) :
    iblk m c 4 t (ix2 j o) = V m c main_arg4 (ix2 k o) := by
  obtain ⟨-, -, -, -, ⟨e0, e1⟩, -⟩ := point t
  show V m c main_arg4 (((cfg0.win 4).blk t).view.emb (ix2 j o)) = _
  congr 1
  funext a; apply Fin.ext
  match a with
  | ⟨0, _⟩ => show win0_4.index t (0 : Fin 2) * 1408 + 1 * j.val = k.val; omega
  | ⟨1, _⟩ => show win0_4.index t (1 : Fin 2) * 1024 + 1 * o.val = o.val; omega

theorem iblk5_eq : iblk m c 5 t = V m c main_arg5 := by
  obtain ⟨-, -, -, -, -, ⟨e0, e1⟩, -⟩ := point t
  funext j
  show V m c main_arg5 (((cfg0.win 5).blk t).view.emb j) = V m c main_arg5 j
  congr 1
  funext a; apply Fin.ext
  match a with
  | ⟨0, _⟩ => show win0_5.index t (0 : Fin 2) * 1 + 1 * (j 0).val = (j 0).val; omega
  | ⟨1, _⟩ => show win0_5.index t (1 : Fin 2) * 1024 + 1 * (j 1).val = (j 1).val; omega

theorem iblk6_eq : iblk m c 6 t = V m c main_arg6 := by
  obtain ⟨-, -, -, -, -, -, ⟨e0, e1⟩, -⟩ := point t
  funext j
  show V m c main_arg6 (((cfg0.win 6).blk t).view.emb j) = V m c main_arg6 j
  congr 1
  funext a; apply Fin.ext
  match a with
  | ⟨0, _⟩ => show win0_6.index t (0 : Fin 2) * 1 + 1 * (j 0).val = (j 0).val; omega
  | ⟨1, _⟩ => show win0_6.index t (1 : Fin 2) * 1024 + 1 * (j 1).val = (j 1).val; omega

/-- The part of the point `t`: its block of rows through its half of the hidden units. -/
theorem part_at (r : Fin 512) (o : Fin 1024) (g : Fin 16384) (hg : g.val = 512 * (t.val / 2) + r.val) (half : Fin 1408 → Fin 2816)
    (hh : ∀ j, (half j).val = 1408 * (t.val % 2) + j.val) :
    k0_pay1 (iblk m c 0 t) (iblk m c 2 t) (iblk m c 3 t) (iblk m c 4 t) (ix2 r o)
      = Gated.swiglu (fun d => (V m c main_arg0 (ix2 g d) : EReal)) (fun d j => V m c main_arg2 (ix2 d (half j))) (fun d j => V m c main_arg3 (ix2 d (half j)))
          (fun j o => V m c main_arg4 (ix2 (half j) o)) o := by
  rw [part_apply]
  congr 1
  · funext d; exact iblk0_apply m c t r d g hg
  · funext d j; exact iblk2_apply m c t d j (half j) (hh j)
  · funext d j; exact iblk3_apply m c t d j (half j) (hh j)
  · funext j o; exact iblk4_apply m c t j o (half j) (hh j)

/-- The array that the reference's first result is. -/
abbrev want : FVec Ideal Cert.FfnReferenceIdeal.S16384x1024 .f32 :=
  Ref.normed (Ref.total (V m c main_arg0) (V m c main_arg1) (V m c main_arg2) (V m c main_arg3) (V m c main_arg4)) (V m c main_arg5) (V m c main_arg6)

/-- What the second point of a block of rows computes, read at a row and a column. -/
theorem second_at (ht : t.val % 2 = 1) (s : Fin cfg0.N) (hs : s.val = t.val - 1) (r : Fin 512) (o : Fin 1024) (g : Fin 16384)
    (hg : g.val = 512 * (t.val / 2) + r.val) :
    k0_pay4 (iblk m c 1 t) (addf (k0_pay1 (iblk m c 0 s) (iblk m c 2 s) (iblk m c 3 s) (iblk m c 4 s)) (k0_pay1 (iblk m c 0 t) (iblk m c 2 t) (iblk m c 3 t) (iblk m c 4 t)))
        (iblk m c 5 t) (iblk m c 6 t) (ix2 r o) = want m c (ix2 g o) := by
  rw [norm_apply, iblk5_eq, iblk6_eq]
  refine Eq.trans ?_ (Ref.normed_apply _ _ _ g o).symm
  congr 1
  funext o
  rw [Ref.total_apply, iblk1_apply m c t r o g hg]
  refine congrArg (alpha * (V m c main_arg1 (ix2 g o) : EReal) + ·) ?_
  refine (congrArg₂ (fun a b : EReal => a + b) (part_at m c s r o g (by omega) (Fin.castAdd 1408) (fun j => by show j.val = _; omega))
    (part_at m c t r o g hg (Fin.natAdd 1408) (fun j => by show 1408 + j.val = _; omega))).trans ?_
  exact Gated.swiglu_halves (M := 1408) (fun d => (V m c main_arg0 (ix2 g d) : EReal)) (fun d j => V m c main_arg2 (ix2 d j)) (fun d j => V m c main_arg3 (ix2 d j))
    (fun j o => V m c main_arg4 (ix2 j o)) o

/-- What the accumulator holds when the second point of a block begins. -/
theorem carried (ht : t.val % 2 = 1) (h : t.val - 1 < cfg0.N) :
    (outsAt0 m c (t.val - 1) h).2.2
      = k0_pay1 (iblk m c 0 ⟨t.val - 1, h⟩) (iblk m c 2 ⟨t.val - 1, h⟩) (iblk m c 3 ⟨t.val - 1, h⟩) (iblk m c 4 ⟨t.val - 1, h⟩) := by
  have := outsAt0_A m c ⟨t.val - 1, h⟩ (by show (t.val - 1) % 2 = 0; omega) (by show ¬(t.val - 1) % 2 = 1; omega) (by show ¬(t.val - 1) % 2 = 1; omega)
  rw [show outsAt0 m c (t.val - 1) h = _ from this]
  dsimp only
  rw [first_eq]

/-- The first array after the run. -/
theorem final7_eq : (dats m 0 c).arrAt 7 cfg0.N = want m c := by
  refine (dats m 0 c).arrAt_eq_of_cover 7 (want m c) (fun t hf => ?_) (fun i => (covered_iff7 i).2 ⟨Nat.zero_le _, (i 0).isLt, Nat.zero_le _, (i 1).isLt⟩)
  have ht : t.val % 2 = 1 := (flush0_7 t).mp hf
  have hN : t.val < 64 := lt_of_lt_of_eq t.isLt N_0
  rw [flushed7_B m c t (by omega) ht ht, second_eq, carried m c t ht]
  funext y
  obtain ⟨-, -, -, -, -, -, -, ⟨e0, e1⟩, -⟩ := point t
  have y0 : (y 0).val < 512 := (y 0).isLt
  have y1 : (y 1).val < 1024 := (y 1).isLt
  have he : ((cfg0.win 7).blk t).view.emb y = ix2 (⟨512 * (t.val / 2) + (y 0).val, by omega⟩ : Fin 16384) (⟨(y 1).val, y1⟩ : Fin 1024) := by
    funext a; apply Fin.ext
    match a with
    | ⟨0, _⟩ => show win0_7.index t (0 : Fin 2) * 512 + 1 * (y 0).val = 512 * (t.val / 2) + (y 0).val; omega
    | ⟨1, _⟩ => show win0_7.index t (1 : Fin 2) * 1024 + 1 * (y 1).val = (y 1).val; omega
  show _ = want m c (((cfg0.win 7).blk t).view.emb y)
  rw [he]
  refine Eq.trans ?_ (second_at m c t ht ⟨t.val - 1, lt_of_le_of_lt (Nat.sub_le _ _) t.isLt⟩ rfl ⟨(y 0).val, y0⟩ ⟨(y 1).val, y1⟩ _ rfl)
  show k0_pay4 (F := Ideal) _ _ _ _ _ = k0_pay4 (F := Ideal) _ _ _ _ _
  congr 1
  funext a; apply Fin.ext
  match a with
  | ⟨0, _⟩ => rfl
  | ⟨1, _⟩ => rfl

/-- The second array after the run: the first in the narrow format. -/
theorem final8_eq : (dats m 0 c).arrAt 8 cfg0.N = truncf .bf16 (want m c) Cert.FfnReferenceIdeal.Gen.bitsLt_bf16_f32 := by
  refine (dats m 0 c).arrAt_eq_of_cover 8 (truncf .bf16 (want m c) Cert.FfnReferenceIdeal.Gen.bitsLt_bf16_f32) (fun t hf => ?_)
    (fun i => (covered_iff8 i).2 ⟨Nat.zero_le _, (i 0).isLt, Nat.zero_le _, (i 1).isLt⟩)
  have ht : t.val % 2 = 1 := (flush0_8 t).mp hf
  have hN : t.val < 64 := lt_of_lt_of_eq t.isLt N_0
  rw [flushed8_B m c t (by omega) ht ht, second_narrow_eq, carried m c t ht]
  funext y
  obtain ⟨-, -, -, -, -, -, -, -, ⟨e0, e1⟩⟩ := point t
  have y0 : (y 0).val < 512 := (y 0).isLt
  have y1 : (y 1).val < 1024 := (y 1).isLt
  have he : ((cfg0.win 8).blk t).view.emb y = ix2 (⟨512 * (t.val / 2) + (y 0).val, by omega⟩ : Fin 16384) (⟨(y 1).val, y1⟩ : Fin 1024) := by
    funext a; apply Fin.ext
    match a with
    | ⟨0, _⟩ => show win0_8.index t (0 : Fin 2) * 512 + 1 * (y 0).val = 512 * (t.val / 2) + (y 0).val; omega
    | ⟨1, _⟩ => show win0_8.index t (1 : Fin 2) * 1024 + 1 * (y 1).val = (y 1).val; omega
  show _ = want m c (((cfg0.win 8).blk t).view.emb y)
  rw [he]
  refine Eq.trans ?_ (second_at m c t ht ⟨t.val - 1, lt_of_le_of_lt (Nat.sub_le _ _) t.isLt⟩ rfl ⟨(y 0).val, y0⟩ ⟨(y 1).val, y1⟩ _ rfl)
  show k0_pay4 (F := Ideal) _ _ _ _ _ = k0_pay4 (F := Ideal) _ _ _ _ _
  congr 1
  funext a; apply Fin.ext
  match a with
  | ⟨0, _⟩ => rfl
  | ⟨1, _⟩ => rfl

end Cert.Ffn
end
-- ==== Proof.Ffn.Claims.lean ====
module

public import proofs.«01_k».proof.Defs
public import proofs.«01_k».proof.Proof.Gen.Ffn.Frame
public import proofs.«01_k».proof.Proof.Ffn.Out
public import Idealize.ShloMosaic.Lib.Quiescent

/-!
# The dense feed-forward's claims

The kernel's and the reference's runs, and that their results are equal.
-/

@[expose] public section

set_option maxRecDepth 16384

noncomputable section

namespace Cert.Ffn

open Idealize.ShloMosaic Idealize.ShloMosaic.TcCoe Idealize.SL.Sem

theorem frameP : Cert.quiescent_Ffn := fun m ρ _ => Cert.Ffn.Gen.frame m ρ

theorem framePI : Cert.quiescent_FfnIdeal := fun m ρ _ => Cert.FfnIdeal.Gen.frame m ρ

/-- The reference runs, keeps its arguments, and has no semaphore that could be left above zero. -/
theorem frameRI : Cert.quiescent_FfnReferenceIdeal := fun m ρ _ =>
  (θ_run Cert.FfnReferenceIdeal.defs _ _).mono
    (fun r h => ⟨fun c => (h c).2.2, sem_eq_zero_of_no_sems (by decide) r.2⟩) (Cert.FfnReferenceIdeal.Value.run m ρ)

/-- The kernel's two results and the reference's are equal, whatever the arguments. -/
theorem algebraic : Cert.algebraic_FfnIdeal_FfnReferenceIdeal := by
  intro m g m' g' _ hagree
  refine ⟨fun c => (Cert.FfnIdeal.Gen.dats m 0 c).arrAt 7 Cert.FfnIdeal.cfg0.N, fun c => (Cert.FfnIdeal.Gen.dats m 0 c).arrAt 8 Cert.FfnIdeal.cfg0.N,
    Cert.FfnIdeal.Value.run_blocks m g, ?_⟩
  have key : ∀ c, Cert.FfnReferenceIdeal.Value.res_out0 m' c = want m c := fun c => by
    obtain ⟨a0, a1, a2, a3, a4, a5, a6⟩ := hagree c
    exact (Ref.res0_eq m' c).trans (congr (congr (congrArg (Ref.normed (F := Ideal))
      (congr (congr (congr (congr (congrArg (Ref.total (F := Ideal)) a0) a1) a2) a3) a4)) a5) a6)
  refine (θ_run Cert.FfnReferenceIdeal.defs _ _).mono (fun r h c => ⟨(h c).1.trans ?_, (h c).2.1.trans ?_, (h c).2.2⟩) (Cert.FfnReferenceIdeal.Value.run m' g')
  · exact (key c).trans (final7_eq m c).symm
  · exact ((Ref.res1_eq m' c).trans (congrArg (fun y => truncf .bf16 y Cert.FfnReferenceIdeal.Gen.bitsLt_bf16_f32) (key c))).trans (final8_eq m c).symm

end Cert.Ffn
end
-- ==== Proof.Experts.Run.lean ====
module

public import proofs.«01_k».proof.Proof.Gen.ExpertIdeal.Skeleton
public import proofs.«01_k».proof.Proof.Gen.ExpertIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-!
# The experts' body, by case

A grid point is of an active or of an inactive block of rows, and of the first or of the second half of the hidden
units. At an active block's first point the rows are narrowed into the first scratch and the half's part goes to the
second; at its second point the other half's part is added and the sum written out. An inactive block's first point
does nothing, its second writes zeros.
-/

@[expose] public section

set_option maxRecDepth 16384
set_option Elab.async false

noncomputable section

namespace Cert.Experts

open Cert.ExpertIdeal Cert.ExpertIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' experts, and the two scratches. -/
abbrev tabM : Memref sig .tc .smem S73 .i32 := Memref.whole main_arg0
abbrev rowM : Memref sig .tc .vmem S512x1024 .bf16 := Memref.whole cc0_scratch0
abbrev accM : Memref sig .tc .vmem S512x1024 .f32 := Memref.whole cc0_scratch1

/-- The number of active blocks, as the body reads it. -/
abbrev used (T : S73.Idx → BitVec 32) : BitVec 32 :=
  View.readAt (Elt F) tabM.view (Rect.unit (s := S73) ![72] S1.size inb_S73_S1_72).toLoadRect T (Shape.Idx.first (numel1_S1.symm ▸ Nat.one_pos))

theorem origin2 : (![0, 0] : Fin 2 → ℕ) = fun _ => 0 := by funext a; fin_cases a <;> rfl
theorem origin4 : (![0, 0, 0, 0] : Fin 4 → ℕ) = fun _ => 0 := by funext a; fin_cases a <;> rfl

/-- The zeros are written at an inactive block's second point. -/
theorem zeros_iff (i : grid0.Coords) (v : BitVec 32) : k0_cond6 i v = 1#1 ↔ ¬ k0_cond1 i v = 1#1 ∧ (i 1).val = 1 := by
  unfold k0_cond6 k0_cond1
  dsimp only
  generalize Scalar.cmpi .slt (BitVec.ofNat 32 (i 0).val) v = b
  have h2 : (i 1).val = 0 ∨ (i 1).val = 1 := by
    have : (i 1).val < 2 := (i 1).isLt
    omega
  rcases h2 with h | h <;> rw [h] <;> revert b <;> decide

section
variable (c : Dev nD) (i : grid0.Coords) (arg3 : Memref sig .tc .vmem S512x1024 .f32) (harg3 : arg3.IsWhole) (arg4 : Memref sig .tc .vmem S1x1x1024x1792 .bf16) (harg4 : arg4.IsWhole) (arg5 : Memref sig .tc .vmem S1x1x1024x1792 .bf16) (harg5 : arg5.IsWhole) (arg6 : Memref sig .tc .vmem S1x1x1792x1024 .bf16) (harg6 : arg6.IsWhole) (arg7 : Memref sig .tc .vmem S512x1024 .f32) (harg7 : arg7.IsWhole)
  (T : S73.Idx → BitVec 32) (x0 : Vec F S512x1024 .f32) (x1 : Vec F S1x1x1024x1792 .bf16) (x2 : Vec F S1x1x1024x1792 .bf16) (x3 : Vec F S1x1x1792x1024 .bf16)
  (a0 : Buf (Elt F) ((c : Thread nD τ).loc cc0_scratch0)) (a1 : Buf (Elt F) ((c : Thread nD τ).loc cc0_scratch1))

/-- What a point reads: the rows, the two projections, the third, and the table. -/
abbrev Inputs : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tabM.view.loc (c : Thread nD τ) ↦{fullShare.right} T))

set_option maxHeartbeats 8000000 in
/-- An inactive block's first point changes nothing. -/
theorem skip_first (h1 : ¬ k0_cond1 i (used (F := F) T) = 1#1) (hf : (i 1).val = 0) (y : Vec F S512x1024 .f32)
    (K : PUnit → sProp 𝕄) :
    iprop(Inputs c arg3 arg4 arg5 arg6 T x0 x1 x2 x3
        ∗ owns (c : Thread nD τ) arg7 fullShare y
        ∗ (rowM.view.loc (c : Thread nD τ) ↦{fullShare} a0)
        ∗ (accM.view.loc (c : Thread nD τ) ↦{fullShare} a1)
        ∗ (iprop(Inputs c arg3 arg4 arg5 arg6 T x0 x1 x2 x3
            ∗ owns (c : Thread nD τ) arg7 fullShare y
            ∗ (∃ b, rowM.view.loc (c : Thread nD τ) ↦{fullShare} b)
            ∗ (∃ b, accM.view.loc (c : Thread nD τ) ↦{fullShare} b)) -∗ K ⟨⟩))
      ⊢ wp frame (wpE (defs₀ (F := F)) Variants.none c none) Set.univ (cc0_expert_ffn i tabM (Memref.isWhole_whole _) arg3 harg3 arg4 harg4 arg5 harg5 arg6 harg6 arg7 harg7 rowM (Memref.isWhole_whole _) accM (Memref.isWhole_whole _)) K := by
  have hz := zeros_iff i (used (F := F) T)
  unfold owns
  rw [cc0_expert_ffn_eq_skeleton]; unfold cc0_expert_ffn_skel
  iintro ⟨⟨H0, H1, H2, H3, HT0⟩, ⟨%f4, %hf4, HO4⟩, HS0, HS1, Hk⟩
  obtain rfl := harg7.eq_unread hf4
  have hS0 : rowM.IsWhole := Memref.isWhole_whole _
  have hS1 : accM.IsWhole := Memref.isWhole_whole _
  have hT0 : tabM.IsWhole := Memref.isWhole_whole _
  sl_exec! (disch := first
    | (guard_target = ¬(k0_cond1 _ _ = _); exact h1)
    | (guard_target = k0_cond1 _ _ = _; exact h1)
    | (guard_target = ¬(k0_cond6 _ _ = _); exact fun h => absurd (hz.mp h) (by simp [h1, hf]))
    | (guard_target = k0_cond6 _ _ = _; exact hz.mpr ⟨h1, hf⟩)
    | (unfold k0_cond5; rw [hf]; decide)
    | (rw [hf]; decide))
  sl_step
  iapply Hk
  isplitl [H0 H1 H2 H3 HT0]
  · isplitl [H0]; · iexact H0
    isplitl [H1]; · iexact H1
    isplitl [H2]; · iexact H2
    isplitl [H3]; · iexact H3
    iexact HT0
  isplitl [HO4]
  · iexists _; isplitr; · ipureintro; exact harg7.read_unread _
    iexact HO4
  isplitl [HS0]; · iexists _; iexact HS0
  iexists _; iexact HS1

set_option maxHeartbeats 8000000 in
/-- An inactive block's second point writes zeros. -/
theorem skip_second (h1 : ¬ k0_cond1 i (used (F := F) T) = 1#1) (hf : (i 1).val = 1)
    (K : PUnit → sProp 𝕄) :
    iprop(Inputs c arg3 arg4 arg5 arg6 T x0 x1 x2 x3
        ∗ (∃ d, owns (c : Thread nD τ) arg7 fullShare d)
        ∗ (rowM.view.loc (c : Thread nD τ) ↦{fullShare} a0)
        ∗ (accM.view.loc (c : Thread nD τ) ↦{fullShare} a1)
        ∗ (iprop(Inputs c arg3 arg4 arg5 arg6 T x0 x1 x2 x3
            ∗ owns (c : Thread nD τ) arg7 fullShare (k0_pay1 (F := F))
            ∗ (∃ b, rowM.view.loc (c : Thread nD τ) ↦{fullShare} b)
            ∗ (∃ b, accM.view.loc (c : Thread nD τ) ↦{fullShare} b)) -∗ K ⟨⟩))
      ⊢ wp frame (wpE (defs₀ (F := F)) Variants.none c none) Set.univ (cc0_expert_ffn i tabM (Memref.isWhole_whole _) arg3 harg3 arg4 harg4 arg5 harg5 arg6 harg6 arg7 harg7 rowM (Memref.isWhole_whole _) accM (Memref.isWhole_whole _)) K := by
  have hz := zeros_iff i (used (F := F) T)
  unfold owns
  rw [cc0_expert_ffn_eq_skeleton]; unfold cc0_expert_ffn_skel
  iintro ⟨⟨H0, H1, H2, H3, HT0⟩, ⟨%d4, %f4, -, HO4⟩, HS0, HS1, Hk⟩
  have hS0 : rowM.IsWhole := Memref.isWhole_whole _
  have hS1 : accM.IsWhole := Memref.isWhole_whole _
  have hT0 : tabM.IsWhole := Memref.isWhole_whole _
  sl_exec! (disch := first
    | (guard_target = ¬(k0_cond1 _ _ = _); exact h1)
    | (guard_target = k0_cond1 _ _ = _; exact h1)
    | (guard_target = ¬(k0_cond6 _ _ = _); exact fun h => absurd (hz.mp h) (by simp [h1, hf]))
    | (guard_target = k0_cond6 _ _ = _; exact hz.mpr ⟨h1, hf⟩)
    | (unfold k0_cond5; rw [hf]; decide)
    | (rw [hf]; decide))
  sl_step
  iapply Hk
  isplitl [H0 H1 H2 H3 HT0]
  · isplitl [H0]; · iexact H0
    isplitl [H1]; · iexact H1
    isplitl [H2]; · iexact H2
    isplitl [H3]; · iexact H3
    iexact HT0
  isplitl [HO4]
  · iexists _; isplitr; swap
    · iexact HO4
    · ipureintro
      sl_unfold_words
      simp only [View.read_writes_full (s := S512x1024), View.readAt_eq_ld, View.read_rep, View.ld_unit_zero (S := S512x1024) origin2, View.ld_unit_zero (S := S1x1x1024x1792) origin4, View.ld_unit_zero (S := S1x1x1792x1024) origin4, shapeCast_self]
  isplitl [HS0]; · iexists _; iexact HS0
  iexists _; iexact HS1

set_option maxHeartbeats 8000000 in
/-- An active block's first point leaves the narrowed rows and the first half's part in the scratches. -/
theorem work_first (h1 : k0_cond1 i (used (F := F) T) = 1#1) (hf : (i 1).val = 0) (y : Vec F S512x1024 .f32)
    (K : PUnit → sProp 𝕄) :
    iprop(Inputs c arg3 arg4 arg5 arg6 T x0 x1 x2 x3
        ∗ owns (c : Thread nD τ) arg7 fullShare y
        ∗ (rowM.view.loc (c : Thread nD τ) ↦{fullShare} a0)
        ∗ (accM.view.loc (c : Thread nD τ) ↦{fullShare} a1)
        ∗ (iprop(Inputs c arg3 arg4 arg5 arg6 T x0 x1 x2 x3
            ∗ owns (c : Thread nD τ) arg7 fullShare y
            ∗ (∃ b, ⌜rowM.view.read (Elt F) b = k0_pay2 x0⌝ ∗ (rowM.view.loc (c : Thread nD τ) ↦{fullShare} b))
            ∗ (∃ b, ⌜accM.view.read (Elt F) b = k0_pay3 (k0_pay2 x0) x1 x2 x3⌝ ∗ (accM.view.loc (c : Thread nD τ) ↦{fullShare} b))) -∗ K ⟨⟩))
      ⊢ wp frame (wpE (defs₀ (F := F)) Variants.none c none) Set.univ (cc0_expert_ffn i tabM (Memref.isWhole_whole _) arg3 harg3 arg4 harg4 arg5 harg5 arg6 harg6 arg7 harg7 rowM (Memref.isWhole_whole _) accM (Memref.isWhole_whole _)) K := by
  have hz := zeros_iff i (used (F := F) T)
  unfold owns
  rw [cc0_expert_ffn_eq_skeleton]; unfold cc0_expert_ffn_skel
  iintro ⟨⟨H0, H1, H2, H3, HT0⟩, ⟨%f4, %hf4, HO4⟩, HS0, HS1, Hk⟩
  obtain rfl := harg7.eq_unread hf4
  have hS0 : rowM.IsWhole := Memref.isWhole_whole _
  have hS1 : accM.IsWhole := Memref.isWhole_whole _
  have hT0 : tabM.IsWhole := Memref.isWhole_whole _
  sl_exec! (disch := first
    | (guard_target = ¬(k0_cond1 _ _ = _); exact h1)
    | (guard_target = k0_cond1 _ _ = _; exact h1)
    | (guard_target = ¬(k0_cond6 _ _ = _); exact fun h => absurd (hz.mp h) (by simp [h1, hf]))
    | (guard_target = k0_cond6 _ _ = _; exact hz.mpr ⟨h1, hf⟩)
    | (unfold k0_cond5; rw [hf]; decide)
    | (rw [hf]; decide))
  sl_step
  iapply Hk
  isplitl [H0 H1 H2 H3 HT0]
  · isplitl [H0]; · iexact H0
    isplitl [H1]; · iexact H1
    isplitl [H2]; · iexact H2
    isplitl [H3]; · iexact H3
    iexact HT0
  have he : Scalar.cmpi .ne (Scalar.extui (Scalar.cmpi .eq (BitVec.ofNat 32 (i 1).val) 0#32)) 0#32 = 1#1 := by rw [hf]; decide
  have hg : ¬ Scalar.cmpi .ne (Scalar.extui (Scalar.cmpi .sgt (BitVec.ofNat 32 (i 1).val) 0#32)) 0#32 = 1#1 := by rw [hf]; decide
  isplitl [HO4]
  · iexists _; isplitr; · ipureintro; exact harg7.read_unread _
    iexact HO4
  isplitl [HS0]
  · iexists _; isplitr; swap
    · iexact HS0
    · ipureintro
      sl_unfold_words
      rw [dif_pos he]
      simp only [View.read_writes_full (s := S512x1024), View.readAt_eq_ld, View.read_rep, View.ld_unit_zero (S := S512x1024) origin2, View.ld_unit_zero (S := S1x1x1024x1792) origin4, View.ld_unit_zero (S := S1x1x1792x1024) origin4, shapeCast_self]
  iexists _; isplitr; swap
  · iexact HS1
  · ipureintro
    sl_unfold_words
    simp only [dif_pos he, dif_neg hg]
    simp only [View.read_writes_full (s := S512x1024), View.readAt_eq_ld, View.read_rep, View.ld_unit_zero (S := S512x1024) origin2, View.ld_unit_zero (S := S1x1x1024x1792) origin4, View.ld_unit_zero (S := S1x1x1792x1024) origin4, shapeCast_self]

set_option maxHeartbeats 8000000 in
/-- An active block's second point writes the sum of the scratch and the second half's part. -/
theorem work_second (h1 : k0_cond1 i (used (F := F) T) = 1#1) (hf : (i 1).val = 1)
    (K : PUnit → sProp 𝕄) :
    iprop(Inputs c arg3 arg4 arg5 arg6 T x0 x1 x2 x3
        ∗ (∃ d, owns (c : Thread nD τ) arg7 fullShare d)
        ∗ (rowM.view.loc (c : Thread nD τ) ↦{fullShare} a0)
        ∗ (accM.view.loc (c : Thread nD τ) ↦{fullShare} a1)
        ∗ (iprop(Inputs c arg3 arg4 arg5 arg6 T x0 x1 x2 x3
            ∗ owns (c : Thread nD τ) arg7 fullShare (k0_pay5 (k0_pay3 (rowM.view.read (Elt F) a0) x1 x2 x3) (accM.view.read (Elt F) a1))
            ∗ (∃ b, rowM.view.loc (c : Thread nD τ) ↦{fullShare} b)
            ∗ (∃ b, accM.view.loc (c : Thread nD τ) ↦{fullShare} b)) -∗ K ⟨⟩))
      ⊢ wp frame (wpE (defs₀ (F := F)) Variants.none c none) Set.univ (cc0_expert_ffn i tabM (Memref.isWhole_whole _) arg3 harg3 arg4 harg4 arg5 harg5 arg6 harg6 arg7 harg7 rowM (Memref.isWhole_whole _) accM (Memref.isWhole_whole _)) K := by
  have hz := zeros_iff i (used (F := F) T)
  unfold owns
  rw [cc0_expert_ffn_eq_skeleton]; unfold cc0_expert_ffn_skel
  iintro ⟨⟨H0, H1, H2, H3, HT0⟩, ⟨%d4, %f4, -, HO4⟩, HS0, HS1, Hk⟩
  have hS0 : rowM.IsWhole := Memref.isWhole_whole _
  have hS1 : accM.IsWhole := Memref.isWhole_whole _
  have hT0 : tabM.IsWhole := Memref.isWhole_whole _
  sl_exec! (disch := first
    | (guard_target = ¬(k0_cond1 _ _ = _); exact h1)
    | (guard_target = k0_cond1 _ _ = _; exact h1)
    | (guard_target = ¬(k0_cond6 _ _ = _); exact fun h => absurd (hz.mp h) (by simp [h1, hf]))
    | (guard_target = k0_cond6 _ _ = _; exact hz.mpr ⟨h1, hf⟩)
    | (unfold k0_cond5; rw [hf]; decide)
    | (rw [hf]; decide))
  sl_step
  iapply Hk
  isplitl [H0 H1 H2 H3 HT0]
  · isplitl [H0]; · iexact H0
    isplitl [H1]; · iexact H1
    isplitl [H2]; · iexact H2
    isplitl [H3]; · iexact H3
    iexact HT0
  have he : ¬ Scalar.cmpi .ne (Scalar.extui (Scalar.cmpi .eq (BitVec.ofNat 32 (i 1).val) 0#32)) 0#32 = 1#1 := by rw [hf]; decide
  have hg : Scalar.cmpi .ne (Scalar.extui (Scalar.cmpi .sgt (BitVec.ofNat 32 (i 1).val) 0#32)) 0#32 = 1#1 := by rw [hf]; decide
  isplitl [HO4]
  · iexists _; isplitr; swap
    · iexact HO4
    · ipureintro
      sl_unfold_words
      simp only [dif_neg he, dif_pos hg]
      unfold k0_pay5
      simp only [View.read_writes_full (s := S512x1024), View.readAt_eq_ld, View.read_rep, View.ld_unit_zero (S := S512x1024) origin2, View.ld_unit_zero (S := S1x1x1024x1792) origin4, View.ld_unit_zero (S := S1x1x1792x1024) origin4, shapeCast_self]
  isplitl [HS0]; · iexists _; iexact HS0
  iexists _; iexact HS1

end

end Cert.Experts

end
-- ==== Proof.Experts.Data.lean ====
module

public import proofs.«01_k».proof.Proof.Experts.Run

/-!
# The experts' call at a table

The call's blocks depend on the table it reads first: a block's expert, and the number of active blocks. Everything
here is stated of any table whose blocks name one of the eight experts.
-/

@[expose] public section

set_option maxRecDepth 16384
set_option Elab.async false

noncomputable section

namespace Cert.Experts

open Cert.ExpertIdeal Cert.ExpertIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The launch's tables: the one table. -/
def tabs (T : S73.Idx → BitVec 32) : pre0.Contents (Elt F) := fun | ⟨0, _⟩ => T | ⟨_ + 1, h⟩ => absurd h (by simp)

/-- Every block of rows names one of the eight experts. -/
def Named (T : S73.Idx → BitVec 32) : Prop := ∀ y : S73.Idx, (y 0).val < 72 → (T y).toNat < 8

/-- The half of the hidden units a point takes is the first or the second. -/
theorem half_lt (i : grid0.Coords) (b : BitVec 1) : (Scalar.select b (BitVec.ofNat 32 (i 1).val) (1#32 : BitVec 32)).toNat < 2 := by
  have h2 : (i 1).val = 0 ∨ (i 1).val = 1 := by
    have : (i 1).val < 2 := (i 1).isLt
    omega
  rcases h2 with h | h <;> rw [h] <;> revert b <;> decide

theorem coord0_word (i : grid0.Coords) : (BitVec.ofNat 32 (i 0).val).toNat = (i 0).val := by
  have : (i 0).val < 72 := (i 0).isLt
  rw [BitVec.toNat_ofNat]; omega

/-- A block of the first two projections is inside its array, … -/
theorem up_inside (e f : ℕ) (he : e < 8) (hf : f < 2) :
    ∀ a, ((![0, e, 0, f] : Fin 4 → ℕ) a + 1) * S1x1x1024x1792.size a ≤ S2x8x1024x3584.size a := by
  intro a
  fin_cases a
  · show (0 + 1) * 1 ≤ 2; omega
  · show (e + 1) * 1 ≤ 8; omega
  · show (0 + 1) * 1024 ≤ 1024; omega
  · show (f + 1) * 1792 ≤ 3584; omega

/-- … and a block of the third. -/
theorem down_inside (e f : ℕ) (he : e < 8) (hf : f < 2) :
    ∀ a, ((![0, e, f, 0] : Fin 4 → ℕ) a + 1) * S1x1x1792x1024.size a ≤ S2x8x3584x1024.size a := by
  intro a
  fin_cases a
  · show (0 + 1) * 1 ≤ 2; omega
  · show (e + 1) * 1 ≤ 8; omega
  · show (f + 1) * 1792 ≤ 3584; omega
  · show (0 + 1) * 1024 ≤ 1024; omega

section
variable (T : S73.Idx → BitVec 32)

/-- The word a block of rows reads off the table. -/
theorem expert_lt (hT : Named T) (i : grid0.Coords) :
    (T ((Rect.unit (s := S73) ![(Scalar.indexCast (BitVec.ofNat 32 (i 0).val)).toNat] S1.size (k0_off1_inb i)).emb (Shape.Idx.first (numel1_S1.symm ▸ Nat.one_pos)))).toNat < 8 := by
  refine hT _ ?_
  show (Scalar.indexCast (BitVec.ofNat 32 (i 0).val)).toNat + 1 * (Shape.Idx.first (s := S1) (numel1_S1.symm ▸ Nat.one_pos) 0).val < 72
  have h0 : (Shape.Idx.first (s := S1) (numel1_S1.symm ▸ Nat.one_pos) 0).val < 1 := Fin.isLt _
  have h1 : (Scalar.indexCast (BitVec.ofNat 32 (i 0).val)).toNat = (i 0).val := coord0_word i
  have h2 : (i 0).val < 72 := (i 0).isLt
  omega

/-- The call's blocks are inside their arrays. -/
theorem ok_tabs (hT : Named T) : ok0 (F := F) (tabs T) :=
  ⟨fun i => ⟨up_inside _ _ (expert_lt T hT i) (half_lt i _), .inr (Affine.block_words_dvd (s := S2x8x1024x3584) (p := EltTy.packing .bf16) (by decide) (by decide))⟩,
   fun i => ⟨up_inside _ _ (expert_lt T hT i) (half_lt i _), .inr (Affine.block_words_dvd (s := S2x8x1024x3584) (p := EltTy.packing .bf16) (by decide) (by decide))⟩,
   fun i => ⟨down_inside _ _ (expert_lt T hT i) (half_lt i _), .inr (Affine.block_words_dvd (s := S2x8x3584x1024) (p := EltTy.packing .bf16) (by decide) (by decide))⟩⟩

end

variable (T : S73.Idx → BitVec 32) (hok : ok0 (F := F) (tabs T))

/-- The call at the table. -/
def adm : (pcfg0 (F := F)).Adm := ⟨tabs T, hok⟩
abbrev cfgT : Pipeline.Cfg sig Λ₀ := cfg0 (F := F) (adm T hok)
abbrev pcs : Fin 1 → Pipeline.Cfg sig Λ₀ := Pipeline.pin (pcfgs (F := F)) fun _ => adm T hok

/-- A point's coordinates, and its staging buffers. -/
abbrev crd (t : Fin (cfgT T hok).N) : (cfgT T hok).grid.Coords := (cfgT T hok).grid.coords t
abbrev st0 (t : Fin (cfgT T hok).N) : Memref sig .tc .vmem S512x1024 .f32 := spec0_0.stage ((cfgT T hok).slots t (0 : Fin 5))
abbrev wh0 (t : Fin (cfgT T hok).N) : (st0 T hok t).IsWhole := hstage0_0 (((cfgT T hok).slots t (0 : Fin 5)).cast nbuf0_0)
abbrev st1 (t : Fin (cfgT T hok).N) : Memref sig .tc .vmem S1x1x1024x1792 .bf16 := spec0_1.stage ((cfgT T hok).slots t (1 : Fin 5))
abbrev wh1 (t : Fin (cfgT T hok).N) : (st1 T hok t).IsWhole := hstage0_1 (((cfgT T hok).slots t (1 : Fin 5)).cast nbuf0_1)
abbrev st2 (t : Fin (cfgT T hok).N) : Memref sig .tc .vmem S1x1x1024x1792 .bf16 := spec0_2.stage ((cfgT T hok).slots t (2 : Fin 5))
abbrev wh2 (t : Fin (cfgT T hok).N) : (st2 T hok t).IsWhole := hstage0_2 (((cfgT T hok).slots t (2 : Fin 5)).cast nbuf0_2)
abbrev st3 (t : Fin (cfgT T hok).N) : Memref sig .tc .vmem S1x1x1792x1024 .bf16 := spec0_3.stage ((cfgT T hok).slots t (3 : Fin 5))
abbrev wh3 (t : Fin (cfgT T hok).N) : (st3 T hok t).IsWhole := hstage0_3 (((cfgT T hok).slots t (3 : Fin 5)).cast nbuf0_3)
abbrev st4 (t : Fin (cfgT T hok).N) : Memref sig .tc .vmem S512x1024 .f32 := spec0_4.stage ((cfgT T hok).slots t (4 : Fin 5))
abbrev wh4 (t : Fin (cfgT T hok).N) : (st4 T hok t).IsWhole := hstage0_4 (((cfgT T hok).slots t (4 : Fin 5)).cast nbuf0_4)

theorem grid_coords : ∀ t : Fin grid0.N, (grid0.coords t 0).val = t.val / 2 ∧ (grid0.coords t 1).val = t.val % 2 := by decide +kernel

theorem crd0 (t : Fin (cfgT T hok).N) : (crd T hok t 0).val = t.val / 2 := (grid_coords t).1
theorem crd1 (t : Fin (cfgT T hok).N) : (crd T hok t 1).val = t.val % 2 := (grid_coords t).2

/-- The output's block is written back at a block of rows' second point, … -/
theorem flush_iff (t : Fin (cfgT T hok).N) : ((cfgT T hok).win (4 : Fin 5)).flush t = true ↔ t.val % 2 = 1 :=
  Pipeline.Window.flush_reads (win0 (adm T hok) 4) rfl 0 (by decide) (by show grid0.fixedAfter reads0_4 0 = true; decide)
    (Pipeline.Window.sep_of_coord cc0_transform_4 0 0 (fun _ => rfl) (by decide)) (P := 2) (m := 1) (by decide) rfl t

/-- Whether a point's block of rows is active. -/
abbrev Active (t : Fin (cfgT T hok).N) : Prop := k0_cond1 (crd T hok t) (used (F := F) T) = 1#1

theorem tabs_at : (tabs (F := F) T).atD 0 ![72] = used (F := F) T := by
  unfold Pipeline.Prefetch.Contents.atD
  rw [dif_pos (fun a => by fin_cases a; show 72 + 1 ≤ 73; omega)]
  show T _ = T _
  congr 1

/-- … and left alone at its first. -/
theorem idle_iff (t : Fin (cfgT T hok).N) : (cfgT T hok).idle (4 : Fin 5) ((cfgT T hok).grid.coords t) = true ↔ t.val % 2 = 0 := by
  show (!(k0_cond1 (crd T hok t) ((tabs (F := F) T).atD 0 ![72]) == 1#1 && k0_cond5 (crd T hok t) == 1#1)
    && !(k0_cond6 (crd T hok t) ((tabs (F := F) T).atD 0 ![72]) == 1#1)) = true ↔ _
  rw [tabs_at]
  have hz := zeros_iff (crd T hok t) (used (F := F) T)
  have h5 : k0_cond5 (crd T hok t) = 1#1 ↔ (crd T hok t 1).val = 1 := by
    have h2 := crd1 T hok t
    unfold k0_cond5
    rcases Nat.mod_two_eq_zero_or_one t.val with h | h <;> rw [h2, h] <;> decide
  have h1 := crd1 T hok t
  simp only [Bool.and_eq_true, Bool.not_eq_true', Bool.and_eq_false_iff, beq_eq_false_iff_ne, ne_eq, h5, hz, h1]
  by_cases hc : k0_cond1 (crd T hok t) (used (F := F) T) = 1#1 <;> simp only [hc, not_true_eq_false, not_false_eq_true, true_and, false_and, false_or, true_or, and_true] <;> omega

theorem fresh_all (t : Fin (cfgT T hok).N) : (cfgT T hok).fresh (4 : Fin 5) t.val = true :=
  Pipeline.Cfg.fresh_tab (cfgT T hok) (4 : Fin 5) (fun _ => true) rfl (fun t => by
    rcases Nat.mod_two_eq_zero_or_one t.val with h | h
    · rw [(idle_iff T hok t).mpr h]; simp
    · rw [(flush_iff T hok t).mpr h]; simp) t.val (Nat.le_of_lt t.isLt)

variable (m : (ℓ : Loc nD τ sig) → Buf (Elt F) ℓ) (ρ : Dev nD → PrngReg)

/-- A window's block at a point, off its array at the launch. -/
def blk (c : Dev nD) (w : Fin (cfgT T hok).W) (t : Fin (cfgT T hok).N) : (((cfgT T hok).win w).xblock (crd T hok t)).Idx → Elt F ((cfgT T hok).win w).elt :=
  (((cfgT T hok).win w).blk t).view.read (Elt F) ((s₀ m ρ).mem (((cfgT T hok).win w).arr.view.loc (c : Thread nD τ)))

/-- The point before (itself at the first). -/
def prev (t : Fin (cfgT T hok).N) : Fin (cfgT T hok).N := ⟨t.val - 1, by omega⟩

/-- A block of rows' narrowed rows at its second point, and the two halves' parts there. -/
def rowsAt (c : Dev nD) (t : Fin (cfgT T hok).N) : FVec F S512x1024 .bf16 := k0_pay2 (blk T hok m ρ c (0 : Fin 5) (prev T hok t))
def part1 (c : Dev nD) (t : Fin (cfgT T hok).N) : FVec F S512x1024 .f32 :=
  k0_pay3 (rowsAt T hok m ρ c t) (blk T hok m ρ c (1 : Fin 5) (prev T hok t)) (blk T hok m ρ c (2 : Fin 5) (prev T hok t)) (blk T hok m ρ c (3 : Fin 5) (prev T hok t))
def part2 (c : Dev nD) (t : Fin (cfgT T hok).N) : FVec F S512x1024 .f32 :=
  k0_pay3 (rowsAt T hok m ρ c t) (blk T hok m ρ c (1 : Fin 5) t) (blk T hok m ρ c (2 : Fin 5) t) (blk T hok m ρ c (3 : Fin 5) t)

/-- What is written back at a block of rows' second point. -/
def outAt (c : Dev nD) (t : Fin (cfgT T hok).N) : FVec F S512x1024 .f32 :=
  open Classical in if Active T hok t then k0_pay5 (part2 T hok m ρ c t) (part1 T hok m ρ c t) else k0_pay1 (F := F)

/-- Between points: the scratches hold what an active block's first point left, before its second; anything otherwise. -/
def Phi (c : Dev nD) (n : ℕ) : sProp 𝕄 :=
  iprop((∃ b, ⌜∀ h : n < (cfgT T hok).N, n % 2 = 1 → Active T hok ⟨n, h⟩ → rowM.view.read (Elt F) b = rowsAt T hok m ρ c ⟨n, h⟩⌝ ∗ (rowM.view.loc (c : Thread nD τ) ↦{fullShare} b))
    ∗ (∃ b, ⌜∀ h : n < (cfgT T hok).N, n % 2 = 1 → Active T hok ⟨n, h⟩ → accM.view.read (Elt F) b = part1 T hok m ρ c ⟨n, h⟩⌝ ∗ (accM.view.loc (c : Thread nD τ) ↦{fullShare} b))
    ∗ (tabM.view.loc (c : Thread nD τ) ↦{fullShare.right} T))

/-- The call's proof data. -/
def dats (_ : Fin 1) (c : Dev nD) : Dat τ (Elt F) Unit ℕ (UR sig nD τ) ℕ (cfgT T hok) c where
  A w := (s₀ m ρ).mem (((cfgT T hok).win w).arr.view.loc (c : Thread nD τ))
  after w t := match w with
    | ⟨0, _⟩ => blk T hok m ρ c (0 : Fin 5) t
    | ⟨1, _⟩ => blk T hok m ρ c (1 : Fin 5) t
    | ⟨2, _⟩ => blk T hok m ρ c (2 : Fin 5) t
    | ⟨3, _⟩ => blk T hok m ρ c (3 : Fin 5) t
    | ⟨4, _⟩ => outAt T hok m ρ c t
  Φ t := Phi T hok m ρ c t.val
  q _ := fullShare
  owed _ := 0

theorem after_0 (c : Dev nD) (t : Fin (cfgT T hok).N) : (dats T hok m ρ 0 c).after (0 : Fin 5) t = blk T hok m ρ c (0 : Fin 5) t := rfl
theorem after_1 (c : Dev nD) (t : Fin (cfgT T hok).N) : (dats T hok m ρ 0 c).after (1 : Fin 5) t = blk T hok m ρ c (1 : Fin 5) t := rfl
theorem after_2 (c : Dev nD) (t : Fin (cfgT T hok).N) : (dats T hok m ρ 0 c).after (2 : Fin 5) t = blk T hok m ρ c (2 : Fin 5) t := rfl
theorem after_3 (c : Dev nD) (t : Fin (cfgT T hok).N) : (dats T hok m ρ 0 c).after (3 : Fin 5) t = blk T hok m ρ c (3 : Fin 5) t := rfl
theorem after_4 (c : Dev nD) (t : Fin (cfgT T hok).N) : (dats T hok m ρ 0 c).after (4 : Fin 5) t = outAt T hok m ρ c t := rfl

theorem before_0 (c : Dev nD) (t : Fin (cfgT T hok).N) (d) : (dats T hok m ρ 0 c).before (0 : Fin 5) t d = blk T hok m ρ c (0 : Fin 5) t :=
  ((dats T hok m ρ 0 c).before_in_eq_fetched (0 : Fin 5) rfl (fun _ => rfl) (fun _ _ _ => rfl) (fun t => by rw [after_0]; unfold Dat.blockOf blk; rfl) t d).trans
    (by unfold Dat.fetched Dat.blockOf blk; rfl)

theorem before_1 (c : Dev nD) (t : Fin (cfgT T hok).N) (d) : (dats T hok m ρ 0 c).before (1 : Fin 5) t d = blk T hok m ρ c (1 : Fin 5) t :=
  ((dats T hok m ρ 0 c).before_in_eq_fetched (1 : Fin 5) rfl (fun _ => rfl) (fun _ _ _ => rfl) (fun t => by rw [after_1]; unfold Dat.blockOf blk; rfl) t d).trans
    (by unfold Dat.fetched Dat.blockOf blk; rfl)

theorem before_2 (c : Dev nD) (t : Fin (cfgT T hok).N) (d) : (dats T hok m ρ 0 c).before (2 : Fin 5) t d = blk T hok m ρ c (2 : Fin 5) t :=
  ((dats T hok m ρ 0 c).before_in_eq_fetched (2 : Fin 5) rfl (fun _ => rfl) (fun _ _ _ => rfl) (fun t => by rw [after_2]; unfold Dat.blockOf blk; rfl) t d).trans
    (by unfold Dat.fetched Dat.blockOf blk; rfl)

theorem before_3 (c : Dev nD) (t : Fin (cfgT T hok).N) (d) : (dats T hok m ρ 0 c).before (3 : Fin 5) t d = blk T hok m ρ c (3 : Fin 5) t :=
  ((dats T hok m ρ 0 c).before_in_eq_fetched (3 : Fin 5) rfl (fun _ => rfl) (fun _ _ _ => rfl) (fun t => by rw [after_3]; unfold Dat.blockOf blk; rfl) t d).trans
    (by unfold Dat.fetched Dat.blockOf blk; rfl)

/-- The output's buffer holds nothing the call has stored when a point begins. -/
theorem before_4 (c : Dev nD) (t : Fin (cfgT T hok).N) (d) : (dats T hok m ρ 0 c).before (4 : Fin 5) t d = d := by
  rw [(dats T hok m ρ 0 c).before_out_traj (4 : Fin 5) rfl (fun _ _ => rfl)
    (fun t _ _ hf => absurd ((fresh_all T hok t).symm.trans hf) (by decide)) t.val t rfl d, if_pos (fresh_all T hok t)]

/-- The two points of a block of rows are active together. -/
theorem active_succ (t : Fin (cfgT T hok).N) (h : t.val + 1 < (cfgT T hok).N) (he : t.val % 2 = 0) :
    Active T hok ⟨t.val + 1, h⟩ ↔ Active T hok t := by
  have : (crd T hok ⟨t.val + 1, h⟩ 0).val = (crd T hok t 0).val := by rw [crd0, crd0]; show (t.val + 1) / 2 = _; omega
  unfold Active k0_cond1
  rw [this]

theorem prev_succ (t : Fin (cfgT T hok).N) (h : t.val + 1 < (cfgT T hok).N) : prev T hok ⟨t.val + 1, h⟩ = t := Fin.ext (Nat.add_sub_cancel _ _)

end Cert.Experts

end
-- ==== Proof.Experts.Launch.lean ====
module

public import proofs.«01_k».proof.Proof.Experts.Data

/-!
# The experts' call runs

Every point's body meets the call's proof data, so the call runs, leaves every argument as it was and the computed
contents in the output array.
-/

@[expose] public section

set_option maxRecDepth 16384
set_option Elab.async false

noncomputable section

namespace Cert.Experts

open Cert.ExpertIdeal Cert.ExpertIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) 𝕄 := emb₁

variable (T : S73.Idx → BitVec 32) (hok : ok0 (F := F) (tabs T))
variable (m : (ℓ : Loc nD τ sig) → Buf (Elt F) ℓ) (ρ : Dev nD → PrngReg)

/-- A point's body on its staging buffers. -/
abbrev bodyAt (t : Fin (cfgT T hok).N) : Prog (TpuEff nD τ sig (Elt F) Λ₀ .tc) PUnit :=
  cc0_expert_ffn (crd T hok t) (Memref.whole main_arg0) (Memref.isWhole_whole _) (st0 T hok t) (wh0 T hok t) (st1 T hok t) (wh1 T hok t) (st2 T hok t) (wh2 T hok t) (st3 T hok t) (wh3 T hok t) (st4 T hok t) (wh4 T hok t) (Memref.whole cc0_scratch0) (Memref.isWhole_whole _) (Memref.whole cc0_scratch1) (Memref.isWhole_whole _)

set_option maxHeartbeats 4000000 in
/-- Every point's body meets the proof data. -/
theorem sound_body (c : Dev nD) (t : Fin (cfgT T hok).N) :
    iprop((dats T hok m ρ 0 c).Φ t.castSucc ∗ (dats T hok m ρ 0 c).owesAt () t.castSucc
        ∗ (∃ d, owns (c : Thread nD τ) (st0 T hok t) fullShare ((dats T hok m ρ 0 c).before (0 : Fin 5) t d))
        ∗ (∃ d, owns (c : Thread nD τ) (st1 T hok t) fullShare ((dats T hok m ρ 0 c).before (1 : Fin 5) t d))
        ∗ (∃ d, owns (c : Thread nD τ) (st2 T hok t) fullShare ((dats T hok m ρ 0 c).before (2 : Fin 5) t d))
        ∗ (∃ d, owns (c : Thread nD τ) (st3 T hok t) fullShare ((dats T hok m ρ 0 c).before (3 : Fin 5) t d))
        ∗ (∃ d, owns (c : Thread nD τ) (st4 T hok t) fullShare ((dats T hok m ρ 0 c).before (4 : Fin 5) t d)))
      ⊢ wp frame (wpE (defs₀ (F := F)) Variants.none c none) Set.univ (bodyAt T hok t) fun _ =>
          iprop((dats T hok m ρ 0 c).Φ t.succ ∗ (dats T hok m ρ 0 c).owesAt () t.succ
            ∗ bigSep Finset.univ fun w : Fin (cfgT T hok).W =>
                match (cfgT T hok).idle w ((cfgT T hok).grid.coords t) with
                | true =>
                  match ((cfgT T hok).win w).flush t with
                  | false => iprop(∃ d, owns (c : Thread nD τ) (((cfgT T hok).win w).stage ((cfgT T hok).slots t w)) fullShare ((dats T hok m ρ 0 c).before w t d))
                  | true => owns (c : Thread nD τ) (((cfgT T hok).win w).stage ((cfgT T hok).slots t w)) fullShare ((dats T hok m ρ 0 c).after w t)
                | false => owns (c : Thread nD τ) (((cfgT T hok).win w).stage ((cfgT T hok).slots t w)) fullShare ((dats T hok m ρ 0 c).after w t)) := by
  rw [bigSep_W0]
  rewrite [show (dats T hok m ρ 0 c).Φ t.succ = Phi T hok m ρ c (t.val + 1) from rfl, show (dats T hok m ρ 0 c).Φ t.castSucc = Phi T hok m ρ c t.val from rfl,
    show (dats T hok m ρ 0 c).owesAt () t.succ = (dats T hok m ρ 0 c).owesAt () t.castSucc from rfl]
  have hN : (cfgT T hok).N = 144 := N_0
  rcases Nat.mod_two_eq_zero_or_one t.val with he | he
  · rewrite [show (cfgT T hok).idle (4 : Fin 5) ((cfgT T hok).grid.coords t) = true from (idle_iff T hok t).mpr he, show ((cfgT T hok).win (4 : Fin 5)).flush t = false from Bool.eq_false_iff.mpr fun h => by have := (flush_iff T hok t).mp h; omega]
    simp only [before_0, before_1, before_2, before_3, before_4, after_0, after_1, after_2, after_3, after_4]
    by_cases hc : Active T hok t
    · unfold Phi
      iintro ⟨⟨⟨%a0, %ha0, HS0⟩, ⟨%a1, %ha1, HS1⟩, HT0⟩, Ho, ⟨%d0, H0⟩, ⟨%d1, H1⟩, ⟨%d2, H2⟩, ⟨%d3, H3⟩, ⟨%d4, H4⟩⟩
      iapply (work_first c (crd T hok t) (st0 T hok t) (wh0 T hok t) (st1 T hok t) (wh1 T hok t) (st2 T hok t) (wh2 T hok t) (st3 T hok t) (wh3 T hok t) (st4 T hok t) (wh4 T hok t) T (blk T hok m ρ c (0 : Fin 5) t) (blk T hok m ρ c (1 : Fin 5) t) (blk T hok m ρ c (2 : Fin 5) t) (blk T hok m ρ c (3 : Fin 5) t) a0 a1 hc ((crd1 T hok t).trans he) d4 _)
      isplitl [H0 H1 H2 H3 HT0]
      · isplitl [H0]; · iapply rep_of_owns; iexact H0
        isplitl [H1]; · iapply rep_of_owns; iexact H1
        isplitl [H2]; · iapply rep_of_owns; iexact H2
        isplitl [H3]; · iapply rep_of_owns; iexact H3
        iexact HT0
      isplitl [H4]; · iexact H4
      isplitl [HS0]; · iexact HS0
      isplitl [HS1]; · iexact HS1
      iintro ⟨⟨H0, H1, H2, H3, HT0⟩, H4, ⟨%b0, %hb0, HS0⟩, ⟨%b1, %hb1, HS1⟩⟩
      isplitl [HS0 HS1 HT0]
      · isplitl [HS0]
        · iexists b0; isplitr; swap
          · iexact HS0
          · ipureintro; intro hn ho ha
            unfold rowsAt; rw [prev_succ T hok t hn]; exact hb0
        isplitl [HS1]
        · iexists b1; isplitr; swap
          · iexact HS1
          · ipureintro; intro hn ho ha
            unfold part1 rowsAt; rw [prev_succ T hok t hn]; exact hb1
        iexact HT0
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4
    · unfold Phi
      iintro ⟨⟨⟨%a0, %ha0, HS0⟩, ⟨%a1, %ha1, HS1⟩, HT0⟩, Ho, ⟨%d0, H0⟩, ⟨%d1, H1⟩, ⟨%d2, H2⟩, ⟨%d3, H3⟩, ⟨%d4, H4⟩⟩
      iapply (skip_first c (crd T hok t) (st0 T hok t) (wh0 T hok t) (st1 T hok t) (wh1 T hok t) (st2 T hok t) (wh2 T hok t) (st3 T hok t) (wh3 T hok t) (st4 T hok t) (wh4 T hok t) T (blk T hok m ρ c (0 : Fin 5) t) (blk T hok m ρ c (1 : Fin 5) t) (blk T hok m ρ c (2 : Fin 5) t) (blk T hok m ρ c (3 : Fin 5) t) a0 a1 hc ((crd1 T hok t).trans he) d4 _)
      isplitl [H0 H1 H2 H3 HT0]
      · isplitl [H0]; · iapply rep_of_owns; iexact H0
        isplitl [H1]; · iapply rep_of_owns; iexact H1
        isplitl [H2]; · iapply rep_of_owns; iexact H2
        isplitl [H3]; · iapply rep_of_owns; iexact H3
        iexact HT0
      isplitl [H4]; · iexact H4
      isplitl [HS0]; · iexact HS0
      isplitl [HS1]; · iexact HS1
      iintro ⟨⟨H0, H1, H2, H3, HT0⟩, H4, ⟨%b0, HS0⟩, ⟨%b1, HS1⟩⟩
      isplitl [HS0 HS1 HT0]
      · isplitl [HS0]
        · iexists b0; isplitr; swap
          · iexact HS0
          · ipureintro; intro hn ho ha
            exact absurd ((active_succ T hok t hn he).mp ha) hc
        isplitl [HS1]
        · iexists b1; isplitr; swap
          · iexact HS1
          · ipureintro; intro hn ho ha
            exact absurd ((active_succ T hok t hn he).mp ha) hc
        iexact HT0
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4
  · rewrite [show (cfgT T hok).idle (4 : Fin 5) ((cfgT T hok).grid.coords t) = false from Bool.eq_false_iff.mpr fun h => by have := (idle_iff T hok t).mp h; omega]
    simp only [before_0, before_1, before_2, before_3, before_4, after_0, after_1, after_2, after_3, after_4]
    by_cases hc : Active T hok t
    · unfold Phi
      iintro ⟨⟨⟨%a0, %ha0, HS0⟩, ⟨%a1, %ha1, HS1⟩, HT0⟩, Ho, ⟨%d0, H0⟩, ⟨%d1, H1⟩, ⟨%d2, H2⟩, ⟨%d3, H3⟩, ⟨%d4, H4⟩⟩
      iapply (work_second c (crd T hok t) (st0 T hok t) (wh0 T hok t) (st1 T hok t) (wh1 T hok t) (st2 T hok t) (wh2 T hok t) (st3 T hok t) (wh3 T hok t) (st4 T hok t) (wh4 T hok t) T (blk T hok m ρ c (0 : Fin 5) t) (blk T hok m ρ c (1 : Fin 5) t) (blk T hok m ρ c (2 : Fin 5) t) (blk T hok m ρ c (3 : Fin 5) t) a0 a1 hc ((crd1 T hok t).trans he) _)
      isplitl [H0 H1 H2 H3 HT0]
      · isplitl [H0]; · iapply rep_of_owns; iexact H0
        isplitl [H1]; · iapply rep_of_owns; iexact H1
        isplitl [H2]; · iapply rep_of_owns; iexact H2
        isplitl [H3]; · iapply rep_of_owns; iexact H3
        iexact HT0
      isplitl [H4]; · iexists d4; iexact H4
      isplitl [HS0]; · iexact HS0
      isplitl [HS1]; · iexact HS1
      iintro ⟨⟨H0, H1, H2, H3, HT0⟩, H4, ⟨%b0, HS0⟩, ⟨%b1, HS1⟩⟩
      isplitl [HS0 HS1 HT0]
      · isplitl [HS0]
        · iexists b0; isplitr; swap
          · iexact HS0
          · ipureintro; intro hn ho ha
            omega
        isplitl [HS1]
        · iexists b1; isplitr; swap
          · iexact HS1
          · ipureintro; intro hn ho ha
            omega
        iexact HT0
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      rw [outAt, if_pos hc, part2, ← ha0 t.isLt he hc, ← ha1 t.isLt he hc]
      iexact H4
    · unfold Phi
      iintro ⟨⟨⟨%a0, %ha0, HS0⟩, ⟨%a1, %ha1, HS1⟩, HT0⟩, Ho, ⟨%d0, H0⟩, ⟨%d1, H1⟩, ⟨%d2, H2⟩, ⟨%d3, H3⟩, ⟨%d4, H4⟩⟩
      iapply (skip_second c (crd T hok t) (st0 T hok t) (wh0 T hok t) (st1 T hok t) (wh1 T hok t) (st2 T hok t) (wh2 T hok t) (st3 T hok t) (wh3 T hok t) (st4 T hok t) (wh4 T hok t) T (blk T hok m ρ c (0 : Fin 5) t) (blk T hok m ρ c (1 : Fin 5) t) (blk T hok m ρ c (2 : Fin 5) t) (blk T hok m ρ c (3 : Fin 5) t) a0 a1 hc ((crd1 T hok t).trans he) _)
      isplitl [H0 H1 H2 H3 HT0]
      · isplitl [H0]; · iapply rep_of_owns; iexact H0
        isplitl [H1]; · iapply rep_of_owns; iexact H1
        isplitl [H2]; · iapply rep_of_owns; iexact H2
        isplitl [H3]; · iapply rep_of_owns; iexact H3
        iexact HT0
      isplitl [H4]; · iexists d4; iexact H4
      isplitl [HS0]; · iexact HS0
      isplitl [HS1]; · iexact HS1
      iintro ⟨⟨H0, H1, H2, H3, HT0⟩, H4, ⟨%b0, HS0⟩, ⟨%b1, HS1⟩⟩
      isplitl [HS0 HS1 HT0]
      · isplitl [HS0]
        · iexists b0; isplitr; swap
          · iexact HS0
          · ipureintro; intro hn ho ha
            omega
        isplitl [HS1]
        · iexists b1; isplitr; swap
          · iexact HS1
          · ipureintro; intro hn ho ha
            omega
        iexact HT0
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      rw [outAt, if_neg hc]
      iexact H4

/-- So the call's obligation holds at every point. -/
theorem body_obligation (c : Dev nD) : BodyObligation (dats T hok m ρ 0 c) (defs₀ (F := F)) Variants.none () Set.univ := fun t => by
  rw [bigSep_W0]
  exact sound_body T hok m ρ c t

/-- The launch's resources. -/
def u₀ : UR sig nD τ :=
  initOf (Pipeline.cells (pcs T hok) ((launch0 (F := F)).cellOf_inj fun _ => adm T hok))
    (Pipeline.launchToks (pcs T hok) ((launch0 (F := F)).cellOf_inj fun _ => adm T hok))

theorem share_eq (c : Dev nD) (w : Fin (cfgT T hok).W) : (dats T hok m ρ 0 c).share w = fullShare := by unfold Dat.share; split <;> rfl

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

theorem phi_intro (c : Dev nD) :
    iprop(BI.emp ∗ Pipeline.prefHeld pre0 c (fun _ => fullShare.right) (adm T hok).1 ∗ Pipeline.scopedRest spec0 c) ⊢ (dats T hok m ρ 0 c).Φ 0 := by
  rw [prefHeld_eq, scopedRest0_eq, show (dats T hok m ρ 0 c).Φ 0 = Phi T hok m ρ c 0 from rfl]
  unfold Phi
  iintro ⟨-, ⟨HT0⟩, ⟨%a0, HS0⟩, ⟨%a1, HS1⟩⟩
  isplitl [HS0]
  · iexists a0; isplitr; swap
    · iexact HS0
    · ipureintro; intro _ h; omega
  isplitl [HS1]
  · iexists a1; isplitr; swap
    · iexact HS1
    · ipureintro; intro _ h; omega
  iexact HT0

theorem phi_exit (c : Dev nD) : (dats T hok m ρ 0 c).Φ (Fin.last (cfgT T hok).N) ⊢ iprop(BI.emp ∗ Pipeline.scopedRest spec0 c) := by
  rw [scopedRest0_eq, show (dats T hok m ρ 0 c).Φ (Fin.last (cfgT T hok).N) = Phi T hok m ρ c (cfgT T hok).N from rfl]
  unfold Phi
  iintro ⟨⟨%a0, -, HS0⟩, ⟨%a1, -, HS1⟩, -⟩
  isplitr; · iempintro
  isplitl [HS0]
  · iexists a0; iexact HS0
  iexists a1; iexact HS1

/-- Every array ends at what the data computes, the table as it was. -/
def Ends : PUnit × MemSt nD τ sig (Elt F) → Prop := fun r =>
  ∀ c : Dev nD, (∀ w : Fin (cfgT T hok).W, r.2.mem (((cfgT T hok).win w).arr.view.loc (c : Thread nD τ)) = (dats T hok m ρ 0 c).arrAt w (cfgT T hok).N)
    ∧ ∀ j, r.2.mem ((c : Thread nD τ).loc (pre0.ref j)) = (adm T hok).1 j

variable (hp : ∀ c : Dev nD, m ((c : Thread nD τ).loc main_arg0) = T)
include hp

theorem tabs_held (c : Dev nD) (j : Fin 1) : m ((c : Thread nD τ).loc (pre0.ref j)) = (adm T hok).1 j := by
  fin_cases j
  exact hp c

set_option backward.isDefEq.respectTransparency.types false in
set_option maxHeartbeats 4000000 in
/-- The call runs from any memory that holds the table. -/
theorem runs : θ_run (defs (F := F)) (onTc (τ := τ) (main (F := F))) (s₀ m ρ) (fun r => Ends T hok m ρ r ∧ r.2.sem = fun _ => 0) :=
  Pipeline.θ_run_region_noSem_pf_quiescent pcfgs (fun _ => adm T hok) (dats T hok m ρ) () ((launch0 (F := F)).cellOf_inj fun _ => adm T hok) (0 : Fin 1)
    (launch0 (F := F)).win.to₀ (launch0 (F := F)).pre EP defs₀ Variants.none m ρ main
    (hbody := fun c => (body_obligation T hok m ρ c).loose) (hne := (launch0 (F := F)).block_pos)
    (harr := (launch0 (F := F)).arr_whole) (hstage := (launch0 (F := F)).stage_whole) (howed := fun _ _ => rfl)
    (u₀ := u₀ T hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T hok) (dats T hok m ρ) 0 (launch0 (F := F)).win.arr_inj c (launch0 (F := F)).arr_whole
      (share_eq T hok m ρ c) _ _ fun _ => rfl)
    (hpf := tabs_held T hok m hp)
    (X := fun _ => iprop(emp)) (Y := fun _ => iprop(emp)) (Z := fun _ => iprop(emp))
    (hX := fun c => by rw [unscopedRestP0_eq]; iintro -; isplitr <;> iempintro)
    (hin := phi_intro T hok m ρ)
    (hout := phi_exit T hok m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every run ends with the output array at what the data computes, every argument as it was and every semaphore at
    zero. -/
theorem run_ends : θ_run (defs (F := F)) (onTc (τ := τ) (main (F := F))) ⟨m, fun _ => 0, ρ⟩ (fun r => (∀ c : Dev nD,
      r.2.mem ((c.tc : Thread nD τ).loc main_v0) = (dats T hok m ρ 0 c).arrAt (4 : Fin 5) (cfgT T hok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 (4 : Fin 5), ((h.1 c).2 0).trans (hp c).symm,
    ((h.1 c).1 (0 : Fin 5)).trans ((dats T hok m ρ 0 c).arrAt_in (0 : Fin 5) rfl _), ((h.1 c).1 (1 : Fin 5)).trans ((dats T hok m ρ 0 c).arrAt_in (1 : Fin 5) rfl _),
    ((h.1 c).1 (2 : Fin 5)).trans ((dats T hok m ρ 0 c).arrAt_in (2 : Fin 5) rfl _), ((h.1 c).1 (3 : Fin 5)).trans ((dats T hok m ρ 0 c).arrAt_in (3 : Fin 5) rfl _)⟩, h.2⟩)
    (runs T hok m ρ hp)

end Cert.Experts

end
-- ==== Proof.Experts.Claims.lean ====
module

public import proofs.«01_k».proof.Defs
public import proofs.«01_k».proof.Proof.Gen.Expert
public import proofs.«01_k».proof.Proof.Gen.Pre_named
public import proofs.«01_k».proof.Proof.Experts.Launch
public import Idealize.ShloMosaic.Lib.ReduceAll
public import Idealize.ShloMosaic.Lib.Pointwise

/-!
# The experts' runs

The precondition says that every block of rows names one of the eight experts, which is what the call's blocks need to
lie inside the weights.
-/

@[expose] public section

set_option maxRecDepth 16384

noncomputable section

namespace Cert.Experts

open Cert.ExpertIdeal Cert.ExpertIdeal.Gen Idealize.ShloMosaic Idealize.ShloMosaic.TcCoe Idealize.SL.Sem

/-- A word that is at least zero and below eight, signed. -/
theorem word_lt (v : BitVec 32) (h : IntOp.andi (IntOp.cmpi .sge v 0#32) (IntOp.cmpi .slt v 8#32) = 1#1) : v.toNat < 8 := by
  have h1 : v.toInt ≥ 0 ∧ v.toInt < 8 := by
    simp only [IntOp.andi, IntOp.cmpi] at h
    by_cases a : (0#32).sle v <;> by_cases b : v.slt 8#32
    · exact ⟨by simpa [BitVec.sle_eq_decide] using a, by simpa [BitVec.slt_eq_decide] using b⟩
    all_goals simp_all
  have h2 := BitVec.toInt_eq_toNat_cond v
  have h3 := v.isLt
  split at h2 <;> omega

section
variable {F : FTy → Type} [FloatOps F]

theorem named_of (T : IVec Cert.Pre_named.S73 32) (x : FVec F Cert.Pre_named.S36864x1024 .f32) (wg wu : FVec F Cert.Pre_named.S2x8x1024x3584 .bf16)
    (wd : FVec F Cert.Pre_named.S2x8x3584x1024 .bf16) (h : Cert.Pre_named.fn (F := F) T x wg wu wd = fun _ => 1#1) : Named T := by
  intro y hy
  have : Subsingleton Cert.Pre_named.S_.Idx := ⟨fun a b => funext fun k => k.elim0⟩
  have h1 := Host.reduce_andi_all _ _ _ _ (fun k => k.elim0) (congrFun h fun k => k.elim0) (show Cert.Pre_named.S72.Idx from ix1 ⟨(y 0).val, hy⟩)
  have h2 := word_lt _ h1
  refine lt_of_eq_of_lt (congrArg (fun z => (T z).toNat) ?_) h2
  funext k
  apply Fin.ext
  match k with
  | ⟨0, _⟩ => show (y 0).val = 0 + (y 0).val; omega

variable (m : (ℓ : Loc nD τ sig) → Buf (Elt F) ℓ) (ρ : Dev nD → PrngReg)

/-- The table the call reads: there is one device. -/
abbrev table : S73.Idx → BitVec 32 := m (((0 : Dev nD) : Thread nD τ).loc main_arg0)

theorem table_held (c : Dev nD) : m ((c : Thread nD τ).loc main_arg0) = table m := by
  rw [show c = 0 from Subsingleton.elim _ _]

/-- A run keeps the arguments and leaves every semaphore at zero. -/
theorem framed (hT : Named (table m)) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_ends (table m) (ok_tabs _ hT) m ρ (table_held m))

end

/-- The device program's body table is the ideal one's, at the same floats. -/
theorem bodies_eq : Cert.Expert.defs₀ (F := Bits) = Cert.ExpertIdeal.defs₀ (F := Bits) := by
  unfold Cert.Expert.defs₀ Cert.ExpertIdeal.defs₀
  refine congrArg Defs.onTc (funext fun l => funext fun p => ?_)
  match l, p with
  | 0, (t, s) => rfl

theorem defs_eq : Cert.Expert.defs (F := Bits) = Cert.ExpertIdeal.defs (F := Bits) :=
  congrArg (Pipeline.defs (Cert.ExpertIdeal.pcfgs (F := Bits))) bodies_eq

theorem frameP : Cert.quiescent_Expert := by
  unfold Cert.quiescent_Expert
  rw [defs_eq]
  exact fun m ρ hp => framed (F := Bits) m ρ (named_of _ _ _ _ _ (hp 0))

theorem framePI : Cert.quiescent_ExpertIdeal := fun m ρ hp => framed m ρ (named_of _ _ _ _ _ (hp 0))

end Cert.Experts
end
-- ==== Proof.Experts.Ref.lean ====
module

public import proofs.«01_k».proof.Proof.Gen.ExpertReferenceIdeal.Run
public import proofs.«01_k».proof.Proof.Gated.Spec

/-!
# The experts' reference

The reference in its stages: the expert of every block of rows, the experts' weights taken for each block, the hidden
units, the blocks in use.
-/

@[expose] public section

set_option maxRecDepth 16384

noncomputable section

namespace Cert.Experts.Ref

open Cert.ExpertReferenceIdeal Cert.ExpertReferenceIdeal.Gen Idealize.ShloMosaic Idealize.ShloMosaic.TcCoe

section
variable {F : FTy → Type} [FloatOps F]

/-- The table's words, one for each block of rows. -/
def words (T : IVec S73 32) : IVec S72 32 := extractStridedSlice S72 ![0] T slices_S73_S72_0

/-- The words as row numbers, one below zero counted from the end. -/
def picks (T : IVec S73 32) : IVec S72x1 32 :=
  broadcastInDim S72x1 ![0] bcast_S72_S72x1_0 (select (cmpi .slt (words T) (broadcastInDim S72 ![] bcast_S_S72 (constantI S_ 32 0#32)))
    (addi (words T) (broadcastInDim S72 ![] bcast_S_S72 (constantI S_ 32 8#32))) (words T))

/-- The weights into the hidden width, of each block's expert. -/
def ups (T : IVec S73 32) (w : Vec F S2x8x1024x3584 .bf16) : FVec F S72x1024x3584 .bf16 :=
  Host.gather gather_S8x1024x3584_S72x1_S72x1024x3584_12_0_n_n_0_1_110243584
    (shapeCast S8x1024x3584 (extractStridedSlice S1x8x1024x3584 ![0, 0, 0, 0] w slices_S2x8x1024x3584_S1x8x1024x3584_0_0_0_0) shapeCasts_S1x8x1024x3584_S8x1024x3584) (picks T)

/-- The weights out of the hidden width, of each block's expert. -/
def downs (T : IVec S73 32) (w : Vec F S2x8x3584x1024 .bf16) : FVec F S72x3584x1024 .bf16 :=
  Host.gather gather_S8x3584x1024_S72x1_S72x3584x1024_12_0_n_n_0_1_135841024
    (shapeCast S8x3584x1024 (extractStridedSlice S1x8x3584x1024 ![0, 0, 0, 0] w slices_S2x8x3584x1024_S1x8x3584x1024_0_0_0_0) shapeCasts_S1x8x3584x1024_S8x3584x1024) (picks T)

/-- The product of every block of rows with its own matrix into the hidden width. -/
def wide (x : Vec F S36864x1024 .f32) (w : FVec F S72x1024x3584 .bf16) : FVec F S72x512x3584 .f32 :=
  Host.dotGeneral dot_S72x512x1024_S72x1024x3584_S72x512x3584_2_1_1_2_0_0 none (shapeCast S72x512x1024 x shapeCasts_S36864x1024_S72x512x1024) (extf .f32 w bitsLt_bf16_f32)

/-- One over every place. -/
def ones : FVec F S72x512x3584 .f32 := broadcastInDim S72x512x3584 ![] bcast_S_S72x512x3584 (constant S_ .f32 0x3F800000#32)

/-- The hidden units. -/
def hidden (a u : FVec F S72x512x3584 .f32) : FVec F S72x512x3584 .f32 :=
  mulf (mulf a (Host.divf ones (addf ones (Host.exp (Host.negf a))))) u

/-- Every block of rows through its expert. -/
def through (x : Vec F S36864x1024 .f32) (wg wu : FVec F S72x1024x3584 .bf16) (wd : FVec F S72x3584x1024 .bf16) : FVec F S72x512x1024 .f32 :=
  Host.dotGeneral dot_S72x512x3584_S72x3584x1024_S72x512x1024_2_1_1_2_0_0 none (hidden (wide x wg) (wide x wu)) (extf .f32 wd bitsLt_bf16_f32)

/-- Which blocks are in use. -/
def live (T : IVec S73 32) : IVec S72 1 :=
  cmpi .slt (iotaInDim S72 32 0) (broadcastInDim S72 ![] bcast_S_S72 (shapeCast S_ (extractStridedSlice S1 ![72] T slices_S73_S1_72) shapeCasts_S1_S_))

/-- The blocks in use, the rest zero. -/
def kept (T : IVec S73 32) (y : FVec F S72x512x1024 .f32) : FVec F S36864x1024 .f32 :=
  shapeCast S36864x1024 (select (broadcastInDim S72x512x1024 ![0, 1, 2] bcast_S72x1x1_S72x512x1024_0_1_2 (broadcastInDim S72x1x1 ![0] bcast_S72_S72x1x1_0 (live T)))
    y (broadcastInDim S72x512x1024 ![] bcast_S_S72x512x1024 (constant S_ .f32 0x00000000#32))) shapeCasts_S72x512x1024_S36864x1024

/-- The reference's result of its arguments. -/
def result (T : IVec S73 32) (x : Vec F S36864x1024 .f32) (wg wu : Vec F S2x8x1024x3584 .bf16) (wd : Vec F S2x8x3584x1024 .bf16) : FVec F S36864x1024 .f32 :=
  kept T (through x (ups T wg) (ups T wu) (downs T wd))

variable (m : (ℓ : Loc nD τ sig) → Buf (Elt F) ℓ) (c : Dev nD)

theorem res_eq : Value.res_out0 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end

/-- Taking matrices out of a stack of `n` by number. -/
abbrev stackDims (n A B N : ℕ) (wf : GatherDims.WF ⟨3, ![n, A, B]⟩ ⟨2, ![N, 1]⟩ ⟨3, ![N, A, B]⟩ [1, 2] [0] [] [0] [] 1 ![1, A, B]) :
    GatherDims ⟨3, ![n, A, B]⟩ ⟨2, ![N, 1]⟩ ⟨3, ![N, A, B]⟩ where
  offsetDims := [1, 2]
  collapsedSliceDims := [0]
  operandBatchingDims := []
  startIndicesBatchingDims := []
  startIndexMap := [0]
  indexVectorDim := 1
  sliceSizes := ![1, A, B]
  wf := wf

/-- The matrix taken at `t` is the stack's at word `t`, where that is a number in the stack. -/
theorem gather_matrix {α : Type} {n A B N w : ℕ} (wf : GatherDims.WF ⟨3, ![n, A, B]⟩ ⟨2, ![N, 1]⟩ ⟨3, ![N, A, B]⟩ [1, 2] [0] [] [0] [] 1 ![1, A, B])
    (x : (⟨3, ![n, A, B]⟩ : Shape).Idx → α) (idx : IVec ⟨2, ![N, 1]⟩ w) (t : Fin N) (a : Fin A) (b : Fin B) (e : Fin n)
    (he : (idx (ix2 t 0)).toInt.toNat = e.val) : Host.gather (stackDims n A B N wf) x idx (ix3 t a b) = x (ix3 e a b) := by
  unfold Host.gather
  congr 1
  funext k
  refine Fin.ext ?_
  fin_cases k
  · show (stackDims n A B N wf).start (ix3 t a b) idx 0 + (stackDims n A B N wf).batchCoord (ix3 t a b) 0 + (stackDims n A B N wf).offCoord (ix3 t a b) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (stackDims n A B N wf).startIndexMap from List.mem_singleton.mpr rfl)]
    have hsi : (stackDims n A B N wf).siIdx (ix3 t a b) ⟨List.idxOf (0 : Fin 3) (stackDims n A B N wf).startIndexMap,
        List.idxOf_lt_length_iff.2 (List.mem_singleton.mpr rfl)⟩ = ix2 t 0 := by
      funext k; refine Fin.ext ?_
      match k with
      | ⟨0, _⟩ => rfl
      | ⟨1, _⟩ => rfl
    rw [hsi, he]
    show min e.val (n - 1) = e.val
    omega
  · show (stackDims n A B N wf).start (ix3 t a b) idx 1 + (stackDims n A B N wf).batchCoord (ix3 t a b) 1 + (stackDims n A B N wf).offCoord (ix3 t a b) 1 = a.val
    rw [GatherDims.batchCoord_eq_zero _ _ _ List.not_mem_nil]
    show 0 + 0 + a.val = a.val
    omega
  · show (stackDims n A B N wf).start (ix3 t a b) idx 2 + (stackDims n A B N wf).batchCoord (ix3 t a b) 2 + (stackDims n A B N wf).offCoord (ix3 t a b) 2 = b.val
    rw [GatherDims.batchCoord_eq_zero _ _ _ List.not_mem_nil]
    show 0 + 0 + b.val = b.val
    omega

section
variable (T : IVec S73 32) (b : Fin 72) (e : Fin 8) (he : (T (ix1 ⟨b.val, by omega⟩)).toNat = e.val)
include he

/-- A word below eight, as a row number, is itself. -/
theorem picks_apply : (picks T (ix2 b 0)).toInt.toNat = e.val := by
  have hw : T (ix1 ⟨b.val, by omega⟩) = BitVec.ofNat 32 e.val := BitVec.eq_of_toNat_eq (by rw [he, BitVec.toNat_ofNat]; omega)
  pointwise [picks, words]
  rw [hw]
  clear he hw
  revert e
  decide

theorem ups_apply (w : Vec Ideal S2x8x1024x3584 .bf16) (d : Fin 1024) (j : Fin 3584) : ups T w (ix3 b d j) = w (ix4 0 e d j) := by
  refine (gather_matrix (n := 8) (A := 1024) (B := 3584) (N := 72) _ _ (picks T) b d j e (picks_apply T b e he)).trans ?_
  pointwise []

theorem downs_apply (w : Vec Ideal S2x8x3584x1024 .bf16) (j : Fin 3584) (o : Fin 1024) : downs T w (ix3 b j o) = w (ix4 0 e j o) := by
  refine (gather_matrix (n := 8) (A := 3584) (B := 1024) (N := 72) _ _ (picks T) b j o e (picks_apply T b e he)).trans ?_
  pointwise []

end

/-- Every block of rows through its expert, read at a block, a row and a column. -/
theorem through_apply (x : Vec Ideal S36864x1024 .f32) (wg wu : FVec Ideal S72x1024x3584 .bf16) (wd : FVec Ideal S72x3584x1024 .bf16)
    (b : Fin 72) (r : Fin 512) (o : Fin 1024) (g : Fin 36864) (hg : g.val = b.val * 512 + r.val) : through x wg wu wd (ix3 b r o)
      = Gated.swiglu (fun d => (x (ix2 g d) : EReal)) (fun d j => wg (ix3 b d j)) (fun d j => wu (ix3 b d j)) (fun j o => wd (ix3 b j o)) o := by
  have hl : b.val * 512 + r.val < 36864 := lt_of_eq_of_lt hg.symm g.isLt
  rw [show g = ⟨b.val * 512 + r.val, hl⟩ from Fin.ext hg]
  pointwise [through, hidden, wide, ones]
  rfl

theorem live_apply (T : IVec S73 32) (b : Fin 72) : live T (ix1 b) = IntOp.cmpi .slt (BitVec.ofNat 32 b.val) (T (ix1 72)) := by
  pointwise [live]

/-- The blocks in use and zeros, read at a row and a column. -/
theorem kept_apply (T : IVec S73 32) (y : FVec Ideal S72x512x1024 .f32) (b : Fin 72) (r : Fin 512) (o : Fin 1024) (g : Fin 36864) (hg : g.val = b.val * 512 + r.val) :
    kept T y (ix2 g o) = if IntOp.cmpi .slt (BitVec.ofNat 32 b.val) (T (ix1 72)) = 1#1 then (y (ix3 b r o) : EReal) else 0 := by
  have h1 : (⟨g.val / 512, by omega⟩ : Fin 72) = b := Fin.ext (by show g.val / 512 = b.val; omega)
  have h2 : (⟨g.val % 512, by omega⟩ : Fin 512) = r := Fin.ext (by show g.val % 512 = r.val; omega)
  pointwise [kept]
  rw [h1, h2, live_apply]
  rfl

/-- The reference's result, read at a block, a row of it and a column. -/
theorem result_apply (T : IVec S73 32) (x : Vec Ideal S36864x1024 .f32) (wg wu : Vec Ideal S2x8x1024x3584 .bf16) (wd : Vec Ideal S2x8x3584x1024 .bf16)
    (b : Fin 72) (r : Fin 512) (o : Fin 1024) (g : Fin 36864) (hg : g.val = b.val * 512 + r.val) (e : Fin 8) (he : (T (ix1 ⟨b.val, by omega⟩)).toNat = e.val) :
    result T x wg wu wd (ix2 g o) = if IntOp.cmpi .slt (BitVec.ofNat 32 b.val) (T (ix1 72)) = 1#1
      then Gated.swiglu (fun d => (x (ix2 g d) : EReal)) (fun d j => wg (ix4 0 e d j)) (fun d j => wu (ix4 0 e d j)) (fun j o => wd (ix4 0 e j o)) o else 0 := by
  unfold result
  rw [kept_apply T _ b r o g hg, through_apply x _ _ _ b r o g hg]
  simp only [ups_apply T b e he, downs_apply T b e he]

end Cert.Experts.Ref
end
-- ==== Proof.Experts.Out.lean ====
module

public import proofs.«01_k».proof.Proof.Experts.Claims
public import proofs.«01_k».proof.Proof.Experts.Ref

/-!
# The experts' array

A block of rows passes two grid points, one for each half of its expert's hidden units. What the second writes is the
block's rows of the reference's result.
-/

@[expose] public section

set_option maxRecDepth 16384

noncomputable section

namespace Cert.Experts

open Cert.ExpertIdeal Cert.ExpertIdeal.Gen Idealize.ShloMosaic Idealize.ShloMosaic.TcCoe

/-- A half's part, read at a row and a column. -/
theorem part_apply (x : Vec Ideal S512x1024 .bf16) (wg wu : Vec Ideal S1x1x1024x1792 .bf16) (wd : Vec Ideal S1x1x1792x1024 .bf16) (r : Fin 512) (o : Fin 1024) :
    k0_pay3 x wg wu wd (ix2 r o)
      = Gated.swiglu (fun d => (x (ix2 r d) : EReal)) (fun d j => wg (ix4 0 0 d j)) (fun d j => wu (ix4 0 0 d j)) (fun j o => wd (ix4 0 0 j o)) o := by
  unfold k0_pay3
  pointwise []
  simp only [zero_sub]
  rfl

theorem rows_apply (x : Vec Ideal S512x1024 .f32) (r : Fin 512) (d : Fin 1024) : (k0_pay2 x (ix2 r d) : EReal) = x (ix2 r d) := by
  unfold k0_pay2
  rw [shapeCast_self]
  rfl

theorem sum_apply (a b : FVec Ideal S512x1024 .f32) (r : Fin 512) (o : Fin 1024) : (k0_pay5 a b (ix2 r o) : EReal) = b (ix2 r o) + a (ix2 r o) := by
  unfold k0_pay5
  rw [shapeCast_self]
  rfl

theorem zeros_apply (r : Fin 512) (o : Fin 1024) : (k0_pay1 (F := Ideal) (ix2 r o) : EReal) = 0 := by
  unfold k0_pay1
  pointwise []

variable (T : S73.Idx → BitVec 32) (hok : ok0 (F := Ideal) (tabs T)) (t : Fin (cfgT T hok).N)

/-- A block of rows' number. -/
def block : Fin 72 := ⟨t.val / 2, by have := lt_of_lt_of_eq t.isLt N_0; omega⟩

/-- A point is active where its block's number is below the number of blocks in use. -/
theorem active_iff : Active T hok t ↔ IntOp.cmpi .slt (BitVec.ofNat 32 (block T hok t).val) (T (ix1 72)) = 1#1 := by
  unfold Active k0_cond1
  rw [crd0]
  have hu : used (F := Ideal) T = T (ix1 72) := by
    show T _ = T _
    congr 1
    funext k; apply Fin.ext
    match k with
    | ⟨0, _⟩ => rfl
  rw [hu]
  show IntOp.cmpi .ne ((IntOp.cmpi .slt (BitVec.ofNat 32 (t.val / 2)) (T (ix1 72))).setWidth 32) 0#32 = 1#1 ↔ IntOp.cmpi .slt (BitVec.ofNat 32 (t.val / 2)) (T (ix1 72)) = 1#1
  generalize IntOp.cmpi .slt (BitVec.ofNat 32 (t.val / 2)) (T (ix1 72)) = v
  revert v
  decide

theorem word_at (hb : ∀ a, (k0_off1 (crd T hok t)) a + S1.size a ≤ S73.size a) (z : S1.Idx) :
    T ((Rect.unit (s := S73) ![(Scalar.indexCast (BitVec.ofNat 32 (crd T hok t 0).val)).toNat] S1.size hb).emb z) = T (ix1 ⟨(block T hok t).val, by omega⟩) := by
  congr 1
  funext k; apply Fin.ext
  match k with
  | ⟨0, _⟩ =>
    show (Scalar.indexCast (BitVec.ofNat 32 (crd T hok t 0).val)).toNat + 1 * (z 0).val = t.val / 2
    have h0 : (z 0).val < 1 := (z 0).isLt
    have h1 : (Scalar.indexCast (BitVec.ofNat 32 (crd T hok t 0).val)).toNat = (crd T hok t 0).val := coord0_word _
    rw [h1, crd0]
    omega

theorem half_at (h : Active T hok t) (v : BitVec 32) (hv : v = T (ix1 72)) :
    (Scalar.select (Scalar.cmpi .slt (BitVec.ofNat 32 (crd T hok t 0).val) v) (BitVec.ofNat 32 (crd T hok t 1).val) (1#32 : BitVec 32)).toNat = t.val % 2 := by
  have h1 := (active_iff T hok t).mp h
  rw [hv, crd0, crd1]
  show (Scalar.select (IntOp.cmpi .slt (BitVec.ofNat 32 (block T hok t).val) (T (ix1 72))) (BitVec.ofNat 32 (t.val % 2)) (1#32 : BitVec 32)).toNat = _
  rw [h1]
  show (BitVec.ofNat 32 (t.val % 2)).toNat = _
  rw [BitVec.toNat_ofNat]
  omega

/-- The rows' block indices at a point. -/
theorem index0 : (((cfgT T hok).win (0 : Fin 5)).index t (0 : Fin 2) = t.val / 2) ∧ (((cfgT T hok).win (0 : Fin 5)).index t (1 : Fin 2) = 0) :=
  ⟨(coord0_word (crd T hok t)).trans (crd0 T hok t), rfl⟩

/-- The weights' block indices at an active point: the block's expert, the point's half. -/
theorem index1 (h : Active T hok t) : (((cfgT T hok).win (1 : Fin 5)).index t (0 : Fin 4) = 0) ∧ (((cfgT T hok).win (1 : Fin 5)).index t (1 : Fin 4) = (T (ix1 ⟨(block T hok t).val, by omega⟩)).toNat)
    ∧ (((cfgT T hok).win (1 : Fin 5)).index t (2 : Fin 4) = 0) ∧ (((cfgT T hok).win (1 : Fin 5)).index t (3 : Fin 4) = t.val % 2) :=
  ⟨rfl, congrArg BitVec.toNat (word_at T hok t _ _), rfl, half_at T hok t h _ (congrArg T (by funext k; apply Fin.ext; match k with | ⟨0, _⟩ => rfl))⟩

theorem index2 (h : Active T hok t) : (((cfgT T hok).win (2 : Fin 5)).index t (0 : Fin 4) = 0) ∧ (((cfgT T hok).win (2 : Fin 5)).index t (1 : Fin 4) = (T (ix1 ⟨(block T hok t).val, by omega⟩)).toNat)
    ∧ (((cfgT T hok).win (2 : Fin 5)).index t (2 : Fin 4) = 0) ∧ (((cfgT T hok).win (2 : Fin 5)).index t (3 : Fin 4) = t.val % 2) :=
  index1 T hok t h

theorem index3 (h : Active T hok t) : (((cfgT T hok).win (3 : Fin 5)).index t (0 : Fin 4) = 0) ∧ (((cfgT T hok).win (3 : Fin 5)).index t (1 : Fin 4) = (T (ix1 ⟨(block T hok t).val, by omega⟩)).toNat)
    ∧ (((cfgT T hok).win (3 : Fin 5)).index t (2 : Fin 4) = t.val % 2) ∧ (((cfgT T hok).win (3 : Fin 5)).index t (3 : Fin 4) = 0) :=
  ⟨rfl, (index1 T hok t h).2.1, (index1 T hok t h).2.2.2, rfl⟩

theorem index4 : (((cfgT T hok).win (4 : Fin 5)).index t (0 : Fin 2) = t.val / 2) ∧ (((cfgT T hok).win (4 : Fin 5)).index t (1 : Fin 2) = 0) :=
  index0 T hok t

variable (m : (ℓ : Loc nD τ sig) → Buf (Elt Ideal) ℓ) (ρ : Dev nD → PrngReg) (c : Dev nD)

theorem blk0_apply (r : Fin 512) (x : Fin 1024) (g : Fin 36864) (hg : g.val = t.val / 2 * 512 + r.val) :
    blk T hok m ρ c (0 : Fin 5) t (ix2 r x) = m ((c : Thread nD τ).loc main_arg1) (ix2 g x) := by
  obtain ⟨e0, e1⟩ := index0 T hok t
  show m ((c : Thread nD τ).loc main_arg1) ((((cfgT T hok).win (0 : Fin 5)).blk t).view.emb (ix2 r x)) = _
  congr 1
  funext a; apply Fin.ext
  match a with
  | ⟨0, _⟩ => show ((cfgT T hok).win (0 : Fin 5)).index t (0 : Fin 2) * 512 + 1 * r.val = g.val; omega
  | ⟨1, _⟩ => show ((cfgT T hok).win (0 : Fin 5)).index t (1 : Fin 2) * 1024 + 1 * x.val = x.val; omega

section
variable (h : Active T hok t) (e : Fin 8) (he : (T (ix1 ⟨(block T hok t).val, by omega⟩)).toNat = e.val) (j : Fin 1792) (k : Fin 3584) (hk : k.val = 1792 * (t.val % 2) + j.val)
include h he hk

theorem blk1_apply (d : Fin 1024) : blk T hok m ρ c (1 : Fin 5) t (ix4 0 0 d j) = m ((c : Thread nD τ).loc main_arg2) (ix4 0 e d k) := by
  obtain ⟨e0, e1, e2, e3⟩ := index1 T hok t h
  show m ((c : Thread nD τ).loc main_arg2) ((((cfgT T hok).win (1 : Fin 5)).blk t).view.emb (ix4 0 0 d j)) = _
  congr 1
  funext a; apply Fin.ext
  match a with
  | ⟨0, _⟩ => show ((cfgT T hok).win (1 : Fin 5)).index t (0 : Fin 4) * 1 + 1 * 0 = 0; omega
  | ⟨1, _⟩ => show ((cfgT T hok).win (1 : Fin 5)).index t (1 : Fin 4) * 1 + 1 * 0 = e.val; omega
  | ⟨2, _⟩ => show ((cfgT T hok).win (1 : Fin 5)).index t (2 : Fin 4) * 1024 + 1 * d.val = d.val; omega
  | ⟨3, _⟩ => show ((cfgT T hok).win (1 : Fin 5)).index t (3 : Fin 4) * 1792 + 1 * j.val = k.val; omega

theorem blk2_apply (d : Fin 1024) : blk T hok m ρ c (2 : Fin 5) t (ix4 0 0 d j) = m ((c : Thread nD τ).loc main_arg3) (ix4 0 e d k) := by
  obtain ⟨e0, e1, e2, e3⟩ := index2 T hok t h
  show m ((c : Thread nD τ).loc main_arg3) ((((cfgT T hok).win (2 : Fin 5)).blk t).view.emb (ix4 0 0 d j)) = _
  congr 1
  funext a; apply Fin.ext
  match a with
  | ⟨0, _⟩ => show ((cfgT T hok).win (2 : Fin 5)).index t (0 : Fin 4) * 1 + 1 * 0 = 0; omega
  | ⟨1, _⟩ => show ((cfgT T hok).win (2 : Fin 5)).index t (1 : Fin 4) * 1 + 1 * 0 = e.val; omega
  | ⟨2, _⟩ => show ((cfgT T hok).win (2 : Fin 5)).index t (2 : Fin 4) * 1024 + 1 * d.val = d.val; omega
  | ⟨3, _⟩ => show ((cfgT T hok).win (2 : Fin 5)).index t (3 : Fin 4) * 1792 + 1 * j.val = k.val; omega

theorem blk3_apply (o : Fin 1024) : blk T hok m ρ c (3 : Fin 5) t (ix4 0 0 j o) = m ((c : Thread nD τ).loc main_arg4) (ix4 0 e k o) := by
  obtain ⟨e0, e1, e2, e3⟩ := index3 T hok t h
  show m ((c : Thread nD τ).loc main_arg4) ((((cfgT T hok).win (3 : Fin 5)).blk t).view.emb (ix4 0 0 j o)) = _
  congr 1
  funext a; apply Fin.ext
  match a with
  | ⟨0, _⟩ => show ((cfgT T hok).win (3 : Fin 5)).index t (0 : Fin 4) * 1 + 1 * 0 = 0; omega
  | ⟨1, _⟩ => show ((cfgT T hok).win (3 : Fin 5)).index t (1 : Fin 4) * 1 + 1 * 0 = e.val; omega
  | ⟨2, _⟩ => show ((cfgT T hok).win (3 : Fin 5)).index t (2 : Fin 4) * 1792 + 1 * j.val = k.val; omega
  | ⟨3, _⟩ => show ((cfgT T hok).win (3 : Fin 5)).index t (3 : Fin 4) * 1024 + 1 * o.val = o.val; omega

end

/-- A half's part at an active point: the block's rows through that half of its expert's hidden units. -/
theorem part_at (h : Active T hok t) (e : Fin 8) (he : (T (ix1 ⟨(block T hok t).val, by omega⟩)).toNat = e.val)
    (x : Vec Ideal S512x1024 .bf16) (r : Fin 512) (o : Fin 1024) (half : Fin 1792 → Fin 3584) (hh : ∀ j, (half j).val = 1792 * (t.val % 2) + j.val) :
    k0_pay3 x (blk T hok m ρ c (1 : Fin 5) t) (blk T hok m ρ c (2 : Fin 5) t) (blk T hok m ρ c (3 : Fin 5) t) (ix2 r o)
      = Gated.swiglu (fun d => (x (ix2 r d) : EReal)) (fun d j => m ((c : Thread nD τ).loc main_arg2) (ix4 0 e d (half j)))
          (fun d j => m ((c : Thread nD τ).loc main_arg3) (ix4 0 e d (half j))) (fun j o => m ((c : Thread nD τ).loc main_arg4) (ix4 0 e (half j) o)) o := by
  refine (part_apply _ _ _ _ r o).trans ?_
  congr 1
  · funext d j; exact blk1_apply T hok t m ρ c h e he j (half j) (hh j) d
  · funext d j; exact blk2_apply T hok t m ρ c h e he j (half j) (hh j) d
  · funext j o; exact blk3_apply T hok t m ρ c h e he j (half j) (hh j) o

/-- The array that the reference's result is. -/
abbrev want : FVec Ideal Cert.ExpertReferenceIdeal.S36864x1024 .f32 :=
  Ref.result T (m ((c : Thread nD τ).loc main_arg1)) (m ((c : Thread nD τ).loc main_arg2)) (m ((c : Thread nD τ).loc main_arg3)) (m ((c : Thread nD τ).loc main_arg4))

/-- What a block of rows' second point writes, read at a row and a column. -/
theorem out_at (hT : Named T) (ht : t.val % 2 = 1) (r : Fin 512) (o : Fin 1024) (g : Fin 36864) (hg : g.val = t.val / 2 * 512 + r.val) :
    outAt T hok m ρ c t (ix2 r o) = want T m c (ix2 g o) := by
  have hb : (T (ix1 ⟨(block T hok t).val, by omega⟩)).toNat < 8 := hT _ (block T hok t).isLt
  refine Eq.trans ?_ (Ref.result_apply T _ _ _ _ (block T hok t) r o g hg ⟨_, hb⟩ rfl).symm
  by_cases h : Active T hok t
  · have hp : Active T hok (prev T hok t) := (active_succ T hok (prev T hok t) (by show t.val - 1 + 1 < _; have := t.isLt; omega) (by show (t.val - 1) % 2 = 0; omega)).mp
      (by have : (⟨(prev T hok t).val + 1, by show t.val - 1 + 1 < _; have := t.isLt; omega⟩ : Fin (cfgT T hok).N) = t := Fin.ext (by show t.val - 1 + 1 = t.val; omega)
          rw [this]; exact h)
    have hbp : block T hok (prev T hok t) = block T hok t := Fin.ext (by show (t.val - 1) / 2 = t.val / 2; omega)
    rw [outAt, if_pos h, if_pos ((active_iff T hok t).mp h)]
    refine (sum_apply _ _ r o).trans ?_
    refine (congrArg₂ (fun a b : EReal => a + b)
      (part_at T hok (prev T hok t) m ρ c hp ⟨_, hb⟩ (congrArg (fun b : Fin 72 => (T (ix1 ⟨b.val, by omega⟩)).toNat) hbp) _ r o (Fin.castAdd 1792) (fun j => by show j.val = 1792 * ((t.val - 1) % 2) + j.val; omega))
      (part_at T hok t m ρ c h ⟨_, hb⟩ rfl _ r o (Fin.natAdd 1792) (fun j => by show 1792 + j.val = _; omega))).trans ?_
    refine (Gated.swiglu_halves (M := 1792) _ (fun d j => m ((c : Thread nD τ).loc main_arg2) (ix4 0 ⟨_, hb⟩ d j)) (fun d j => m ((c : Thread nD τ).loc main_arg3) (ix4 0 ⟨_, hb⟩ d j))
      (fun j o => m ((c : Thread nD τ).loc main_arg4) (ix4 0 ⟨_, hb⟩ j o)) o).trans ?_
    congr 1
    funext d
    refine (rows_apply _ r d).trans ?_
    exact blk0_apply T hok (prev T hok t) m ρ c r d g (by show g.val = (t.val - 1) / 2 * 512 + r.val; omega)
  · rw [outAt, if_neg h, if_neg fun hc => h ((active_iff T hok t).mpr hc)]
    exact zeros_apply r o

/-- An output block's place in the array. -/
theorem place4 (y : S512x1024.Idx) (r : Fin 512) (o : Fin 1024) (hr : (y 0).val = r.val) (ho : (y 1).val = o.val) (g : Fin 36864) (hg : g.val = t.val / 2 * 512 + r.val) :
    (((cfgT T hok).win (4 : Fin 5)).blk t).view.emb y = ix2 g o := by
  obtain ⟨e0, e1⟩ := index4 T hok t
  funext a; apply Fin.ext
  match a with
  | ⟨0, _⟩ => show ((cfgT T hok).win (4 : Fin 5)).index t (0 : Fin 2) * 512 + 1 * (y 0).val = g.val; omega
  | ⟨1, _⟩ => show ((cfgT T hok).win (4 : Fin 5)).index t (1 : Fin 2) * 1024 + 1 * (y 1).val = o.val; omega

/-- Every place of the array is in a block that is written back. -/
theorem covered (i : S36864x1024.Idx) : ∃ t : Fin (cfgT T hok).N, ((cfgT T hok).win (4 : Fin 5)).flush t = true ∧ i ∈ (((cfgT T hok).win (4 : Fin 5)).blk t).view.set := by
  have hN : (cfgT T hok).N = 144 := N_0
  have h0 : (i 0).val < 36864 := (i 0).isLt
  have h1 : (i 1).val < 1024 := (i 1).isLt
  let t : Fin (cfgT T hok).N := ⟨2 * ((i 0).val / 512) + 1, by omega⟩
  refine ⟨t, (flush_iff T hok t).mpr (by show (2 * ((i 0).val / 512) + 1) % 2 = 1; omega), ?_⟩
  have hi : i = ix2 (⟨(i 0).val, h0⟩ : Fin 36864) (⟨(i 1).val, h1⟩ : Fin 1024) := by
    funext a; apply Fin.ext
    match a with
    | ⟨0, _⟩ => rfl
    | ⟨1, _⟩ => rfl
  rw [hi, ← place4 T hok t (ix2 (⟨(i 0).val % 512, by omega⟩ : Fin 512) (⟨(i 1).val, h1⟩ : Fin 1024)) ⟨(i 0).val % 512, by omega⟩ ⟨(i 1).val, h1⟩ rfl rfl ⟨(i 0).val, h0⟩
    (by show (i 0).val = (2 * ((i 0).val / 512) + 1) / 2 * 512 + (i 0).val % 512; omega)]
  exact View.emb_mem_set _ _

/-- The array after the run. -/
theorem final_eq (hT : Named T) : (dats T hok m ρ 0 c).arrAt (4 : Fin 5) (cfgT T hok).N = want T m c := by
  refine (dats T hok m ρ 0 c).arrAt_eq_of_cover (4 : Fin 5) (want T m c) (fun t hf => ?_) (covered T hok)
  have ht : t.val % 2 = 1 := (flush_iff T hok t).mp hf
  have hN : t.val < 144 := lt_of_lt_of_eq t.isLt N_0
  funext y
  have y0 : (y 0).val < 512 := (y 0).isLt
  have y1 : (y 1).val < 1024 := (y 1).isLt
  show _ = want T m c ((((cfgT T hok).win (4 : Fin 5)).blk t).view.emb y)
  rw [place4 T hok t y ⟨(y 0).val, y0⟩ ⟨(y 1).val, y1⟩ rfl rfl ⟨t.val / 2 * 512 + (y 0).val, by omega⟩ rfl]
  refine Eq.trans ?_ (out_at T hok t m ρ c hT ht ⟨(y 0).val, y0⟩ ⟨(y 1).val, y1⟩ _ rfl)
  show outAt T hok m ρ c t _ = outAt T hok m ρ c t _
  congr 1
  funext a; apply Fin.ext
  match a with
  | ⟨0, _⟩ => rfl
  | ⟨1, _⟩ => rfl

end Cert.Experts
end
-- ==== Proof.Experts.Equal.lean ====
module

public import proofs.«01_k».proof.Defs
public import proofs.«01_k».proof.Proof.Experts.Out
public import Idealize.ShloMosaic.Lib.Quiescent

/-!
# The experts' claims

The reference's runs, and that its result and the kernel's are equal.
-/

@[expose] public section

set_option maxRecDepth 16384

noncomputable section

namespace Cert.Experts

open Idealize.ShloMosaic Idealize.ShloMosaic.TcCoe Idealize.SL.Sem

/-- The reference runs, keeps its arguments, and has no semaphore that could be left above zero. -/
theorem frameRI : Cert.quiescent_ExpertReferenceIdeal := fun m ρ _ =>
  (θ_run Cert.ExpertReferenceIdeal.defs _ _).mono
    (fun r h => ⟨fun c => (h c).2, sem_eq_zero_of_no_sems (by decide) r.2⟩) (Cert.ExpertReferenceIdeal.Value.run m ρ)

theorem frameRI_named : Cert.quiescent_ExpertReferenceIdeal_pre_named := fun m ρ _ => frameRI m ρ trivial

/-- The kernel's result and the reference's are equal, where every block of rows names an expert. -/
theorem algebraic : Cert.algebraic_ExpertIdeal_ExpertReferenceIdeal := by
  intro m g m' g' hp hagree
  have hT : Named (table m) := named_of _ _ _ _ _ (hp 0)
  refine ⟨fun c => want (table m) m c,
    (θ_run Cert.ExpertIdeal.defs _ _).mono (fun _ h c => ⟨(h.1 c).1.trans (final_eq (table m) (ok_tabs _ hT) m g c hT), (h.1 c).2⟩)
      (run_ends (table m) (ok_tabs _ hT) m g (table_held m)), ?_⟩
  refine (θ_run Cert.ExpertReferenceIdeal.defs _ _).mono (fun r h c => ⟨(h c).1.trans ?_, (h c).2⟩) (Cert.ExpertReferenceIdeal.Value.run m' g')
  obtain ⟨a0, a1, a2, a3, a4⟩ := hagree c
  exact (Ref.res_eq m' c).trans (congr (congr (congr (congr (congrArg (Ref.result (F := Ideal)) (a0.trans (table_held m c))) a1) a2) a3) a4)

end Cert.Experts
end
-- ==== Proof.InProj.Spec.lean ====
module

public import Idealize.ShloMosaic.Lib.Pointwise

/-!
# The input projection over the extended reals

One row of inputs goes through the products. The rotary pairs the columns of the two halves of a component of 64 columns;
the first four of the last product's columns are the decays, the others the write strengths.
-/

@[expose] public section

noncomputable section

namespace Cert.InProj

open Idealize.ShloMosaic Finset

/-- A row times a column. -/
def dot {D : ℕ} (x w : Fin D → EReal) : EReal := ∑ d, x d * w d

/-- The column that the rotary pairs with column `j`: the same place in the other half of its component. -/
def partner (j : Fin 512) : Fin 512 := if h : j.val % 64 < 32 then ⟨j.val + 32, by omega⟩ else ⟨j.val - 32, by omega⟩

/-- The place of column `j` in its head, where the tables are read. -/
def lane (j : Fin 512) : Fin 128 := ⟨j.val % 128, by omega⟩

/-- The rotary of the row `y`; the table `s` carries the sign of the first half. -/
def rope (y : Fin 512 → EReal) (c s : Fin 128 → EReal) (j : Fin 512) : EReal := y j * c (lane j) + y (partner j) * s (lane j)

/-- The queries' factor, as the word that the programs have. -/
def scale : EReal := Ideal.ofBits .f32 0x3E38AA3B#32

/-- The softplus of `t`. -/
def softplus (t : EReal) : EReal := max t 0 + Ideal.log1p (Ideal.exp (-max t (-t)))

/-- The gates of a row: decays in the first four columns, the logistic function in the others. -/
def gates (y dtb a : Fin 128 → EReal) (j : Fin 128) : EReal :=
  if j.val < 4 then -a j * softplus (y j + dtb j) else Ideal.div 1 (1 + Ideal.exp (-y j))

end Cert.InProj
end
-- ==== Proof.InProj.Body.lean ====
module

public import proofs.«01_k».proof.Proof.Gen.InProjIdeal.Value
public import proofs.«01_k».proof.Proof.InProj.Spec

/-!
# The input projection's body

What a grid point leaves in each of the six outputs' buffers, and how it reads at a row and a column.
-/

@[expose] public section

set_option maxRecDepth 16384

noncomputable section

namespace Cert.InProj

open Idealize.ShloMosaic Idealize.ShloMosaic.TcCoe Cert.InProjIdeal Cert.InProjIdeal.Gen

theorem origin2 : (![0, 0] : Fin 2 → ℕ) = fun _ => 0 := by funext a; fin_cases a <;> rfl
theorem origin3 : (![0, 0, 0] : Fin 3 → ℕ) = fun _ => 0 := by funext a; fin_cases a <;> rfl

section
variable {F : FTy → Type} [FloatOps F]
variable (c : Dev nD) (i : grid0.Coords) (arg1 : Memref sig .tc .vmem S512x1024 .bf16) (harg1 : arg1.IsWhole) (arg2 : Memref sig .tc .vmem S1x1024x512 .bf16) (harg2 : arg2.IsWhole) (arg3 : Memref sig .tc .vmem S1x1024x512 .bf16) (harg3 : arg3.IsWhole) (arg4 : Memref sig .tc .vmem S512x1024 .bf16) (harg4 : arg4.IsWhole) (arg5 : Memref sig .tc .vmem S1x1024x1536 .bf16) (harg5 : arg5.IsWhole) (arg6 : Memref sig .tc .vmem S1x1024x512 .bf16) (harg6 : arg6.IsWhole) (arg7 : Memref sig .tc .vmem S1024x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S2x512x256 .bf16) (harg14 : arg14.IsWhole) (arg15 : Memref sig .tc .vmem S512x1536 .f32) (harg15 : arg15.IsWhole) (arg16 : Memref sig .tc .vmem S512x512 .f32) (harg16 : arg16.IsWhole) (arg17 : Memref sig .tc .vmem S512x128 .f32) (harg17 : arg17.IsWhole)
  (x0 : Vec F S512x1024 .bf16) (x1 : Vec F S1x1024x512 .bf16) (x2 : Vec F S1x1024x512 .bf16) (x3 : Vec F S512x1024 .bf16) (x4 : Vec F S1x1024x1536 .bf16) (x5 : Vec F S1x1024x512 .bf16) (x6 : Vec F S1024x128 .bf16) (x7 : Vec F S512x128 .f32) (x8 : Vec F S512x128 .f32) (x9 : Vec F S1x128 .f32) (x10 : Vec F S1x128 .f32)

theorem out_q : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10
      = k0_pay4 x0 x7 x8 x1 := by
  unfold out0_A_11
  rw [View.read_writes_junk_eq_canon]
  unfold kernelRun0_A
  dsimp only
  sl_unfold_words
  rw [View.canon_unit_zero origin2]
  simp only [View.readAt_eq_ld, harg1.read_unread, harg2.read_unread, harg8.read_unread, harg9.read_unread, View.ld_unit_zero (S := S512x1024) origin2,
    View.ld_unit_zero (S := S1x1024x512) origin3, View.ld_unit_zero (S := S512x128) origin2, shapeCast_self]

theorem out_k : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10
      = k0_pay5 x0 (k0_pay1 x7) (k0_pay2 x8) k0_pay3 x2 := by
  unfold out0_A_12
  rw [View.read_writes_junk_eq_canon]
  unfold kernelRun0_A
  dsimp only
  sl_unfold_words
  rw [View.canon_unit_zero origin2]
  simp only [View.readAt_eq_ld, harg1.read_unread, harg3.read_unread, harg8.read_unread, harg9.read_unread, View.ld_unit_zero (S := S512x1024) origin2,
    View.ld_unit_zero (S := S1x1024x512) origin3, View.ld_unit_zero (S := S512x128) origin2, shapeCast_self]

theorem out_g : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10
      = k0_pay8 x0 x4 := by
  unfold out0_A_14
  rw [View.read_writes_junk_eq_canon]
  unfold kernelRun0_A
  dsimp only
  sl_unfold_words
  rw [View.canon_unit_zero origin2]
  simp only [View.readAt_eq_ld, harg1.read_unread, harg5.read_unread, View.ld_unit_zero (S := S512x1024) origin2,
    View.ld_unit_zero (S := S1x1024x1536) origin3, shapeCast_self]

theorem out_z : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10
      = k0_pay9 x0 x5 := by
  unfold out0_A_15
  rw [View.read_writes_junk_eq_canon]
  unfold kernelRun0_A
  dsimp only
  sl_unfold_words
  rw [View.canon_unit_zero origin2]
  simp only [View.readAt_eq_ld, harg1.read_unread, harg6.read_unread, View.ld_unit_zero (S := S512x1024) origin2,
    View.ld_unit_zero (S := S1x1024x512) origin3, shapeCast_self]

theorem out_gb : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10
      = k0_pay10 x0 x6 x10 x9 := by
  unfold out0_A_16
  rw [View.read_writes_junk_eq_canon]
  unfold kernelRun0_A
  dsimp only
  sl_unfold_words
  rw [View.canon_unit_zero origin2]
  simp only [View.readAt_eq_ld, harg1.read_unread, harg7.read_unread, harg10.read_unread, harg11.read_unread, View.ld_unit_zero (S := S512x1024) origin2,
    View.ld_unit_zero (S := S1024x128) origin2, View.ld_unit_zero (S := S1x128) origin2, shapeCast_self]

/-- The two stores of the values' blocks. -/
theorem out_vt : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10
      = fun y : S2x512x256.Idx => if (y 0).val = 0 then k0_pay6 x0 x3 (ix3 0 (y 1) (y 2)) else k0_pay7 x0 x3 (ix3 0 (y 1) (y 2)) := by
  unfold out0_A_13
  rw [View.read_writes_junk_eq_canon]
  unfold kernelRun0_A
  dsimp only
  sl_unfold_words
  simp only [View.readAt_eq_ld, harg1.read_unread, harg4.read_unread, View.ld_unit_zero (S := S512x1024) origin2]
  funext y
  have y0 : (y 0).val < 2 := (y 0).isLt
  by_cases h : (y 0).val = 0
  · rw [if_pos h, View.canon_cons_of_not_mem _ _ (fun hm => by
      obtain ⟨x, hx⟩ := LoadRect.exists_idx_of_mem (Rect.unit (s := S2x512x256) ![1, 0, 0] ![1, 512, 256] inb_S2x512x256_S1x512x256_1_0_0).toLoadRect hm
      have hv := congrArg (fun z : S2x512x256.Idx => (z 0).val) hx
      have : 1 + 1 * (x 0).val = (y 0).val := hv
      omega)]
    have hy : y = (Rect.unit (s := S2x512x256) ![0, 0, 0] ![1, 512, 256] inb_S2x512x256_S1x512x256_0_0_0).emb (ix3 0 (y 1) (y 2)) := by
      funext a; apply Fin.ext
      match a with
      | ⟨0, _⟩ => show (y 0).val = 0 + 1 * 0; omega
      | ⟨1, _⟩ => show (y 1).val = 0 + 1 * (y 1).val; omega
      | ⟨2, _⟩ => show (y 2).val = 0 + 1 * (y 2).val; omega
    exact (congrArg _ hy).trans (View.canon_cons_emb _ _ _ _)
  · rw [if_neg h]
    have hy : y = (Rect.unit (s := S2x512x256) ![1, 0, 0] ![1, 512, 256] inb_S2x512x256_S1x512x256_1_0_0).emb (ix3 0 (y 1) (y 2)) := by
      funext a; apply Fin.ext
      match a with
      | ⟨0, _⟩ => show (y 0).val = 1 + 1 * 0; omega
      | ⟨1, _⟩ => show (y 1).val = 0 + 1 * (y 1).val; omega
      | ⟨2, _⟩ => show (y 2).val = 0 + 1 * (y 2).val; omega
    exact (congrArg _ hy).trans (View.canon_cons_emb _ _ _ _)

end

/-- A table, repeated for the four heads. -/
theorem cos_apply (t : Vec Ideal S512x128 .f32) (r j : Fin 512) : k0_pay1 t (ix2 r j) = t (ix2 r (lane j)) := by
  pointwise [k0_pay1]
  split_ifs <;> exact congrArg (fun l : Fin 128 => t (ix2 r l)) (Fin.ext (by dsimp only [lane]; omega))

theorem sin_apply (t : Vec Ideal S512x128 .f32) (r j : Fin 512) : k0_pay2 t (ix2 r j) = t (ix2 r (lane j)) := by
  pointwise [k0_pay2]
  split_ifs <;> exact congrArg (fun l : Fin 128 => t (ix2 r l)) (Fin.ext (by dsimp only [lane]; omega))

/-- The mask of the components' first halves. -/
theorem mask_apply (r j : Fin 512) : k0_pay3 (ix2 r j) = if j.val % 64 < 32 then 1#1 else 0#1 := by
  pointwise [k0_pay3]
  revert j
  decide +kernel

/-- The kernel's rotary at a row and a column: the two rotations, the mask's choice, and the products with the tables. -/
theorem rotary (f : Fin 512 → EReal) (c s : Fin 128 → EReal) (j : Fin 512) (h1 : (j.val + 512 - 480) % 512 < 512) (h2 : (j.val + 512 - 32) % 512 < 512) :
    f j * c (lane j) + Scalar.select (if j.val % 64 < 32 then 1#1 else 0#1 : BitVec 1) (f ⟨(j.val + 512 - 480) % 512, h1⟩) (f ⟨(j.val + 512 - 32) % 512, h2⟩) * s (lane j)
      = rope f c s j := by
  unfold rope partner
  by_cases h : j.val % 64 < 32
  · rw [if_pos h, dif_pos h]
    exact congrArg (fun i : Fin 512 => f j * c (lane j) + f i * s (lane j)) (Fin.ext (by show (j.val + 512 - 480) % 512 = j.val + 32; omega))
  · rw [if_neg h, dif_neg h]
    exact congrArg (fun i : Fin 512 => f j * c (lane j) + f i * s (lane j)) (Fin.ext (by show (j.val + 512 - 32) % 512 = j.val - 32; omega))

theorem q_apply (x : Vec Ideal S512x1024 .bf16) (cos sin : Vec Ideal S512x128 .f32) (w : Vec Ideal S1x1024x512 .bf16) (r j : Fin 512) :
    k0_pay4 x cos sin w (ix2 r j)
      = rope (fun j => dot (fun d : Fin 1024 => (x (ix2 r d) : EReal)) (fun d => w (ix3 0 d j))) (fun l => cos (ix2 r l)) (fun l => sin (ix2 r l)) j * scale := by
  unfold k0_pay4
  pointwise []
  rw [cos_apply, sin_apply, mask_apply]
  exact congrArg (· * scale) (rotary (fun j => dot (fun d : Fin 1024 => (x (ix2 r d) : EReal)) (fun d => w (ix3 0 d j))) (fun l => cos (ix2 r l)) (fun l => sin (ix2 r l)) j _ _)

theorem k_apply (x : Vec Ideal S512x1024 .bf16) (cos sin : Vec Ideal S512x128 .f32) (w : Vec Ideal S1x1024x512 .bf16) (r j : Fin 512) :
    k0_pay5 x (k0_pay1 cos) (k0_pay2 sin) k0_pay3 w (ix2 r j)
      = rope (fun j => dot (fun d : Fin 1024 => (x (ix2 r d) : EReal)) (fun d => w (ix3 0 d j))) (fun l => cos (ix2 r l)) (fun l => sin (ix2 r l)) j := by
  unfold k0_pay5
  pointwise []
  rw [cos_apply, sin_apply, mask_apply]
  exact rotary (fun j => dot (fun d : Fin 1024 => (x (ix2 r d) : EReal)) (fun d => w (ix3 0 d j))) (fun l => cos (ix2 r l)) (fun l => sin (ix2 r l)) j _ _

theorem dot_comm {D : ℕ} (x w : Fin D → EReal) : dot x w = dot w x := Finset.sum_congr rfl fun d _ => mul_comm (x d) (w d)

theorem vt0_apply (x w : Vec Ideal S512x1024 .bf16) (e : Fin 512) (r : Fin 256) :
    k0_pay6 x w (ix3 0 e r) = dot (fun d : Fin 1024 => (x (ix2 (⟨r.val, by omega⟩ : Fin 512) d) : EReal)) (fun d => w (ix2 e d)) := by
  unfold k0_pay6
  pointwise []
  exact dot_comm (fun d : Fin 1024 => (w (ix2 e d) : EReal)) _

theorem vt1_apply (x w : Vec Ideal S512x1024 .bf16) (e : Fin 512) (r : Fin 256) :
    k0_pay7 x w (ix3 0 e r) = dot (fun d : Fin 1024 => (x (ix2 (⟨256 + r.val, by omega⟩ : Fin 512) d) : EReal)) (fun d => w (ix2 e d)) := by
  unfold k0_pay7
  pointwise []
  exact dot_comm (fun d : Fin 1024 => (w (ix2 e d) : EReal)) _

theorem g_apply (x : Vec Ideal S512x1024 .bf16) (w : Vec Ideal S1x1024x1536 .bf16) (r : Fin 512) (j : Fin 1536) :
    k0_pay8 x w (ix2 r j) = dot (fun d : Fin 1024 => (x (ix2 r d) : EReal)) (fun d => w (ix3 0 d j)) := by
  unfold k0_pay8
  pointwise []
  rfl

theorem z_apply (x : Vec Ideal S512x1024 .bf16) (w : Vec Ideal S1x1024x512 .bf16) (r : Fin 512) (j : Fin 512) :
    k0_pay9 x w (ix2 r j) = dot (fun d : Fin 1024 => (x (ix2 r d) : EReal)) (fun d => w (ix3 0 d j)) := by
  unfold k0_pay9
  pointwise []
  rfl

/-- The mask of the decays' columns. -/
theorem decay_mask : ∀ j : Fin 128, IntOp.cmpi .slt (BitVec.ofNat 32 j.val) 4#32 = if j.val < 4 then 1#1 else 0#1 := by
  decide +kernel

theorem gb_apply (x : Vec Ideal S512x1024 .bf16) (w : Vec Ideal S1024x128 .bf16) (dtb a : Vec Ideal S1x128 .f32) (r : Fin 512) (j : Fin 128) :
    k0_pay10 x w dtb a (ix2 r j)
      = gates (fun j => dot (fun d : Fin 1024 => (x (ix2 r d) : EReal)) (fun d => w (ix2 d j))) (fun j => dtb (ix2 0 j)) (fun j => a (ix2 0 j)) j := by
  unfold k0_pay10
  pointwise []
  simp only [zero_sub]
  rw [decay_mask]
  unfold gates
  by_cases h : j.val < 4
  · rw [if_pos h, if_pos h]
    rfl
  · rw [if_neg h, if_neg h]
    rfl

end Cert.InProj
end
-- ==== Proof.InProj.Ref.lean ====
module

public import proofs.«01_k».proof.Proof.Gen.InProjReferenceIdeal.Run
public import proofs.«01_k».proof.Proof.InProj.Spec

/-!
# The input projection's reference

The reference in its stages: the combined product, the rotary, the values' blocks and the gates.
-/

@[expose] public section

set_option maxRecDepth 16384

noncomputable section

namespace Cert.InProj.Ref

open Cert.InProjReferenceIdeal Cert.InProjReferenceIdeal.Gen Idealize.ShloMosaic Idealize.ShloMosaic.TcCoe

section
variable {F : FTy → Type} [FloatOps F]

/-- The combined product with the first layer's weights. -/
def proj (x : Vec F S16384x1024 .bf16) (w : Vec F S4x1024x3592 .bf16) : FVec F S16384x3592 .f32 :=
  Host.dotGeneral dot_S16384x1024_S1024x3592_S16384x3592_1_0_0_1_n_n none (extf .f32 x bitsLt_bf16_f32)
    (extf .f32 (shapeCast S1024x3592 (extractStridedSlice S1x1024x3592 ![0, 0, 0] w slices_S4x1024x3592_S1x1024x3592_0_0_0) shapeCasts_S1x1024x3592_S1024x3592 : FVec F S1024x3592 .bf16) bitsLt_bf16_f32)

/-- A table for every head. -/
def table (t : Vec F S16384x128 .f32) : FVec F S16384x4x2x64 .f32 :=
  broadcastInDim S16384x4x2x64 ![0, 1, 2, 3] bcast_S16384x1x2x64_S16384x4x2x64_0_1_2_3 (shapeCast S16384x1x2x64 t shapeCasts_S16384x128_S16384x1x2x64)

/-- The halves of each component exchanged. -/
def swapped (y : FVec F S16384x4x2x64 .f32) : FVec F S16384x4x2x64 .f32 :=
  concatenate S16384x4x2x64 3 [⟨S16384x4x2x32, extractStridedSlice S16384x4x2x32 ![0, 0, 0, 32] y slices_S16384x4x2x64_S16384x4x2x32_0_0_0_32⟩,
    ⟨S16384x4x2x32, extractStridedSlice S16384x4x2x32 ![0, 0, 0, 0] y slices_S16384x4x2x64_S16384x4x2x32_0_0_0_0⟩] concatenates_S16384x4x2x32_S16384x4x2x32_S16384x4x2x64_d3

/-- The rotary. -/
def turned (y : FVec F S16384x4x2x64 .f32) (c s : Vec F S16384x128 .f32) : FVec F S16384x4x2x64 .f32 :=
  addf (mulf y (table c)) (mulf (swapped y) (table s))

/-- A group of 512 columns by heads and components. -/
def heads (y : FVec F S16384x512 .f32) : FVec F S16384x4x2x64 .f32 := shapeCast S16384x4x2x64 y shapeCasts_S16384x512_S16384x4x2x64

/-- … and back. -/
def flat (y : FVec F S16384x4x2x64 .f32) : FVec F S16384x512 .bf16 := truncf .bf16 (shapeCast S16384x512 y shapeCasts_S16384x4x2x64_S16384x512 : FVec F S16384x512 .f32) bitsLt_bf16_f32

def queries (x : Vec F S16384x1024 .bf16) (w : Vec F S4x1024x3592 .bf16) (c s : Vec F S16384x128 .f32) : FVec F S16384x512 .bf16 :=
  flat (mulf (turned (heads (extractStridedSlice S16384x512 ![0, 0] (proj x w) slices_S16384x3592_S16384x512_0_0)) c s)
    (broadcastInDim S16384x4x2x64 ![] bcast_S_S16384x4x2x64 (constant S_ .f32 0x3E38AA3B#32)))

def keys (x : Vec F S16384x1024 .bf16) (w : Vec F S4x1024x3592 .bf16) (c s : Vec F S16384x128 .f32) : FVec F S16384x512 .bf16 :=
  flat (turned (heads (extractStridedSlice S16384x512 ![0, 512] (proj x w) slices_S16384x3592_S16384x512_0_512)) c s)

/-- The values in blocks of 256 rows, each transposed. -/
def values (x : Vec F S16384x1024 .bf16) (w : Vec F S512x1024 .bf16) : FVec F S64x512x256 .bf16 :=
  truncf .bf16 (transpose S64x512x256 [0, 2, 1] (shapeCast S64x256x512 (Host.dotGeneral dot_S16384x1024_S1024x512_S16384x512_1_0_0_1_n_n none (extf .f32 x bitsLt_bf16_f32)
    (transpose S1024x512 [1, 0] (extf .f32 w bitsLt_bf16_f32) transposes_S512x1024_S1024x512_1_0)) shapeCasts_S16384x512_S64x256x512 : FVec F S64x256x512 .f32)
    transposes_S64x256x512_S64x512x256_0_2_1 : FVec F S64x512x256 .f32) bitsLt_bf16_f32

def mixedQkv (x : Vec F S16384x1024 .bf16) (w : Vec F S4x1024x3592 .bf16) : FVec F S16384x1536 .f32 :=
  extractStridedSlice S16384x1536 ![0, 1536] (proj x w) slices_S16384x3592_S16384x1536_0_1536

def outer (x : Vec F S16384x1024 .bf16) (w : Vec F S4x1024x3592 .bf16) : FVec F S16384x512 .f32 :=
  extractStridedSlice S16384x512 ![0, 3072] (proj x w) slices_S16384x3592_S16384x512_0_3072

/-- The gates' product. -/
def ab (x : Vec F S16384x1024 .bf16) (w : Vec F S1024x128 .bf16) : FVec F S16384x128 .f32 :=
  Host.dotGeneral dot_S16384x1024_S1024x128_S16384x128_1_0_0_1_n_n none (extf .f32 x bitsLt_bf16_f32) (extf .f32 w bitsLt_bf16_f32)

/-- Four columns of a row, for every row. -/
def four (a : FVec F S1x4 .f32) : FVec F S16384x4 .f32 := broadcastInDim S16384x4 ![0, 1] bcast_S1x4_S16384x4_0_1 a

def zeros : FVec F S16384x4 .f32 := broadcastInDim S16384x4 ![] bcast_S_S16384x4 (constant S_ .f32 0x00000000#32)

/-- The softplus. -/
def soft (t : FVec F S16384x4 .f32) : FVec F S16384x4 .f32 :=
  select (cmpf .une (subf t zeros) (subf t zeros)) (addf t zeros)
    (addf (maximumf t zeros) (Host.log1p (Host.exp (Host.negf (Host.absf (subf t zeros))))))

def decays (y : FVec F S16384x128 .f32) (a dtb : Vec F S1x128 .f32) : FVec F S16384x4 .f32 :=
  mulf (four (Host.negf (extractStridedSlice S1x4 ![0, 0] a slices_S1x128_S1x4_0_0)))
    (soft (addf (extractStridedSlice S16384x4 ![0, 0] y slices_S16384x128_S16384x4_0_0) (four (extractStridedSlice S1x4 ![0, 0] dtb slices_S1x128_S1x4_0_0))))

def ones : FVec F S16384x124 .f32 := broadcastInDim S16384x124 ![] bcast_S_S16384x124 (constant S_ .f32 0x3F800000#32)

def strengths (y : FVec F S16384x128 .f32) : FVec F S16384x124 .f32 :=
  Host.divf ones (addf ones (Host.exp (Host.negf (extractStridedSlice S16384x124 ![0, 4] y slices_S16384x128_S16384x124_0_4))))

def gated (x : Vec F S16384x1024 .bf16) (w : Vec F S1024x128 .bf16) (a dtb : Vec F S1x128 .f32) : FVec F S16384x128 .f32 :=
  concatenate S16384x128 1 [⟨S16384x4, decays (ab x w) a dtb⟩, ⟨S16384x124, strengths (ab x w)⟩] concatenates_S16384x4_S16384x124_S16384x128_d1

variable (m : (ℓ : Loc nD τ sig) → Buf (Elt F) ℓ) (c : Dev nD)

/-- The run, its six results by the stages. -/
theorem run (ρ : Dev nD → PrngReg) :
    θ_run defs (onTc (τ := τ) (main (F := F))) ⟨m, fun _ => 0, ρ⟩ fun r => ∀ c : Dev nD,
      (r.2.mem ((c.tc : Thread nD τ).loc main_v55) = queries (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v57) = keys (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v58) = values (m ((c.tc : Thread nD τ).loc main_arg0)) (m ((c.tc : Thread nD τ).loc main_arg2))
      ∧ r.2.mem ((c.tc : Thread nD τ).loc main_v9) = mixedQkv (m ((c.tc : Thread nD τ).loc main_arg0)) (m ((c.tc : Thread nD τ).loc main_arg1))
      ∧ r.2.mem ((c.tc : Thread nD τ).loc main_v10) = outer (m ((c.tc : Thread nD τ).loc main_arg0)) (m ((c.tc : Thread nD τ).loc main_arg1))
      ∧ r.2.mem ((c.tc : Thread nD τ).loc main_v59) = gated (m ((c.tc : Thread nD τ).loc main_arg0)) (m ((c.tc : Thread nD τ).loc main_arg3)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Value.run m ρ

end

/-- The row of the combined product. -/
def row (x : Vec Ideal S16384x1024 .bf16) (w : Vec Ideal S4x1024x3592 .bf16) (r : Fin 16384) (j : Fin 3592) : EReal :=
  dot (fun d : Fin 1024 => (x (ix2 r d) : EReal)) (fun d => w (ix3 0 d j))

theorem proj_apply (x : Vec Ideal S16384x1024 .bf16) (w : Vec Ideal S4x1024x3592 .bf16) (r : Fin 16384) (j : Fin 3592) :
    proj x w (ix2 r j) = row x w r j := by
  pointwise [proj]
  rfl

theorem mixedQkv_apply (x : Vec Ideal S16384x1024 .bf16) (w : Vec Ideal S4x1024x3592 .bf16) (r : Fin 16384) (j : Fin 1536) :
    mixedQkv x w (ix2 r j) = row x w r ⟨1536 + j.val, by omega⟩ := by
  pointwise [mixedQkv]
  exact proj_apply ..

theorem outer_apply (x : Vec Ideal S16384x1024 .bf16) (w : Vec Ideal S4x1024x3592 .bf16) (r : Fin 16384) (j : Fin 512) :
    outer x w (ix2 r j) = row x w r ⟨3072 + j.val, by omega⟩ := by
  pointwise [outer]
  exact proj_apply ..

theorem values_apply (x : Vec Ideal S16384x1024 .bf16) (w : Vec Ideal S512x1024 .bf16) (b : Fin 64) (e : Fin 512) (r : Fin 256) (g : Fin 16384)
    (hg : g.val = 256 * b.val + r.val) :
    values x w (ix3 b e r) = dot (fun d : Fin 1024 => (x (ix2 g d) : EReal)) (fun d => w (ix2 e d)) := by
  pointwise [values]
  rw [show g = ⟨b.val * 256 + r.val, by omega⟩ from Fin.ext (by show g.val = b.val * 256 + r.val; omega)]
  rfl

/-- The reference's rotary at a row and a column. -/
theorem rotary (f : Fin 3592 → EReal) (c s : Fin 128 → EReal) (k : ℕ) (hk : k + 512 ≤ 3592) (j : Fin 512)
    (h1 : k + j.val < 3592) (h2 : j.val / 64 % 2 * 64 + j.val % 64 < 128)
    (h3 : j.val % 64 < 32 → k + (j.val / 128 * 128 + j.val / 64 % 2 * 64 + (32 + j.val % 64)) < 3592)
    (h4 : ¬j.val % 64 < 32 → k + (j.val / 128 * 128 + j.val / 64 % 2 * 64 + (j.val % 64 - 32)) < 3592) :
    f ⟨k + j.val, h1⟩ * c ⟨j.val / 64 % 2 * 64 + j.val % 64, h2⟩
      + (if h : j.val % 64 < 32 then f ⟨k + (j.val / 128 * 128 + j.val / 64 % 2 * 64 + (32 + j.val % 64)), h3 h⟩
        else f ⟨k + (j.val / 128 * 128 + j.val / 64 % 2 * 64 + (j.val % 64 - 32)), h4 h⟩) * s ⟨j.val / 64 % 2 * 64 + j.val % 64, h2⟩
      = rope (fun j => f ⟨k + j.val, by omega⟩) c s j := by
  have hl : (⟨j.val / 64 % 2 * 64 + j.val % 64, h2⟩ : Fin 128) = lane j := Fin.ext (by dsimp only [lane]; omega)
  unfold rope partner
  rw [hl]
  by_cases h : j.val % 64 < 32
  · rw [dif_pos h, dif_pos h]
    exact congrArg (fun i : Fin 3592 => f ⟨k + j.val, h1⟩ * c (lane j) + f i * s (lane j)) (Fin.ext (by show k + _ = k + (j.val + 32); omega))
  · rw [dif_neg h, dif_neg h]
    exact congrArg (fun i : Fin 3592 => f ⟨k + j.val, h1⟩ * c (lane j) + f i * s (lane j)) (Fin.ext (by show k + _ = k + (j.val - 32); omega))

theorem keys_apply (x : Vec Ideal S16384x1024 .bf16) (w : Vec Ideal S4x1024x3592 .bf16) (c s : Vec Ideal S16384x128 .f32) (r : Fin 16384) (j : Fin 512) :
    keys x w c s (ix2 r j) = rope (fun j => row x w r ⟨512 + j.val, by omega⟩) (fun l => c (ix2 r l)) (fun l => s (ix2 r l)) j := by
  pointwise [keys, flat, turned, swapped, heads, table]
  simp only [proj_apply]
  exact rotary (row x w r) (fun l => c (ix2 r l)) (fun l => s (ix2 r l)) 512 (by decide) j _ _ (fun _ => by omega) (fun _ => by omega)

theorem queries_apply (x : Vec Ideal S16384x1024 .bf16) (w : Vec Ideal S4x1024x3592 .bf16) (c s : Vec Ideal S16384x128 .f32) (r : Fin 16384) (j : Fin 512) :
    queries x w c s (ix2 r j) = rope (fun j => row x w r ⟨j.val, by omega⟩) (fun l => c (ix2 r l)) (fun l => s (ix2 r l)) j * scale := by
  pointwise [queries, flat, turned, swapped, heads, table]
  simp only [proj_apply]
  refine congrArg (· * scale) ?_
  have h := rotary (row x w r) (fun l => c (ix2 r l)) (fun l => s (ix2 r l)) 0 (by decide) j (by omega) (by omega) (fun _ => by omega) (fun _ => by omega)
  simp only [Nat.zero_add] at h
  exact h

theorem soft_apply (t : FVec Ideal S16384x4 .f32) (r : Fin 16384) (j : Fin 4) : soft t (ix2 r j) = softplus (t (ix2 r j)) := by
  pointwise [soft, zeros]
  rw [if_neg (fun h => h rfl)]
  rfl

theorem gated_apply (x : Vec Ideal S16384x1024 .bf16) (w : Vec Ideal S1024x128 .bf16) (a dtb : Vec Ideal S1x128 .f32) (r : Fin 16384) (j : Fin 128) :
    gated x w a dtb (ix2 r j)
      = gates (fun j => dot (fun d : Fin 1024 => (x (ix2 r d) : EReal)) (fun d => w (ix2 d j))) (fun j => dtb (ix2 0 j)) (fun j => a (ix2 0 j)) j := by
  pointwise [gated, decays, strengths, ab, four, ones]
  unfold gates
  by_cases h : j.val < 4
  · rw [dif_pos h, if_pos h, soft_apply]
    pointwise []
    rfl
  · rw [dif_neg h, if_neg h]
    have hj : (⟨4 + (j.val - 4), by omega⟩ : Fin 128) = j := Fin.ext (by show 4 + (j.val - 4) = j.val; omega)
    rw [hj]
    rfl

end Cert.InProj.Ref
end
-- ==== Proof.InProj.Blocks.lean ====
module

public import proofs.«01_k».proof.Proof.InProj.Body
public import proofs.«01_k».proof.Proof.InProj.Ref

/-!
# The input projection's arrays

Every grid point writes a block of rows of each output; it is those rows of the reference's result.
-/

@[expose] public section

set_option maxRecDepth 16384

noncomputable section

namespace Cert.InProj

open Idealize.ShloMosaic Idealize.ShloMosaic.TcCoe Cert.InProjIdeal Cert.InProjIdeal.Gen Cert.InProjIdeal.Value

/-- The block index of every input window at a grid point. -/
theorem point : ∀ t : Fin cfg0.N, (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 1)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 1)
    ∧ (win0_5.index t (0 : Fin 3) = 0 ∧ win0_5.index t (1 : Fin 3) = 0 ∧ win0_5.index t (2 : Fin 3) = 6)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- The block index of every output window at a grid point. -/
theorem point_out : ∀ t : Fin cfg0.N, (win0_11.index t (0 : Fin 2) = t.val ∧ win0_11.index t (1 : Fin 2) = 0)
    ∧ (win0_12.index t (0 : Fin 2) = t.val ∧ win0_12.index t (1 : Fin 2) = 0)
    ∧ (win0_13.index t (0 : Fin 3) = t.val ∧ win0_13.index t (1 : Fin 3) = 0 ∧ win0_13.index t (2 : Fin 3) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

variable (m : (ℓ : Loc nD τ sig) → Buf (Elt Ideal) ℓ) (c : Dev nD) (t : Fin cfg0.N)

theorem iblk0_apply (r : Fin 512) (d : Fin 1024) (g : Fin 16384) (hg : g.val = 512 * t.val + r.val) : iblk m c 0 t (ix2 r d) = V m c main_arg0 (ix2 g d) := by
  obtain ⟨⟨e0, e1⟩, -⟩ := point t
  show V m c main_arg0 (((cfg0.win 0).blk t).view.emb (ix2 r d)) = _
  congr 1
  funext a; apply Fin.ext
  match a with
  | ⟨0, _⟩ => show win0_0.index t (0 : Fin 2) * 512 + 1 * r.val = g.val; omega
  | ⟨1, _⟩ => show win0_0.index t (1 : Fin 2) * 1024 + 1 * d.val = d.val; omega

theorem iblk3_eq : iblk m c 3 t = V m c main_arg2 := by
  obtain ⟨-, -, -, ⟨e0, e1⟩, -⟩ := point t
  funext j
  show V m c main_arg2 (((cfg0.win 3).blk t).view.emb j) = V m c main_arg2 j
  congr 1
  funext a; apply Fin.ext
  match a with
  | ⟨0, _⟩ => show win0_3.index t (0 : Fin 2) * 512 + 1 * (j 0).val = (j 0).val; omega
  | ⟨1, _⟩ => show win0_3.index t (1 : Fin 2) * 1024 + 1 * (j 1).val = (j 1).val; omega

theorem iblk6_eq : iblk m c 6 t = V m c main_arg3 := by
  obtain ⟨-, -, -, -, -, -, ⟨e0, e1⟩, -⟩ := point t
  funext j
  show V m c main_arg3 (((cfg0.win 6).blk t).view.emb j) = V m c main_arg3 j
  congr 1
  funext a; apply Fin.ext
  match a with
  | ⟨0, _⟩ => show win0_6.index t (0 : Fin 2) * 1024 + 1 * (j 0).val = (j 0).val; omega
  | ⟨1, _⟩ => show win0_6.index t (1 : Fin 2) * 128 + 1 * (j 1).val = (j 1).val; omega

theorem iblk7_apply (r : Fin 512) (l : Fin 128) (g : Fin 16384) (hg : g.val = 512 * t.val + r.val) : iblk m c 7 t (ix2 r l) = V m c main_arg4 (ix2 g l) := by
  obtain ⟨-, -, -, -, -, -, -, ⟨e0, e1⟩, -⟩ := point t
  show V m c main_arg4 (((cfg0.win 7).blk t).view.emb (ix2 r l)) = _
  congr 1
  funext a; apply Fin.ext
  match a with
  | ⟨0, _⟩ => show win0_7.index t (0 : Fin 2) * 512 + 1 * r.val = g.val; omega
  | ⟨1, _⟩ => show win0_7.index t (1 : Fin 2) * 128 + 1 * l.val = l.val; omega

theorem iblk8_apply (r : Fin 512) (l : Fin 128) (g : Fin 16384) (hg : g.val = 512 * t.val + r.val) : iblk m c 8 t (ix2 r l) = V m c main_arg5 (ix2 g l) := by
  obtain ⟨-, -, -, -, -, -, -, -, ⟨e0, e1⟩, -⟩ := point t
  show V m c main_arg5 (((cfg0.win 8).blk t).view.emb (ix2 r l)) = _
  congr 1
  funext a; apply Fin.ext
  match a with
  | ⟨0, _⟩ => show win0_8.index t (0 : Fin 2) * 512 + 1 * r.val = g.val; omega
  | ⟨1, _⟩ => show win0_8.index t (1 : Fin 2) * 128 + 1 * l.val = l.val; omega

theorem iblk9_eq : iblk m c 9 t = V m c main_arg6 := by
  obtain ⟨-, -, -, -, -, -, -, -, -, ⟨e0, e1⟩, -⟩ := point t
  funext j
  show V m c main_arg6 (((cfg0.win 9).blk t).view.emb j) = V m c main_arg6 j
  congr 1
  funext a; apply Fin.ext
  match a with
  | ⟨0, _⟩ => show win0_9.index t (0 : Fin 2) * 1 + 1 * (j 0).val = (j 0).val; omega
  | ⟨1, _⟩ => show win0_9.index t (1 : Fin 2) * 128 + 1 * (j 1).val = (j 1).val; omega

theorem iblk10_eq : iblk m c 10 t = V m c main_arg7 := by
  obtain ⟨-, -, -, -, -, -, -, -, -, -, ⟨e0, e1⟩⟩ := point t
  funext j
  show V m c main_arg7 (((cfg0.win 10).blk t).view.emb j) = V m c main_arg7 j
  congr 1
  funext a; apply Fin.ext
  match a with
  | ⟨0, _⟩ => show win0_10.index t (0 : Fin 2) * 1 + 1 * (j 0).val = (j 0).val; omega
  | ⟨1, _⟩ => show win0_10.index t (1 : Fin 2) * 128 + 1 * (j 1).val = (j 1).val; omega

/-- The weights' blocks: each is a group of the columns of the first layer's weights. -/
theorem wq_apply (d : Fin 1024) (j : Fin 512) (k : Fin 3592) (hk : k.val = j.val) : X0_1 m c t (ix3 0 d j) = V m c main_arg1 (ix3 0 d k) := by
  obtain ⟨-, ⟨e0, e1, e2⟩, -⟩ := point t
  unfold X0_1 Pipeline.Window.fill
  rw [dif_pos (moved0_1 t (ix3 0 d j))]
  show V m c main_arg1 (((cfg0.win 1).blk t).view.emb _) = _
  congr 1
  funext a; apply Fin.ext
  match a with
  | ⟨0, _⟩ => show win0_1.index t (0 : Fin 3) * 1 + 1 * 0 = 0; omega
  | ⟨1, _⟩ => show win0_1.index t (1 : Fin 3) * 1024 + 1 * d.val = d.val; omega
  | ⟨2, _⟩ => show win0_1.index t (2 : Fin 3) * 512 + 1 * j.val = k.val; omega

theorem wk_apply (d : Fin 1024) (j : Fin 512) (k : Fin 3592) (hk : k.val = 512 + j.val) : X0_2 m c t (ix3 0 d j) = V m c main_arg1 (ix3 0 d k) := by
  obtain ⟨-, -, ⟨e0, e1, e2⟩, -⟩ := point t
  unfold X0_2 Pipeline.Window.fill
  rw [dif_pos (moved0_2 t (ix3 0 d j))]
  show V m c main_arg1 (((cfg0.win 2).blk t).view.emb _) = _
  congr 1
  funext a; apply Fin.ext
  match a with
  | ⟨0, _⟩ => show win0_2.index t (0 : Fin 3) * 1 + 1 * 0 = 0; omega
  | ⟨1, _⟩ => show win0_2.index t (1 : Fin 3) * 1024 + 1 * d.val = d.val; omega
  | ⟨2, _⟩ => show win0_2.index t (2 : Fin 3) * 512 + 1 * j.val = k.val; omega

theorem wg_apply (d : Fin 1024) (j : Fin 1536) (k : Fin 3592) (hk : k.val = 1536 + j.val) : X0_4 m c t (ix3 0 d j) = V m c main_arg1 (ix3 0 d k) := by
  obtain ⟨-, -, -, -, ⟨e0, e1, e2⟩, -⟩ := point t
  unfold X0_4 Pipeline.Window.fill
  rw [dif_pos (moved0_4 t (ix3 0 d j))]
  show V m c main_arg1 (((cfg0.win 4).blk t).view.emb _) = _
  congr 1
  funext a; apply Fin.ext
  match a with
  | ⟨0, _⟩ => show win0_4.index t (0 : Fin 3) * 1 + 1 * 0 = 0; omega
  | ⟨1, _⟩ => show win0_4.index t (1 : Fin 3) * 1024 + 1 * d.val = d.val; omega
  | ⟨2, _⟩ => show win0_4.index t (2 : Fin 3) * 1536 + 1 * j.val = k.val; omega

theorem wz_apply (d : Fin 1024) (j : Fin 512) (k : Fin 3592) (hk : k.val = 3072 + j.val) : X0_5 m c t (ix3 0 d j) = V m c main_arg1 (ix3 0 d k) := by
  obtain ⟨-, -, -, -, -, ⟨e0, e1, e2⟩, -⟩ := point t
  unfold X0_5 Pipeline.Window.fill
  rw [dif_pos (moved0_5 t (ix3 0 d j))]
  show V m c main_arg1 (((cfg0.win 5).blk t).view.emb _) = _
  congr 1
  funext a; apply Fin.ext
  match a with
  | ⟨0, _⟩ => show win0_5.index t (0 : Fin 3) * 1 + 1 * 0 = 0; omega
  | ⟨1, _⟩ => show win0_5.index t (1 : Fin 3) * 1024 + 1 * d.val = d.val; omega
  | ⟨2, _⟩ => show win0_5.index t (2 : Fin 3) * 512 + 1 * j.val = k.val; omega

/-- A block's row times a column of the weights is a place of the combined product. -/
theorem dot_row (w : Fin 1024 → EReal) (r : Fin 512) (g : Fin 16384) (hg : g.val = 512 * t.val + r.val) (k : Fin 3592)
    (hw : ∀ d, w d = V m c main_arg1 (ix3 0 d k)) :
    dot (fun d : Fin 1024 => (iblk m c 0 t (ix2 r d) : EReal)) w = Ref.row (V m c main_arg0) (V m c main_arg1) g k :=
  congrArg₂ dot (funext fun d => iblk0_apply m c t r d g hg) (funext hw)

/-- What a point computes of each output, read at a row and a column. -/
theorem q_at (r j : Fin 512) (g : Fin 16384) (hg : g.val = 512 * t.val + r.val) :
    k0_pay4 (iblk m c 0 t) (iblk m c 7 t) (iblk m c 8 t) (X0_1 m c t) (ix2 r j)
      = Ref.queries (F := Ideal) (V m c main_arg0) (V m c main_arg1) (V m c main_arg4) (V m c main_arg5) (ix2 g j) := by
  refine (q_apply _ _ _ _ r j).trans (Eq.trans ?_ (Ref.queries_apply _ _ _ _ g j).symm)
  refine congrArg (· * scale) ?_
  congr 1
  · funext j; exact dot_row m c t _ r g hg _ fun d => wq_apply m c t d j _ rfl
  · funext l; exact iblk7_apply m c t r l g hg
  · funext l; exact iblk8_apply m c t r l g hg

theorem k_at (r j : Fin 512) (g : Fin 16384) (hg : g.val = 512 * t.val + r.val) :
    k0_pay5 (iblk m c 0 t) (k0_pay1 (iblk m c 7 t)) (k0_pay2 (iblk m c 8 t)) k0_pay3 (X0_2 m c t) (ix2 r j)
      = Ref.keys (F := Ideal) (V m c main_arg0) (V m c main_arg1) (V m c main_arg4) (V m c main_arg5) (ix2 g j) := by
  refine (k_apply _ _ _ _ r j).trans (Eq.trans ?_ (Ref.keys_apply _ _ _ _ g j).symm)
  congr 1
  · funext j; exact dot_row m c t _ r g hg _ fun d => wk_apply m c t d j _ rfl
  · funext l; exact iblk7_apply m c t r l g hg
  · funext l; exact iblk8_apply m c t r l g hg

theorem g_at (r : Fin 512) (j : Fin 1536) (g : Fin 16384) (hg : g.val = 512 * t.val + r.val) :
    k0_pay8 (iblk m c 0 t) (X0_4 m c t) (ix2 r j) = Ref.mixedQkv (F := Ideal) (V m c main_arg0) (V m c main_arg1) (ix2 g j) :=
  (g_apply _ _ r j).trans ((dot_row m c t _ r g hg _ fun d => wg_apply m c t d j _ rfl).trans (Ref.mixedQkv_apply _ _ g j).symm)

theorem z_at (r j : Fin 512) (g : Fin 16384) (hg : g.val = 512 * t.val + r.val) :
    k0_pay9 (iblk m c 0 t) (X0_5 m c t) (ix2 r j) = Ref.outer (F := Ideal) (V m c main_arg0) (V m c main_arg1) (ix2 g j) :=
  (z_apply _ _ r j).trans ((dot_row m c t _ r g hg _ fun d => wz_apply m c t d j _ rfl).trans (Ref.outer_apply _ _ g j).symm)

theorem gb_at (r : Fin 512) (j : Fin 128) (g : Fin 16384) (hg : g.val = 512 * t.val + r.val) :
    k0_pay10 (iblk m c 0 t) (iblk m c 6 t) (iblk m c 10 t) (iblk m c 9 t) (ix2 r j)
      = Ref.gated (F := Ideal) (V m c main_arg0) (V m c main_arg3) (V m c main_arg6) (V m c main_arg7) (ix2 g j) := by
  rw [iblk6_eq, iblk9_eq, iblk10_eq]
  refine (gb_apply _ _ _ _ r j).trans (Eq.trans ?_ (Ref.gated_apply _ _ _ _ g j).symm)
  congr 1
  funext j
  exact congrArg₂ dot (funext fun d => iblk0_apply m c t r d g hg) rfl

/-- The values: the block's first 256 rows, then its last. -/
theorem vt_at (b : Fin 2) (e : Fin 512) (r : Fin 256) (B : Fin 64) (hB : B.val = 2 * t.val + b.val) :
    (if b.val = 0 then k0_pay6 (iblk m c 0 t) (iblk m c 3 t) (ix3 0 e r) else k0_pay7 (iblk m c 0 t) (iblk m c 3 t) (ix3 0 e r))
      = Ref.values (F := Ideal) (V m c main_arg0) (V m c main_arg2) (ix3 B e r) := by
  rw [iblk3_eq]
  have hb : b.val < 2 := b.isLt
  refine Eq.trans ?_ (Ref.values_apply _ _ B e r ⟨256 * B.val + r.val, by omega⟩ rfl).symm
  by_cases h : b.val = 0
  · rw [if_pos h]
    refine (vt0_apply _ _ e r).trans (congrArg₂ dot (funext fun d => iblk0_apply m c t _ d _ ?_) rfl)
    show 256 * B.val + r.val = 512 * t.val + r.val
    omega
  · rw [if_neg h]
    refine (vt1_apply _ _ e r).trans (congrArg₂ dot (funext fun d => iblk0_apply m c t _ d _ ?_) rfl)
    show 256 * B.val + r.val = 512 * t.val + (256 + r.val)
    omega

end Cert.InProj
end
-- ==== Proof.InProj.Out.lean ====
module

public import proofs.«01_k».proof.Proof.InProj.Blocks

/-!
# The input projection's arrays

Every grid point writes a block of rows of each output; it is those rows of the reference's result.
-/

@[expose] public section

set_option maxRecDepth 16384

noncomputable section

namespace Cert.InProj

open Idealize.ShloMosaic Idealize.ShloMosaic.TcCoe Cert.InProjIdeal Cert.InProjIdeal.Gen Cert.InProjIdeal.Value

/-- The grid point of a row, and the row's place in its block. -/
theorem row_point (i : Fin 16384) : ∃ (t : Fin cfg0.N) (r : Fin 512), i.val = 512 * t.val + r.val := by
  have hN : cfg0.N = 32 := N_0
  exact ⟨⟨i.val / 512, by omega⟩, ⟨i.val % 512, by omega⟩, by show i.val = 512 * (i.val / 512) + i.val % 512; omega⟩

/-- The row of a place in a point's block. -/
theorem row_lt (t : Fin cfg0.N) (r : Fin 512) : 512 * t.val + r.val < 16384 := by
  have hN : t.val < 32 := lt_of_lt_of_eq t.isLt N_0
  omega

/-- An index of two axes is its two coordinates. -/
theorem eq_ix2 {n k : ℕ} (i : (Shape.mk 2 ![n, k]).Idx) : i = ix2 (⟨(i 0).val, (i 0).isLt⟩ : Fin n) (⟨(i 1).val, (i 1).isLt⟩ : Fin k) := by
  funext a; apply Fin.ext
  match a with
  | ⟨0, _⟩ => rfl
  | ⟨1, _⟩ => rfl

/-- An output block's place in its array. -/
theorem place11 (t : Fin cfg0.N) (r j : Fin 512) (g : Fin 16384) (hg : g.val = 512 * t.val + r.val) :
    ((cfg0.win 11).blk t).view.emb (ix2 r j) = ix2 g j := by
  obtain ⟨⟨e0, e1⟩, -⟩ := point_out t
  funext a; apply Fin.ext
  match a with
  | ⟨0, _⟩ => show win0_11.index t (0 : Fin 2) * 512 + 1 * r.val = g.val; omega
  | ⟨1, _⟩ => show win0_11.index t (1 : Fin 2) * 512 + 1 * j.val = j.val; omega

theorem covered11 (i : S16384x512.Idx) : ∃ t : Fin cfg0.N, (cfg0.win 11).flush t = true ∧ i ∈ ((cfg0.win 11).blk t).view.set := by
  obtain ⟨t, r, h⟩ := row_point ⟨(i 0).val, (i 0).isLt⟩
  refine ⟨t, flush0_11 t, ?_⟩
  rw [(eq_ix2 i).trans (place11 t r _ _ h).symm]
  exact View.emb_mem_set _ _

theorem place12 (t : Fin cfg0.N) (r j : Fin 512) (g : Fin 16384) (hg : g.val = 512 * t.val + r.val) :
    ((cfg0.win 12).blk t).view.emb (ix2 r j) = ix2 g j := by
  obtain ⟨-, ⟨e0, e1⟩, -⟩ := point_out t
  funext a; apply Fin.ext
  match a with
  | ⟨0, _⟩ => show win0_12.index t (0 : Fin 2) * 512 + 1 * r.val = g.val; omega
  | ⟨1, _⟩ => show win0_12.index t (1 : Fin 2) * 512 + 1 * j.val = j.val; omega

theorem covered12 (i : S16384x512.Idx) : ∃ t : Fin cfg0.N, (cfg0.win 12).flush t = true ∧ i ∈ ((cfg0.win 12).blk t).view.set := by
  obtain ⟨t, r, h⟩ := row_point ⟨(i 0).val, (i 0).isLt⟩
  refine ⟨t, flush0_12 t, ?_⟩
  rw [(eq_ix2 i).trans (place12 t r _ _ h).symm]
  exact View.emb_mem_set _ _

theorem place14 (t : Fin cfg0.N) (r : Fin 512) (j : Fin 1536) (g : Fin 16384) (hg : g.val = 512 * t.val + r.val) :
    ((cfg0.win 14).blk t).view.emb (ix2 r j) = ix2 g j := by
  obtain ⟨-, -, -, ⟨e0, e1⟩, -⟩ := point_out t
  funext a; apply Fin.ext
  match a with
  | ⟨0, _⟩ => show win0_14.index t (0 : Fin 2) * 512 + 1 * r.val = g.val; omega
  | ⟨1, _⟩ => show win0_14.index t (1 : Fin 2) * 1536 + 1 * j.val = j.val; omega

theorem covered14 (i : S16384x1536.Idx) : ∃ t : Fin cfg0.N, (cfg0.win 14).flush t = true ∧ i ∈ ((cfg0.win 14).blk t).view.set := by
  obtain ⟨t, r, h⟩ := row_point ⟨(i 0).val, (i 0).isLt⟩
  refine ⟨t, flush0_14 t, ?_⟩
  rw [(eq_ix2 i).trans (place14 t r _ _ h).symm]
  exact View.emb_mem_set _ _

theorem place15 (t : Fin cfg0.N) (r j : Fin 512) (g : Fin 16384) (hg : g.val = 512 * t.val + r.val) :
    ((cfg0.win 15).blk t).view.emb (ix2 r j) = ix2 g j := by
  obtain ⟨-, -, -, -, ⟨e0, e1⟩, -⟩ := point_out t
  funext a; apply Fin.ext
  match a with
  | ⟨0, _⟩ => show win0_15.index t (0 : Fin 2) * 512 + 1 * r.val = g.val; omega
  | ⟨1, _⟩ => show win0_15.index t (1 : Fin 2) * 512 + 1 * j.val = j.val; omega

theorem covered15 (i : S16384x512.Idx) : ∃ t : Fin cfg0.N, (cfg0.win 15).flush t = true ∧ i ∈ ((cfg0.win 15).blk t).view.set := by
  obtain ⟨t, r, h⟩ := row_point ⟨(i 0).val, (i 0).isLt⟩
  refine ⟨t, flush0_15 t, ?_⟩
  rw [(eq_ix2 i).trans (place15 t r _ _ h).symm]
  exact View.emb_mem_set _ _

theorem place16 (t : Fin cfg0.N) (r : Fin 512) (j : Fin 128) (g : Fin 16384) (hg : g.val = 512 * t.val + r.val) :
    ((cfg0.win 16).blk t).view.emb (ix2 r j) = ix2 g j := by
  obtain ⟨-, -, -, -, -, ⟨e0, e1⟩⟩ := point_out t
  funext a; apply Fin.ext
  match a with
  | ⟨0, _⟩ => show win0_16.index t (0 : Fin 2) * 512 + 1 * r.val = g.val; omega
  | ⟨1, _⟩ => show win0_16.index t (1 : Fin 2) * 128 + 1 * j.val = j.val; omega

theorem covered16 (i : S16384x128.Idx) : ∃ t : Fin cfg0.N, (cfg0.win 16).flush t = true ∧ i ∈ ((cfg0.win 16).blk t).view.set := by
  obtain ⟨t, r, h⟩ := row_point ⟨(i 0).val, (i 0).isLt⟩
  refine ⟨t, flush0_16 t, ?_⟩
  rw [(eq_ix2 i).trans (place16 t r _ _ h).symm]
  exact View.emb_mem_set _ _

/-- The values' blocks: a point writes two. -/
theorem place13 (t : Fin cfg0.N) (y : S2x512x256.Idx) (B : Fin 64) (hB : B.val = 2 * t.val + (y 0).val) :
    ((cfg0.win 13).blk t).view.emb y = ix3 B (⟨(y 1).val, (y 1).isLt⟩ : Fin 512) (⟨(y 2).val, (y 2).isLt⟩ : Fin 256) := by
  obtain ⟨-, -, ⟨e0, e1, e2⟩, -⟩ := point_out t
  funext a; apply Fin.ext
  match a with
  | ⟨0, _⟩ => show win0_13.index t (0 : Fin 3) * 2 + 1 * (y 0).val = B.val; omega
  | ⟨1, _⟩ => show win0_13.index t (1 : Fin 3) * 512 + 1 * (y 1).val = (y 1).val; omega
  | ⟨2, _⟩ => show win0_13.index t (2 : Fin 3) * 256 + 1 * (y 2).val = (y 2).val; omega

theorem covered13 (i : S64x512x256.Idx) : ∃ t : Fin cfg0.N, (cfg0.win 13).flush t = true ∧ i ∈ ((cfg0.win 13).blk t).view.set := by
  have hN : cfg0.N = 32 := N_0
  have h0 : (i 0).val < 64 := (i 0).isLt
  let t : Fin cfg0.N := ⟨(i 0).val / 2, by omega⟩
  let y : S2x512x256.Idx := ix3 (⟨(i 0).val % 2, by omega⟩ : Fin 2) (⟨(i 1).val, (i 1).isLt⟩ : Fin 512) (⟨(i 2).val, (i 2).isLt⟩ : Fin 256)
  refine ⟨t, flush0_13 t, ?_⟩
  have hi : i = ((cfg0.win 13).blk t).view.emb y := by
    rw [place13 t y ⟨(i 0).val, h0⟩ (by show (i 0).val = 2 * ((i 0).val / 2) + (i 0).val % 2; omega)]
    funext a; apply Fin.ext
    match a with
    | ⟨0, _⟩ => rfl
    | ⟨1, _⟩ => rfl
    | ⟨2, _⟩ => rfl
  rw [hi]
  exact View.emb_mem_set _ _

variable (m : (ℓ : Loc nD τ sig) → Buf (Elt Ideal) ℓ) (c : Dev nD)

/-- The queries' array after the run. -/
theorem final11_eq : (dats m 0 c).arrAt 11 cfg0.N = Ref.queries (F := Ideal) (V m c main_arg0) (V m c main_arg1) (V m c main_arg4) (V m c main_arg5) := by
  refine (dats m 0 c).arrAt_eq_of_cover 11 (Ref.queries (F := Ideal) (V m c main_arg0) (V m c main_arg1) (V m c main_arg4) (V m c main_arg5)) (fun t _ => ?_) covered11
  rw [flushed11_A m c t, out_q]
  funext y
  obtain ⟨r, j, rfl⟩ : ∃ (r j : Fin 512), y = ix2 r j := ⟨_, _, eq_ix2 y⟩
  show _ = Ref.queries (F := Ideal) _ _ _ _ (((cfg0.win 11).blk t).view.emb (ix2 r j))
  rw [place11 t r j ⟨_, row_lt t r⟩ rfl]
  exact q_at m c t r j _ rfl

/-- The keys'. -/
theorem final12_eq : (dats m 0 c).arrAt 12 cfg0.N = Ref.keys (F := Ideal) (V m c main_arg0) (V m c main_arg1) (V m c main_arg4) (V m c main_arg5) := by
  refine (dats m 0 c).arrAt_eq_of_cover 12 (Ref.keys (F := Ideal) (V m c main_arg0) (V m c main_arg1) (V m c main_arg4) (V m c main_arg5)) (fun t _ => ?_) covered12
  rw [flushed12_A m c t, out_k]
  funext y
  obtain ⟨r, j, rfl⟩ : ∃ (r j : Fin 512), y = ix2 r j := ⟨_, _, eq_ix2 y⟩
  show _ = Ref.keys (F := Ideal) _ _ _ _ (((cfg0.win 12).blk t).view.emb (ix2 r j))
  rw [place12 t r j ⟨_, row_lt t r⟩ rfl]
  exact k_at m c t r j _ rfl

/-- The values'. -/
theorem final13_eq : (dats m 0 c).arrAt 13 cfg0.N = Ref.values (F := Ideal) (V m c main_arg0) (V m c main_arg2) := by
  refine (dats m 0 c).arrAt_eq_of_cover 13 (Ref.values (F := Ideal) (V m c main_arg0) (V m c main_arg2)) (fun t _ => ?_) covered13
  have hN : t.val < 32 := lt_of_lt_of_eq t.isLt N_0
  rw [flushed13_A m c t, out_vt]
  funext y
  have y0 : (y 0).val < 2 := (y 0).isLt
  show _ = Ref.values (F := Ideal) _ _ (((cfg0.win 13).blk t).view.emb y)
  rw [place13 t y ⟨2 * t.val + (y 0).val, by omega⟩ rfl]
  exact vt_at m c t ⟨(y 0).val, y0⟩ _ _ _ rfl

/-- The recurrence's inputs before the convolution. -/
theorem final14_eq : (dats m 0 c).arrAt 14 cfg0.N = Ref.mixedQkv (F := Ideal) (V m c main_arg0) (V m c main_arg1) := by
  refine (dats m 0 c).arrAt_eq_of_cover 14 (Ref.mixedQkv (F := Ideal) (V m c main_arg0) (V m c main_arg1)) (fun t _ => ?_) covered14
  rw [flushed14_A m c t, out_g]
  funext y
  obtain ⟨r, j, rfl⟩ : ∃ (r : Fin 512) (j : Fin 1536), y = ix2 r j := ⟨_, _, eq_ix2 y⟩
  show _ = Ref.mixedQkv (F := Ideal) _ _ (((cfg0.win 14).blk t).view.emb (ix2 r j))
  rw [place14 t r j ⟨_, row_lt t r⟩ rfl]
  exact g_at m c t r j _ rfl

/-- The output gate's. -/
theorem final15_eq : (dats m 0 c).arrAt 15 cfg0.N = Ref.outer (F := Ideal) (V m c main_arg0) (V m c main_arg1) := by
  refine (dats m 0 c).arrAt_eq_of_cover 15 (Ref.outer (F := Ideal) (V m c main_arg0) (V m c main_arg1)) (fun t _ => ?_) covered15
  rw [flushed15_A m c t, out_z]
  funext y
  obtain ⟨r, j, rfl⟩ : ∃ (r j : Fin 512), y = ix2 r j := ⟨_, _, eq_ix2 y⟩
  show _ = Ref.outer (F := Ideal) _ _ (((cfg0.win 15).blk t).view.emb (ix2 r j))
  rw [place15 t r j ⟨_, row_lt t r⟩ rfl]
  exact z_at m c t r j _ rfl

/-- The decays' and the write strengths'. -/
theorem final16_eq : (dats m 0 c).arrAt 16 cfg0.N = Ref.gated (F := Ideal) (V m c main_arg0) (V m c main_arg3) (V m c main_arg6) (V m c main_arg7) := by
  refine (dats m 0 c).arrAt_eq_of_cover 16 (Ref.gated (F := Ideal) (V m c main_arg0) (V m c main_arg3) (V m c main_arg6) (V m c main_arg7)) (fun t _ => ?_) covered16
  rw [flushed16_A m c t, out_gb]
  funext y
  obtain ⟨r, j, rfl⟩ : ∃ (r : Fin 512) (j : Fin 128), y = ix2 r j := ⟨_, _, eq_ix2 y⟩
  show _ = Ref.gated (F := Ideal) _ _ _ _ (((cfg0.win 16).blk t).view.emb (ix2 r j))
  rw [place16 t r j ⟨_, row_lt t r⟩ rfl]
  exact gb_at m c t r j _ rfl

end Cert.InProj
end
-- ==== Proof.InProj.Claims.lean ====
module

public import proofs.«01_k».proof.Defs
public import proofs.«01_k».proof.Proof.Gen.InProj.Frame
public import proofs.«01_k».proof.Proof.InProj.Out
public import Idealize.ShloMosaic.Lib.Quiescent

/-!
# The input projection's claims

The kernel's and the reference's runs, and that their six results are equal.
-/

@[expose] public section

set_option maxRecDepth 16384

noncomputable section

namespace Cert.InProj

open Idealize.ShloMosaic Idealize.ShloMosaic.TcCoe Idealize.SL.Sem

theorem frameP : Cert.quiescent_InProj := fun m ρ _ => Cert.InProj.Gen.frame m ρ

theorem framePI : Cert.quiescent_InProjIdeal := fun m ρ _ => Cert.InProjIdeal.Gen.frame m ρ

/-- The reference runs, keeps its arguments, and has no semaphore that could be left above zero. -/
theorem frameRI : Cert.quiescent_InProjReferenceIdeal := fun m ρ _ =>
  (θ_run Cert.InProjReferenceIdeal.defs _ _).mono
    (fun r h => ⟨fun c => (h c).2.2.2.2.2.2, sem_eq_zero_of_no_sems (by decide) r.2⟩) (Ref.run m ρ)

/-- The kernel's six results and the reference's are equal, whatever the arguments. -/
theorem algebraic : Cert.algebraic_InProjIdeal_InProjReferenceIdeal := by
  intro m g m' g' _ hagree
  refine ⟨fun c => (Cert.InProjIdeal.Gen.dats m 0 c).arrAt 11 Cert.InProjIdeal.cfg0.N, fun c => (Cert.InProjIdeal.Gen.dats m 0 c).arrAt 12 Cert.InProjIdeal.cfg0.N,
    fun c => (Cert.InProjIdeal.Gen.dats m 0 c).arrAt 13 Cert.InProjIdeal.cfg0.N, fun c => (Cert.InProjIdeal.Gen.dats m 0 c).arrAt 14 Cert.InProjIdeal.cfg0.N,
    fun c => (Cert.InProjIdeal.Gen.dats m 0 c).arrAt 15 Cert.InProjIdeal.cfg0.N, fun c => (Cert.InProjIdeal.Gen.dats m 0 c).arrAt 16 Cert.InProjIdeal.cfg0.N,
    Cert.InProjIdeal.Value.run_blocks m g, ?_⟩
  refine (θ_run Cert.InProjReferenceIdeal.defs _ _).mono (fun r h c => ?_) (Ref.run m' g')
  obtain ⟨a0, a1, a2, a3, a4, a5, a6, a7⟩ := hagree c
  obtain ⟨h0, h1, h2, h3, h4, h5, keep⟩ := h c
  exact ⟨h0.trans ((congr (congr (congr (congrArg (Ref.queries (F := Ideal)) a0) a1) a4) a5).trans (final11_eq m c).symm),
    h1.trans ((congr (congr (congr (congrArg (Ref.keys (F := Ideal)) a0) a1) a4) a5).trans (final12_eq m c).symm),
    h2.trans ((congr (congrArg (Ref.values (F := Ideal)) a0) a2).trans (final13_eq m c).symm),
    h3.trans ((congr (congrArg (Ref.mixedQkv (F := Ideal)) a0) a1).trans (final14_eq m c).symm),
    h4.trans ((congr (congrArg (Ref.outer (F := Ideal)) a0) a1).trans (final15_eq m c).symm),
    h5.trans ((congr (congr (congr (congrArg (Ref.gated (F := Ideal)) a0) a3) a6) a7).trans (final16_eq m c).symm), keep⟩

end Cert.InProj
end
-- ==== Proof.OutProj.Value.lean ====
module

public import proofs.«01_k».proof.Proof.Gen.OutProjIdeal.Value
public import proofs.«01_k».proof.Proof.Gen.OutProjReferenceIdeal.Run
public import proofs.«01_k».proof.Proof.Ffn.Body
public import proofs.«01_k».proof.Proof.Ffn.Ref

/-!
# The output projection's values

The kernel multiplies each head group by its half of the weights and adds; the reference multiplies the two groups side
by side. The layer norm is the one after the dense feed-forward.
-/

@[expose] public section

set_option maxRecDepth 16384

noncomputable section

namespace Cert.OutProj

open Idealize.ShloMosaic Idealize.ShloMosaic.TcCoe Finset

/-- Output `o` of the two groups' rows `a` and `g`, each with its own weights. -/
def mixed {N D : ℕ} (a g : Fin N → EReal) (wa wg : Fin N → Fin D → EReal) (o : Fin D) : EReal :=
  (∑ e, a e * wa e o) + ∑ e, g e * wg e o

section
open Cert.OutProjIdeal Cert.OutProjIdeal.Gen
variable {F : FTy → Type} [FloatOps F]

/-- The two products and their sum. -/
def mix (a : Vec F S512x512 .bf16) (wa : Vec F S1x512x1024 .bf16) (g : Vec F S512x512 .bf16) (wg : Vec F S1x512x1024 .bf16) : FVec F S512x1024 .f32 :=
  addf (matmul dot_S512x512_S512x1024_S512x1024_1_0_0_1_n_n none a (shapeCast S512x1024 wa shapeCasts_S1x512x1024_S512x1024 : FVec F S512x1024 .bf16) (constant S512x1024 .f32 0x00000000#32))
    (matmul dot_S512x512_S512x1024_S512x1024_1_0_0_1_n_n none g (shapeCast S512x1024 wg shapeCasts_S1x512x1024_S512x1024 : FVec F S512x1024 .bf16) (constant S512x1024 .f32 0x00000000#32))

theorem pay_eq (a : Vec F S512x512 .bf16) (wa : Vec F S1x512x1024 .bf16) (g : Vec F S512x512 .bf16) (wg : Vec F S1x512x1024 .bf16) (x : Vec F S512x1024 .f32)
    (s b : Vec F S1x1024 .f32) : k0_pay2 a wa g wg x s b = Cert.FfnIdeal.Gen.k0_pay4 x (mix a wa g wg) s b := rfl

theorem origin3 : (![0, 0, 0] : Fin 3 → ℕ) = fun _ => 0 := by funext a; fin_cases a <;> rfl

theorem out7_eq (x0 x1 : Vec F S512x512 .bf16) (x2 : Vec F S512x1024 .f32) (x3 x4 : Vec F S1x512x1024 .bf16) (x5 x6 : Vec F S1x1024 .f32) :
    out0_7 x0 x1 x2 x3 x4 x5 x6 = Cert.FfnIdeal.Gen.k0_pay4 x2 (mix x0 x3 x1 x4) x5 x6 := by
  unfold out0_7
  rw [View.canon_unit_zero Ffn.origin]
  unfold Gen.k0_pay3
  rw [pay_eq]
  simp only [View.ld_unit_zero (S := S512x512) Ffn.origin, View.ld_unit_zero (S := S1x512x1024) origin3, View.ld_unit_zero (S := S512x1024) Ffn.origin,
    View.ld_unit_zero (S := S1x1024) Ffn.origin]

theorem out8_eq (x0 x1 : Vec F S512x512 .bf16) (x2 : Vec F S512x1024 .f32) (x3 x4 : Vec F S1x512x1024 .bf16) (x5 x6 : Vec F S1x1024 .f32) :
    out0_8 x0 x1 x2 x3 x4 x5 x6 = truncf .bf16 (Cert.FfnIdeal.Gen.k0_pay4 x2 (mix x0 x3 x1 x4) x5 x6) bitsLt_bf16_f32 := by
  unfold out0_8
  rw [View.canon_unit_zero Ffn.origin]
  unfold Gen.k0_pay3 k0_pay1
  rw [pay_eq]
  simp only [View.ld_unit_zero (S := S512x512) Ffn.origin, View.ld_unit_zero (S := S1x512x1024) origin3, View.ld_unit_zero (S := S512x1024) Ffn.origin,
    View.ld_unit_zero (S := S1x1024) Ffn.origin]

theorem mix_apply (a g : Vec Ideal S512x512 .bf16) (wa wg : Vec Ideal S1x512x1024 .bf16) (r : Fin 512) (o : Fin 1024) :
    mix a wa g wg (ix2 r o) = mixed (fun e => (a (ix2 r e) : EReal)) (fun e => g (ix2 r e)) (fun e o => wa (ix3 0 e o)) (fun e o => wg (ix3 0 e o)) o := by
  pointwise [mix]
  rfl

end

section
open Cert.OutProjReferenceIdeal Cert.OutProjReferenceIdeal.Gen
variable {F : FTy → Type} [FloatOps F]

/-- The reference's sum that is normed. -/
def total (da gd : Vec F S16384x512 .bf16) (x : Vec F S16384x1024 .f32) (w : Vec F S4x1024x1024 .bf16) : FVec F S16384x1024 .f32 :=
  addf (mulf (broadcastInDim S16384x1024 ![] bcast_S_S16384x1024 (constant S_ .f32 0x3FD744FD#32)) x)
    (Host.dotGeneral dot_S16384x1024_S1024x1024_S16384x1024_1_0_0_1_n_n none
      (extf .f32 (concatenate S16384x1024 1 [⟨S16384x512, da⟩, ⟨S16384x512, gd⟩] concatenates_S16384x512_S16384x512_S16384x1024_d1 : FVec F S16384x1024 .bf16) bitsLt_bf16_f32)
      (extf .f32 (shapeCast S1024x1024 (extractStridedSlice S1x1024x1024 ![0, 0, 0] w slices_S4x1024x1024_S1x1024x1024_0_0_0) shapeCasts_S1x1024x1024_S1024x1024 : FVec F S1024x1024 .bf16) bitsLt_bf16_f32))

variable (m : (ℓ : Loc nD τ sig) → Buf (Elt F) ℓ) (c : Dev nD)

theorem res0_eq : Value.res_out0 m c
    = Ffn.Ref.normed (total (m ((c.tc : Thread nD τ).loc main_arg0)) (m ((c.tc : Thread nD τ).loc main_arg1)) (m ((c.tc : Thread nD τ).loc main_arg2))
        (m ((c.tc : Thread nD τ).loc main_arg3))) (m ((c.tc : Thread nD τ).loc main_arg4)) (m ((c.tc : Thread nD τ).loc main_arg5)) := rfl

theorem res1_eq : Value.res_out1 m c = truncf .bf16 (Value.res_out0 m c) bitsLt_bf16_f32 := rfl

theorem total_apply (da gd : Vec Ideal S16384x512 .bf16) (x : Vec Ideal S16384x1024 .f32) (w : Vec Ideal S4x1024x1024 .bf16) (r : Fin 16384) (o : Fin 1024) :
    total da gd x w (ix2 r o) = Ffn.alpha * (x (ix2 r o) : EReal)
      + mixed (fun e : Fin 512 => (da (ix2 r e) : EReal)) (fun e => gd (ix2 r e)) (fun e o => w (ix3 0 (Fin.castAdd 512 e) o)) (fun e o => w (ix3 0 (Fin.natAdd 512 e) o)) o := by
  pointwise [total]
  rfl

end

end Cert.OutProj
end
-- ==== Proof.OutProj.Out.lean ====
module

public import proofs.«01_k».proof.Proof.OutProj.Value

/-!
# The output projection's arrays

Every grid point writes a block of rows; it is those rows of the reference's result.
-/

@[expose] public section

set_option maxRecDepth 16384

noncomputable section

namespace Cert.OutProj

open Idealize.ShloMosaic Idealize.ShloMosaic.TcCoe Cert.OutProjIdeal Cert.OutProjIdeal.Gen Cert.OutProjIdeal.Value

/-- The block index of every window at a grid point. -/
theorem point : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 1 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

variable (m : (ℓ : Loc nD τ sig) → Buf (Elt Ideal) ℓ) (c : Dev nD) (t : Fin cfg0.N)

theorem iblk0_apply (r e : Fin 512) (g : Fin 16384) (hg : g.val = 512 * t.val + r.val) : iblk m c 0 t (ix2 r e) = V m c main_arg0 (ix2 g e) := by
  obtain ⟨⟨e0, e1⟩, -⟩ := point t
  show V m c main_arg0 (((cfg0.win 0).blk t).view.emb (ix2 r e)) = _
  congr 1
  funext a; apply Fin.ext
  match a with
  | ⟨0, _⟩ => show win0_0.index t (0 : Fin 2) * 512 + 1 * r.val = g.val; omega
  | ⟨1, _⟩ => show win0_0.index t (1 : Fin 2) * 512 + 1 * e.val = e.val; omega

theorem iblk1_apply (r e : Fin 512) (g : Fin 16384) (hg : g.val = 512 * t.val + r.val) : iblk m c 1 t (ix2 r e) = V m c main_arg1 (ix2 g e) := by
  obtain ⟨-, ⟨e0, e1⟩, -⟩ := point t
  show V m c main_arg1 (((cfg0.win 1).blk t).view.emb (ix2 r e)) = _
  congr 1
  funext a; apply Fin.ext
  match a with
  | ⟨0, _⟩ => show win0_1.index t (0 : Fin 2) * 512 + 1 * r.val = g.val; omega
  | ⟨1, _⟩ => show win0_1.index t (1 : Fin 2) * 512 + 1 * e.val = e.val; omega

theorem iblk2_apply (r : Fin 512) (d : Fin 1024) (g : Fin 16384) (hg : g.val = 512 * t.val + r.val) : iblk m c 2 t (ix2 r d) = V m c main_arg2 (ix2 g d) := by
  obtain ⟨-, -, ⟨e0, e1⟩, -⟩ := point t
  show V m c main_arg2 (((cfg0.win 2).blk t).view.emb (ix2 r d)) = _
  congr 1
  funext a; apply Fin.ext
  match a with
  | ⟨0, _⟩ => show win0_2.index t (0 : Fin 2) * 512 + 1 * r.val = g.val; omega
  | ⟨1, _⟩ => show win0_2.index t (1 : Fin 2) * 1024 + 1 * d.val = d.val; omega

theorem iblk3_apply (e : Fin 512) (d : Fin 1024) : iblk m c 3 t (ix3 0 e d) = V m c main_arg3 (ix3 0 (Fin.castAdd 512 e) d) := by
  obtain ⟨-, -, -, ⟨e0, e1, e2⟩, -⟩ := point t
  show V m c main_arg3 (((cfg0.win 3).blk t).view.emb (ix3 0 e d)) = _
  congr 1
  funext a; apply Fin.ext
  match a with
  | ⟨0, _⟩ => show win0_3.index t (0 : Fin 3) * 1 + 1 * 0 = 0; omega
  | ⟨1, _⟩ => show win0_3.index t (1 : Fin 3) * 512 + 1 * e.val = e.val; omega
  | ⟨2, _⟩ => show win0_3.index t (2 : Fin 3) * 1024 + 1 * d.val = d.val; omega

theorem iblk4_apply (e : Fin 512) (d : Fin 1024) : iblk m c 4 t (ix3 0 e d) = V m c main_arg3 (ix3 0 (Fin.natAdd 512 e) d) := by
  obtain ⟨-, -, -, -, ⟨e0, e1, e2⟩, -⟩ := point t
  show V m c main_arg3 (((cfg0.win 4).blk t).view.emb (ix3 0 e d)) = _
  congr 1
  funext a; apply Fin.ext
  match a with
  | ⟨0, _⟩ => show win0_4.index t (0 : Fin 3) * 1 + 1 * 0 = 0; omega
  | ⟨1, _⟩ => show win0_4.index t (1 : Fin 3) * 512 + 1 * e.val = 512 + e.val; omega
  | ⟨2, _⟩ => show win0_4.index t (2 : Fin 3) * 1024 + 1 * d.val = d.val; omega

theorem iblk5_eq : iblk m c 5 t = V m c main_arg4 := by
  obtain ⟨-, -, -, -, -, ⟨e0, e1⟩, -⟩ := point t
  funext j
  show V m c main_arg4 (((cfg0.win 5).blk t).view.emb j) = V m c main_arg4 j
  congr 1
  funext a; apply Fin.ext
  match a with
  | ⟨0, _⟩ => show win0_5.index t (0 : Fin 2) * 1 + 1 * (j 0).val = (j 0).val; omega
  | ⟨1, _⟩ => show win0_5.index t (1 : Fin 2) * 1024 + 1 * (j 1).val = (j 1).val; omega

theorem iblk6_eq : iblk m c 6 t = V m c main_arg5 := by
  obtain ⟨-, -, -, -, -, -, ⟨e0, e1⟩, -⟩ := point t
  funext j
  show V m c main_arg5 (((cfg0.win 6).blk t).view.emb j) = V m c main_arg5 j
  congr 1
  funext a; apply Fin.ext
  match a with
  | ⟨0, _⟩ => show win0_6.index t (0 : Fin 2) * 1 + 1 * (j 0).val = (j 0).val; omega
  | ⟨1, _⟩ => show win0_6.index t (1 : Fin 2) * 1024 + 1 * (j 1).val = (j 1).val; omega

/-- The array that the reference's first result is. -/
abbrev want : FVec Ideal Cert.OutProjReferenceIdeal.S16384x1024 .f32 :=
  Ffn.Ref.normed (total (V m c main_arg0) (V m c main_arg1) (V m c main_arg2) (V m c main_arg3)) (V m c main_arg4) (V m c main_arg5)

/-- What a point computes, read at a row and a column. -/
theorem point_at (r : Fin 512) (o : Fin 1024) (g : Fin 16384) (hg : g.val = 512 * t.val + r.val) :
    Cert.FfnIdeal.Gen.k0_pay4 (iblk m c 2 t) (mix (iblk m c 0 t) (iblk m c 3 t) (iblk m c 1 t) (iblk m c 4 t)) (iblk m c 5 t) (iblk m c 6 t) (ix2 r o)
      = want m c (ix2 g o) := by
  rw [Ffn.norm_apply, iblk5_eq, iblk6_eq]
  refine Eq.trans ?_ (Ffn.Ref.normed_apply _ _ _ g o).symm
  congr 1
  funext o
  rw [total_apply, iblk2_apply m c t r o g hg, mix_apply]
  refine congrArg (Ffn.alpha * (V m c main_arg2 (ix2 g o) : EReal) + ·) ?_
  congr 1
  · funext e; exact iblk0_apply m c t r e g hg
  · funext e; exact iblk1_apply m c t r e g hg
  · funext e o; exact iblk3_apply m c t e o
  · funext e o; exact iblk4_apply m c t e o

/-- An output block's place in its array. -/
theorem place7 (y : S512x1024.Idx) (g : Fin 16384) (o : Fin 1024) (hg : g.val = 512 * t.val + (y 0).val) (ho : o.val = (y 1).val) :
    ((cfg0.win 7).blk t).view.emb y = ix2 g o := by
  obtain ⟨-, -, -, -, -, -, -, ⟨e0, e1⟩, -⟩ := point t
  funext a; apply Fin.ext
  match a with
  | ⟨0, _⟩ => show win0_7.index t (0 : Fin 2) * 512 + 1 * (y 0).val = g.val; omega
  | ⟨1, _⟩ => show win0_7.index t (1 : Fin 2) * 1024 + 1 * (y 1).val = o.val; omega

theorem place8 (y : S512x1024.Idx) (g : Fin 16384) (o : Fin 1024) (hg : g.val = 512 * t.val + (y 0).val) (ho : o.val = (y 1).val) :
    ((cfg0.win 8).blk t).view.emb y = ix2 g o := by
  obtain ⟨-, -, -, -, -, -, -, -, ⟨e0, e1⟩⟩ := point t
  funext a; apply Fin.ext
  match a with
  | ⟨0, _⟩ => show win0_8.index t (0 : Fin 2) * 512 + 1 * (y 0).val = g.val; omega
  | ⟨1, _⟩ => show win0_8.index t (1 : Fin 2) * 1024 + 1 * (y 1).val = o.val; omega

/-- The grid point of a row, and the row's place in its block. -/
theorem row_point (i : S16384x1024.Idx) : ∃ (t : Fin cfg0.N) (y : S512x1024.Idx), (i 0).val = 512 * t.val + (y 0).val ∧ (i 1).val = (y 1).val := by
  have h0 : (i 0).val < 16384 := (i 0).isLt
  have h1 : (i 1).val < 1024 := (i 1).isLt
  have hN : cfg0.N = 32 := N_0
  refine ⟨⟨(i 0).val / 512, by omega⟩, ix2 (⟨(i 0).val % 512, by omega⟩ : Fin 512) (⟨(i 1).val, h1⟩ : Fin 1024), ?_, rfl⟩
  show (i 0).val = 512 * ((i 0).val / 512) + (i 0).val % 512
  omega

theorem covered7 (i : S16384x1024.Idx) : ∃ t : Fin cfg0.N, (cfg0.win 7).flush t = true ∧ i ∈ ((cfg0.win 7).blk t).view.set := by
  obtain ⟨t, y, h0, h1⟩ := row_point i
  refine ⟨t, flush0_7 t, ?_⟩
  rw [show i = ((cfg0.win 7).blk t).view.emb y from (by funext a; match a with | ⟨0, _⟩ => rfl | ⟨1, _⟩ => rfl : i = ix2 (i 0) (i 1)).trans (place7 t y (i 0) (i 1) h0 h1).symm]
  exact View.emb_mem_set _ _

theorem covered8 (i : S16384x1024.Idx) : ∃ t : Fin cfg0.N, (cfg0.win 8).flush t = true ∧ i ∈ ((cfg0.win 8).blk t).view.set := by
  obtain ⟨t, y, h0, h1⟩ := row_point i
  refine ⟨t, flush0_8 t, ?_⟩
  rw [show i = ((cfg0.win 8).blk t).view.emb y from (by funext a; match a with | ⟨0, _⟩ => rfl | ⟨1, _⟩ => rfl : i = ix2 (i 0) (i 1)).trans (place8 t y (i 0) (i 1) h0 h1).symm]
  exact View.emb_mem_set _ _

/-- The first array after the run. -/
theorem final7_eq : (dats m 0 c).arrAt 7 cfg0.N = want m c := by
  refine (dats m 0 c).arrAt_eq_of_cover 7 (want m c) (fun t _ => ?_) covered7
  have hN : t.val < 32 := lt_of_lt_of_eq t.isLt N_0
  rw [flushed7 m c t, out7_eq]
  funext y
  have y0 : (y 0).val < 512 := (y 0).isLt
  have y1 : (y 1).val < 1024 := (y 1).isLt
  show _ = want m c (((cfg0.win 7).blk t).view.emb y)
  rw [place7 t y ⟨512 * t.val + (y 0).val, by omega⟩ ⟨(y 1).val, y1⟩ rfl rfl]
  refine Eq.trans ?_ (point_at m c t ⟨(y 0).val, y0⟩ ⟨(y 1).val, y1⟩ _ rfl)
  show Cert.FfnIdeal.Gen.k0_pay4 (F := Ideal) _ _ _ _ _ = Cert.FfnIdeal.Gen.k0_pay4 (F := Ideal) _ _ _ _ _
  congr 1
  funext a; apply Fin.ext
  match a with
  | ⟨0, _⟩ => rfl
  | ⟨1, _⟩ => rfl

/-- The second array after the run: the first in the narrow format. -/
theorem final8_eq : (dats m 0 c).arrAt 8 cfg0.N = truncf .bf16 (want m c) Cert.OutProjReferenceIdeal.Gen.bitsLt_bf16_f32 := by
  refine (dats m 0 c).arrAt_eq_of_cover 8 (truncf .bf16 (want m c) Cert.OutProjReferenceIdeal.Gen.bitsLt_bf16_f32) (fun t _ => ?_) covered8
  have hN : t.val < 32 := lt_of_lt_of_eq t.isLt N_0
  rw [flushed8 m c t, out8_eq]
  funext y
  have y0 : (y 0).val < 512 := (y 0).isLt
  have y1 : (y 1).val < 1024 := (y 1).isLt
  show _ = want m c (((cfg0.win 8).blk t).view.emb y)
  rw [place8 t y ⟨512 * t.val + (y 0).val, by omega⟩ ⟨(y 1).val, y1⟩ rfl rfl]
  refine Eq.trans ?_ (point_at m c t ⟨(y 0).val, y0⟩ ⟨(y 1).val, y1⟩ _ rfl)
  show Cert.FfnIdeal.Gen.k0_pay4 (F := Ideal) _ _ _ _ _ = Cert.FfnIdeal.Gen.k0_pay4 (F := Ideal) _ _ _ _ _
  congr 1
  funext a; apply Fin.ext
  match a with
  | ⟨0, _⟩ => rfl
  | ⟨1, _⟩ => rfl

end Cert.OutProj
end
-- ==== Proof.OutProj.Claims.lean ====
module

public import proofs.«01_k».proof.Defs
public import proofs.«01_k».proof.Proof.Gen.OutProj.Frame
public import proofs.«01_k».proof.Proof.OutProj.Out
public import Idealize.ShloMosaic.Lib.Quiescent

/-!
# The output projection's claims

The kernel's and the reference's runs, and that their results are equal.
-/

@[expose] public section

set_option maxRecDepth 16384

noncomputable section

namespace Cert.OutProj

open Idealize.ShloMosaic Idealize.ShloMosaic.TcCoe Idealize.SL.Sem

theorem frameP : Cert.quiescent_OutProj := fun m ρ _ => Cert.OutProj.Gen.frame m ρ

theorem framePI : Cert.quiescent_OutProjIdeal := fun m ρ _ => Cert.OutProjIdeal.Gen.frame m ρ

/-- The reference runs, keeps its arguments, and has no semaphore that could be left above zero. -/
theorem frameRI : Cert.quiescent_OutProjReferenceIdeal := fun m ρ _ =>
  (θ_run Cert.OutProjReferenceIdeal.defs _ _).mono
    (fun r h => ⟨fun c => (h c).2.2, sem_eq_zero_of_no_sems (by decide) r.2⟩) (Cert.OutProjReferenceIdeal.Value.run m ρ)

/-- The kernel's two results and the reference's are equal, whatever the arguments. -/
theorem algebraic : Cert.algebraic_OutProjIdeal_OutProjReferenceIdeal := by
  intro m g m' g' _ hagree
  refine ⟨fun c => (Cert.OutProjIdeal.Gen.dats m 0 c).arrAt 7 Cert.OutProjIdeal.cfg0.N, fun c => (Cert.OutProjIdeal.Gen.dats m 0 c).arrAt 8 Cert.OutProjIdeal.cfg0.N,
    Cert.OutProjIdeal.Value.run_blocks m g, ?_⟩
  have key : ∀ c, Cert.OutProjReferenceIdeal.Value.res_out0 m' c = want m c := fun c => by
    obtain ⟨a0, a1, a2, a3, a4, a5⟩ := hagree c
    exact (res0_eq m' c).trans (congr (congr (congrArg (Ffn.Ref.normed (F := Ideal))
      (congr (congr (congr (congrArg (total (F := Ideal)) a0) a1) a2) a3)) a4) a5)
  refine (θ_run Cert.OutProjReferenceIdeal.defs _ _).mono (fun r h c => ⟨(h c).1.trans ?_, (h c).2.1.trans ?_, (h c).2.2⟩) (Cert.OutProjReferenceIdeal.Value.run m' g')
  · exact (key c).trans (final7_eq m c).symm
  · exact ((res1_eq m' c).trans (congrArg (fun y => truncf .bf16 y Cert.OutProjReferenceIdeal.Gen.bitsLt_bf16_f32) (key c))).trans (final8_eq m c).symm

end Cert.OutProj
end
-- ==== Proof.Router.Finite.lean ====
module

public import proofs.«01_k».proof.Pre_plain
public import proofs.«01_k».proof.Proof.Attn.Finite
public import proofs.«01_k».proof.Proof.Attn.Soft
public import proofs.«01_k».proof.Proof.Gated.Spec

/-!
# The layer norm is real

With real weights the layer norm of any row is real. If the row is real this is plain. If not, its sum is infinite, every
entry less the mean is infinite, the variance is infinite, its reciprocal root is zero, and the second weight remains.
-/

@[expose] public section

noncomputable section

namespace Cert.Router

open Idealize.ShloMosaic Finset

/-- The shape relations the precondition's operations take. -/
theorem plainFacts : Cert.Pre_plain.Facts where
  bcast_S_S1x1024 := by decide
  reducesTo_S1x1024_S_d0_1 := by decide
  h_S_ := by decide
  bcast_S_S1024x128 := by decide
  reducesTo_S1024x128_S_d0_1 := by decide

instance : Subsingleton Cert.Pre_plain.S_.Idx := ⟨fun _ _ => funext fun a => a.elim0⟩

open Cert.Pre_plain in
/-- The precondition, read: the norm's two weights and the router's are real. -/
theorem plain_args [Cert.Pre_plain.Facts] (da gd : FVec Ideal S16384x512 .bf16) (x : FVec Ideal S16384x1024 .f32) (w : FVec Ideal S4x1024x1024 .bf16)
    (g b : FVec Ideal S1x1024 .f32) (rw : FVec Ideal S1024x128 .f32) (h : Cert.Pre_plain.fn da gd x w g b rw = fun _ => 1#1) :
    (∀ i, ∃ z : ℝ, (g i : EReal) = (z : EReal)) ∧ (∀ i, ∃ z : ℝ, (b i : EReal) = (z : EReal)) ∧ ∀ i, ∃ z : ℝ, (rw i : EReal) = (z : EReal) := by
  obtain ⟨h1, hr⟩ := IntOp.andi_eq_one.1 (congrFun h (fun a => a.elim0))
  obtain ⟨hg, hb⟩ := IntOp.andi_eq_one.1 h1
  exact ⟨Attn.real_of_all (fun i => (g i : EReal)) _ (fun _ => rfl) _ _ _ _ hg, Attn.real_of_all (fun i => (b i : EReal)) _ (fun _ => rfl) _ _ _ _ hb,
    Attn.real_of_all (fun i => (rw i : EReal)) _ (fun _ => rfl) _ _ _ _ hr⟩

/-- Division by a positive number. -/
theorem div_pos_coe (x : EReal) {n : ℝ} (hn : 0 < n) : Ideal.div x n = x * ((n⁻¹ : ℝ) : EReal) := by
  rw [Ideal.div, if_neg (by exact_mod_cast hn.ne'), EReal.coe_inv]

/-- An infinite number by a positive one is itself. -/
theorem div_inf {x : EReal} (hx : x = ⊥ ∨ x = ⊤) {n : ℝ} (hn : 0 < n) : Ideal.div x n = x := by
  rw [div_pos_coe x hn]
  rcases hx with rfl | rfl
  · exact EReal.bot_mul_coe_of_pos (inv_pos.2 hn)
  · exact EReal.top_mul_coe_of_pos (inv_pos.2 hn)

/-- A number less an infinite one is infinite. -/
theorem sub_inf (y : EReal) {x : EReal} (hx : x = ⊥ ∨ x = ⊤) : y - x = ⊥ ∨ y - x = ⊤ := by
  rcases hx with rfl | rfl <;> induction y <;> simp [sub_eq_add_neg]

/-- If a sum is real then so are its terms. -/
theorem real_of_sum {N : ℕ} {y : Fin N → EReal} (hb : ∑ k, y k ≠ ⊥) (ht : ∑ k, y k ≠ ⊤) (k : Fin N) : ∃ z : ℝ, y k = (z : EReal) := by
  rw [← Finset.add_sum_erase _ y (Finset.mem_univ k)] at hb ht
  refine ⟨(y k).toReal, (EReal.coe_toReal (fun e => ?_) (fun e => ?_)).symm⟩
  · rw [e] at hb ht
    by_cases h : ∑ x ∈ Finset.univ.erase k, y x = ⊥
    · exact hb (by rw [h, EReal.add_bot])
    · exact ht (EReal.top_add_of_ne_bot h)
  · exact hb (by rw [e, EReal.bot_add])

/-- The layer norm of any row, with real weights, is real. -/
theorem normed_real {N : ℕ} {n e : ℝ} (hn : 0 < n) (he : 0 < e) (y g b : Fin N → EReal) (o : Fin N)
    (hg : ∃ z : ℝ, g o = (z : EReal)) (hb : ∃ z : ℝ, b o = (z : EReal)) : ∃ z : ℝ, Gated.normed n e y g b o = (z : EReal) := by
  obtain ⟨G, hG⟩ := hg
  obtain ⟨B, hB⟩ := hb
  unfold Gated.normed
  rw [hG, hB]
  by_cases hs : ∑ k, y k = ⊥ ∨ ∑ k, y k = ⊤
  · refine ⟨B, ?_⟩
    have hc : ∀ x, Gated.centred n y x * Gated.centred n y x = ⊤ := fun x => by
      have h := sub_inf (y x) (x := Gated.mean n y) (by rw [Gated.mean, div_inf hs hn]; exact hs)
      unfold Gated.centred
      rcases h with h | h <;> rw [h] <;> rfl
    have hv : ∑ x, Gated.centred n y x * Gated.centred n y x = ⊤ := by
      rw [← Finset.add_sum_erase _ _ (Finset.mem_univ o), hc o]
      refine EReal.top_add_of_ne_bot (ne_of_gt (lt_of_lt_of_le EReal.bot_lt_zero (Finset.sum_nonneg fun x _ => ?_)))
      rw [hc x]; exact le_top
    have hr : Ideal.rsqrt (Gated.mean n (fun x => Gated.centred n y x * Gated.centred n y x) + e) = 0 := by
      rw [Gated.mean, hv, div_inf (.inr rfl) hn]; rfl
    rw [hr, mul_zero, zero_mul, zero_add]
  · rw [not_or] at hs
    choose Y hY using real_of_sum hs.1 hs.2
    have hm : Gated.mean n y = (((∑ k, Y k) * n⁻¹ : ℝ) : EReal) := by
      rw [Gated.mean, div_pos_coe _ hn, EReal.coe_mul, Attn.coe_sum]; simp only [hY]
    have hc : ∀ x, Gated.centred n y x = ((Y x - (∑ k, Y k) * n⁻¹ : ℝ) : EReal) := fun x => by
      rw [Gated.centred, hm, hY, EReal.coe_sub]
    generalize (∑ k, Y k) * n⁻¹ = M at hc
    have hv : Gated.mean n (fun x => Gated.centred n y x * Gated.centred n y x) + e = (((∑ x, (Y x - M) * (Y x - M)) * n⁻¹ + e : ℝ) : EReal) := by
      rw [Gated.mean, div_pos_coe _ hn, EReal.coe_add, EReal.coe_mul, Attn.coe_sum]
      simp only [hc, EReal.coe_mul]
    have hp : 0 < (∑ x, (Y x - M) * (Y x - M)) * n⁻¹ + e :=
      add_pos_of_nonneg_of_pos (mul_nonneg (Finset.sum_nonneg fun x _ => mul_self_nonneg _) (inv_nonneg.2 hn.le)) he
    rw [hv, hc o]
    generalize (∑ x, (Y x - M) * (Y x - M)) * n⁻¹ + e = D at hp
    have hr : Ideal.rsqrt (D : EReal) = (((Real.sqrt D)⁻¹ : ℝ) : EReal) := by
      show (if D < 0 then (⊥ : EReal) else if D = 0 then ⊤ else (((Real.sqrt D)⁻¹ : ℝ) : EReal)) = _
      rw [if_neg (not_lt.2 hp.le), if_neg hp.ne']
    exact ⟨(Y o - M) * (Real.sqrt D)⁻¹ * G + B, by rw [hr]; simp only [EReal.coe_add, EReal.coe_mul]⟩

/-- The sum of products in two parts each: what the parts leave out is zero. -/
theorem split_sum {K : ℕ} (y w : Fin K → EReal) (hy : ∀ k, ∃ z : ℝ, y k = (z : EReal)) (hw : ∀ k, ∃ z : ℝ, w k = (z : EReal)) :
    (∑ k, y k * w k) + ((∑ k, y k * (w k - w k)) + ∑ k, (y k - y k) * w k) = ∑ k, y k * w k := by
  have h : ∀ x : EReal, (∃ z : ℝ, x = (z : EReal)) → x - x = 0 := fun x ⟨z, hz⟩ => by rw [hz, ← EReal.coe_sub, sub_self, EReal.coe_zero]
  simp only [h _ (hy _), h _ (hw _), mul_zero, zero_mul, Finset.sum_const_zero, add_zero]

end Cert.Router
end
-- ==== Proof.Router.Value.lean ====
module

public import proofs.«01_k».proof.Proof.Gen.RouterIdeal.Value
public import proofs.«01_k».proof.Proof.Gen.RouterReferenceIdeal.Run
public import proofs.«01_k».proof.Proof.OutProj.Value
public import proofs.«01_k».proof.Proof.Router.Finite

/-!
# The values of the output projection with the router

The first two results are the output projection's, of the second layer. The router's logits are the first result's
product with the router's weights; the kernel splits both factors in two parts.
-/

@[expose] public section

set_option maxRecDepth 16384

noncomputable section

namespace Cert.Router

open Idealize.ShloMosaic Idealize.ShloMosaic.TcCoe Finset

section
open Cert.RouterIdeal Cert.RouterIdeal.Gen
variable {F : FTy → Type} [FloatOps F]

/-- The block of rows that the body computes. -/
theorem rows_eq (x0 x1 : Vec F S512x512 .bf16) (x2 : Vec F S512x1024 .f32) (x3 x4 : Vec F S1x512x1024 .bf16) (x5 x6 : Vec F S1x1024 .f32) (x7 : Vec F S1024x128 .f32) :
    Gen.k0_pay4 x0 x1 x2 x3 x4 x5 x6 x7 = Cert.FfnIdeal.Gen.k0_pay4 x2 (OutProj.mix x0 x3 x1 x4) x5 x6 := by
  unfold Gen.k0_pay4
  simp only [View.ld_unit_zero (S := S512x512) Ffn.origin, View.ld_unit_zero (S := S1x512x1024) OutProj.origin3, View.ld_unit_zero (S := S512x1024) Ffn.origin,
    View.ld_unit_zero (S := S1x1024) Ffn.origin]
  rfl

theorem out8_eq (x0 x1 : Vec F S512x512 .bf16) (x2 : Vec F S512x1024 .f32) (x3 x4 : Vec F S1x512x1024 .bf16) (x5 x6 : Vec F S1x1024 .f32) (x7 : Vec F S1024x128 .f32) :
    out0_8 x0 x1 x2 x3 x4 x5 x6 x7 = Cert.FfnIdeal.Gen.k0_pay4 x2 (OutProj.mix x0 x3 x1 x4) x5 x6 := by
  unfold out0_8
  rw [View.canon_unit_zero Ffn.origin, rows_eq]

theorem out9_eq (x0 x1 : Vec F S512x512 .bf16) (x2 : Vec F S512x1024 .f32) (x3 x4 : Vec F S1x512x1024 .bf16) (x5 x6 : Vec F S1x1024 .f32) (x7 : Vec F S1024x128 .f32) :
    out0_9 x0 x1 x2 x3 x4 x5 x6 x7 = truncf .bf16 (Cert.FfnIdeal.Gen.k0_pay4 x2 (OutProj.mix x0 x3 x1 x4) x5 x6) bitsLt_bf16_f32 := by
  unfold out0_9
  rw [View.canon_unit_zero Ffn.origin, rows_eq]
  rfl

theorem out10_eq (x0 x1 : Vec F S512x512 .bf16) (x2 : Vec F S512x1024 .f32) (x3 x4 : Vec F S1x512x1024 .bf16) (x5 x6 : Vec F S1x1024 .f32) (x7 : Vec F S1024x128 .f32) :
    out0_10 x0 x1 x2 x3 x4 x5 x6 x7 = k0_pay2 (Cert.FfnIdeal.Gen.k0_pay4 x2 (OutProj.mix x0 x3 x1 x4) x5 x6) x7 := by
  unfold out0_10
  rw [View.canon_unit_zero Ffn.origin, rows_eq, View.ld_unit_zero (S := S1024x128) Ffn.origin]

/-- The split product, read at a row and an expert. -/
theorem split_apply (y : FVec Ideal S512x1024 .f32) (w : Vec Ideal S1024x128 .f32) (r : Fin 512) (o : Fin 128) :
    k0_pay2 y w (ix2 r o) = (∑ k : Fin 1024, (y (ix2 r k) : EReal) * w (ix2 k o))
      + ((∑ k : Fin 1024, (y (ix2 r k) : EReal) * ((w (ix2 k o) : EReal) - w (ix2 k o))) + ∑ k : Fin 1024, ((y (ix2 r k) : EReal) - y (ix2 r k)) * w (ix2 k o)) := by
  unfold k0_pay2
  pointwise []

end

section
open Cert.RouterReferenceIdeal Cert.RouterReferenceIdeal.Gen
variable {F : FTy → Type} [FloatOps F]

/-- The reference's sum that is normed. -/
def total (da gd : Vec F S16384x512 .bf16) (x : Vec F S16384x1024 .f32) (w : Vec F S4x1024x1024 .bf16) : FVec F S16384x1024 .f32 :=
  addf (mulf (broadcastInDim S16384x1024 ![] bcast_S_S16384x1024 (constant S_ .f32 0x3FD744FD#32)) x)
    (Host.dotGeneral dot_S16384x1024_S1024x1024_S16384x1024_1_0_0_1_n_n none
      (extf .f32 (concatenate S16384x1024 1 [⟨S16384x512, da⟩, ⟨S16384x512, gd⟩] concatenates_S16384x512_S16384x512_S16384x1024_d1 : FVec F S16384x1024 .bf16) bitsLt_bf16_f32)
      (extf .f32 (shapeCast S1024x1024 (extractStridedSlice S1x1024x1024 ![1, 0, 0] w slices_S4x1024x1024_S1x1024x1024_1_0_0) shapeCasts_S1x1024x1024_S1024x1024 : FVec F S1024x1024 .bf16) bitsLt_bf16_f32))

/-- The reference's logits of the rows `y`. -/
def logits (y : FVec F S16384x1024 .f32) (w : Vec F S1024x128 .f32) : FVec F S16384x128 .f32 :=
  Host.dotGeneral dot_S16384x1024_S1024x128_S16384x128_1_0_0_1_n_n none y w

variable (m : (ℓ : Loc nD τ sig) → Buf (Elt F) ℓ) (c : Dev nD)

theorem res0_eq : Value.res_out0 m c
    = Ffn.Ref.normed (total (m ((c.tc : Thread nD τ).loc main_arg0)) (m ((c.tc : Thread nD τ).loc main_arg1)) (m ((c.tc : Thread nD τ).loc main_arg2))
        (m ((c.tc : Thread nD τ).loc main_arg3))) (m ((c.tc : Thread nD τ).loc main_arg4)) (m ((c.tc : Thread nD τ).loc main_arg5)) := rfl

theorem res1_eq : Value.res_out1 m c = truncf .bf16 (Value.res_out0 m c) bitsLt_bf16_f32 := rfl

theorem res2_eq : Value.res_out2 m c = logits (Value.res_out0 m c) (m ((c.tc : Thread nD τ).loc main_arg6)) := rfl

theorem total_apply (da gd : Vec Ideal S16384x512 .bf16) (x : Vec Ideal S16384x1024 .f32) (w : Vec Ideal S4x1024x1024 .bf16) (r : Fin 16384) (o : Fin 1024) :
    total da gd x w (ix2 r o) = Ffn.alpha * (x (ix2 r o) : EReal)
      + OutProj.mixed (fun e : Fin 512 => (da (ix2 r e) : EReal)) (fun e => gd (ix2 r e)) (fun e o => w (ix3 1 (Fin.castAdd 512 e) o)) (fun e o => w (ix3 1 (Fin.natAdd 512 e) o)) o := by
  pointwise [total]
  rfl

theorem logits_apply (y : FVec Ideal S16384x1024 .f32) (w : Vec Ideal S1024x128 .f32) (r : Fin 16384) (o : Fin 128) :
    logits y w (ix2 r o) = ∑ k : Fin 1024, (y (ix2 r k) : EReal) * w (ix2 k o) := by
  pointwise [logits]

/-- The layer norm's two numbers are positive. -/
theorem count_pos : ∃ n : ℝ, 0 < n ∧ Ffn.count = (n : EReal) := by
  refine ⟨8388608 * (2 ^ 13)⁻¹, by positivity, ?_⟩
  rw [EReal.coe_mul]; simp [Ffn.count, Ideal.ofBits, Ideal.ieee]

theorem small_pos : ∃ e : ℝ, 0 < e ∧ Ffn.small = (e : EReal) := by
  refine ⟨10995116 * (2 ^ 40)⁻¹, by positivity, ?_⟩
  rw [EReal.coe_mul]; simp [Ffn.small, Ideal.ofBits, Ideal.ieee]

/-- The normed rows are real. -/
theorem rows_real (y : FVec Ideal S16384x1024 .f32) (g b : Vec Ideal S1x1024 .f32) (hg : ∀ i, ∃ z : ℝ, (g i : EReal) = (z : EReal))
    (hb : ∀ i, ∃ z : ℝ, (b i : EReal) = (z : EReal)) (r : Fin 16384) (o : Fin 1024) : ∃ z : ℝ, (Ffn.Ref.normed y g b (ix2 r o) : EReal) = (z : EReal) := by
  obtain ⟨n, hn, en⟩ := count_pos
  obtain ⟨e, he, ee⟩ := small_pos
  rw [Ffn.Ref.normed_apply]
  show ∃ z : ℝ, Gated.normed Ffn.count Ffn.small _ _ _ o = _
  rw [en, ee]
  exact normed_real hn he _ _ _ o (hg _) (hb _)

end

end Cert.Router
end
-- ==== Proof.Router.Out.lean ====
module

public import proofs.«01_k».proof.Proof.Router.Value

/-!
# The arrays of the output projection with the router

Every grid point writes a block of rows of the three results; it is those rows of the reference's results. The logits
are equal where the norm's and the router's weights are real.
-/

@[expose] public section

set_option maxRecDepth 16384

noncomputable section

namespace Cert.Router

open Idealize.ShloMosaic Idealize.ShloMosaic.TcCoe Cert.RouterIdeal Cert.RouterIdeal.Gen Cert.RouterIdeal.Value

/-- The block index of every input window at a grid point. -/
theorem point : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 1 ∧ win0_3.index t (1 : Fin 3) = 0 ∧ win0_3.index t (2 : Fin 3) = 0)
    ∧ (win0_4.index t (0 : Fin 3) = 1 ∧ win0_4.index t (1 : Fin 3) = 1 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The block index of every output window at a grid point. -/
theorem point_out : ∀ t : Fin cfg0.N, (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

variable (m : (ℓ : Loc nD τ sig) → Buf (Elt Ideal) ℓ) (c : Dev nD) (t : Fin cfg0.N)

/-- An index of two numbers, from each of them. -/
theorem ix2_of {a b : ℕ} (i : (⟨2, ![a, b]⟩ : Shape).Idx) (r : Fin a) (o : Fin b) (h0 : (i 0).val = r.val) (h1 : (i 1).val = o.val) : i = ix2 r o := by
  funext x; apply Fin.ext
  match x with
  | ⟨0, _⟩ => exact h0
  | ⟨1, _⟩ => exact h1

/-- An index of three numbers, from each of them. -/
theorem ix3_of {a b d : ℕ} (i : (⟨3, ![a, b, d]⟩ : Shape).Idx) (l : Fin a) (r : Fin b) (o : Fin d) (h0 : (i 0).val = l.val) (h1 : (i 1).val = r.val)
    (h2 : (i 2).val = o.val) : i = ix3 l r o := by
  funext x; apply Fin.ext
  match x with
  | ⟨0, _⟩ => exact h0
  | ⟨1, _⟩ => exact h1
  | ⟨2, _⟩ => exact h2

theorem iblk0_apply (r e : Fin 512) (g : Fin 16384) (hg : g.val = 512 * t.val + r.val) : iblk m c 0 t (ix2 r e) = V m c main_arg0 (ix2 g e) := by
  obtain ⟨⟨e0, e1⟩, -⟩ := point t
  refine congrArg (V m c main_arg0) (ix2_of (((cfg0.win 0).blk t).view.emb (ix2 r e)) g e ?_ ?_)
  · show win0_0.index t (0 : Fin 2) * 512 + 1 * r.val = g.val; omega
  · show win0_0.index t (1 : Fin 2) * 512 + 1 * e.val = e.val; omega

theorem iblk1_apply (r e : Fin 512) (g : Fin 16384) (hg : g.val = 512 * t.val + r.val) : iblk m c 1 t (ix2 r e) = V m c main_arg1 (ix2 g e) := by
  obtain ⟨-, ⟨e0, e1⟩, -⟩ := point t
  refine congrArg (V m c main_arg1) (ix2_of (((cfg0.win 1).blk t).view.emb (ix2 r e)) g e ?_ ?_)
  · show win0_1.index t (0 : Fin 2) * 512 + 1 * r.val = g.val; omega
  · show win0_1.index t (1 : Fin 2) * 512 + 1 * e.val = e.val; omega

theorem iblk2_apply (r : Fin 512) (d : Fin 1024) (g : Fin 16384) (hg : g.val = 512 * t.val + r.val) : iblk m c 2 t (ix2 r d) = V m c main_arg2 (ix2 g d) := by
  obtain ⟨-, -, ⟨e0, e1⟩, -⟩ := point t
  refine congrArg (V m c main_arg2) (ix2_of (((cfg0.win 2).blk t).view.emb (ix2 r d)) g d ?_ ?_)
  · show win0_2.index t (0 : Fin 2) * 512 + 1 * r.val = g.val; omega
  · show win0_2.index t (1 : Fin 2) * 1024 + 1 * d.val = d.val; omega

theorem iblk3_apply (e : Fin 512) (d : Fin 1024) : iblk m c 3 t (ix3 0 e d) = V m c main_arg3 (ix3 1 (Fin.castAdd 512 e) d) := by
  obtain ⟨-, -, -, ⟨e0, e1, e2⟩, -⟩ := point t
  refine congrArg (V m c main_arg3) (ix3_of (((cfg0.win 3).blk t).view.emb (ix3 0 e d)) 1 (Fin.castAdd 512 e) d ?_ ?_ ?_)
  · show win0_3.index t (0 : Fin 3) * 1 + 1 * 0 = 1; omega
  · show win0_3.index t (1 : Fin 3) * 512 + 1 * e.val = e.val; omega
  · show win0_3.index t (2 : Fin 3) * 1024 + 1 * d.val = d.val; omega

theorem iblk4_apply (e : Fin 512) (d : Fin 1024) : iblk m c 4 t (ix3 0 e d) = V m c main_arg3 (ix3 1 (Fin.natAdd 512 e) d) := by
  obtain ⟨-, -, -, -, ⟨e0, e1, e2⟩, -⟩ := point t
  refine congrArg (V m c main_arg3) (ix3_of (((cfg0.win 4).blk t).view.emb (ix3 0 e d)) 1 (Fin.natAdd 512 e) d ?_ ?_ ?_)
  · show win0_4.index t (0 : Fin 3) * 1 + 1 * 0 = 1; omega
  · show win0_4.index t (1 : Fin 3) * 512 + 1 * e.val = 512 + e.val; omega
  · show win0_4.index t (2 : Fin 3) * 1024 + 1 * d.val = d.val; omega

theorem iblk5_apply (o : Fin 1024) : iblk m c 5 t (ix2 0 o) = V m c main_arg4 (ix2 0 o) := by
  obtain ⟨-, -, -, -, -, ⟨e0, e1⟩, -⟩ := point t
  refine congrArg (V m c main_arg4) (ix2_of (((cfg0.win 5).blk t).view.emb (ix2 0 o)) 0 o ?_ ?_)
  · show win0_5.index t (0 : Fin 2) * 1 + 1 * 0 = 0; omega
  · show win0_5.index t (1 : Fin 2) * 1024 + 1 * o.val = o.val; omega

theorem iblk6_apply (o : Fin 1024) : iblk m c 6 t (ix2 0 o) = V m c main_arg5 (ix2 0 o) := by
  obtain ⟨-, -, -, -, -, -, ⟨e0, e1⟩, -⟩ := point t
  refine congrArg (V m c main_arg5) (ix2_of (((cfg0.win 6).blk t).view.emb (ix2 0 o)) 0 o ?_ ?_)
  · show win0_6.index t (0 : Fin 2) * 1 + 1 * 0 = 0; omega
  · show win0_6.index t (1 : Fin 2) * 1024 + 1 * o.val = o.val; omega

theorem iblk7_apply (k : Fin 1024) (o : Fin 128) : iblk m c 7 t (ix2 k o) = V m c main_arg6 (ix2 k o) := by
  obtain ⟨-, -, -, -, -, -, -, ⟨e0, e1⟩⟩ := point t
  refine congrArg (V m c main_arg6) (ix2_of (((cfg0.win 7).blk t).view.emb (ix2 k o)) k o ?_ ?_)
  · show win0_7.index t (0 : Fin 2) * 1024 + 1 * k.val = k.val; omega
  · show win0_7.index t (1 : Fin 2) * 128 + 1 * o.val = o.val; omega

/-- The array that the reference's first result is. -/
abbrev want : FVec Ideal Cert.RouterReferenceIdeal.S16384x1024 .f32 :=
  Ffn.Ref.normed (total (V m c main_arg0) (V m c main_arg1) (V m c main_arg2) (V m c main_arg3)) (V m c main_arg4) (V m c main_arg5)

/-- The block of rows that a point computes. -/
abbrev rows : FVec Ideal S512x1024 .f32 :=
  Cert.FfnIdeal.Gen.k0_pay4 (iblk m c 2 t) (OutProj.mix (iblk m c 0 t) (iblk m c 3 t) (iblk m c 1 t) (iblk m c 4 t)) (iblk m c 5 t) (iblk m c 6 t)

theorem rows_at (r : Fin 512) (o : Fin 1024) (g : Fin 16384) (hg : g.val = 512 * t.val + r.val) : rows m c t (ix2 r o) = want m c (ix2 g o) := by
  rw [rows, Ffn.norm_apply]
  refine Eq.trans ?_ (Ffn.Ref.normed_apply _ _ _ g o).symm
  refine congr (congr (congr (congrArg (Gated.normed Ffn.count Ffn.small) (funext fun o => ?_)) (funext fun o => iblk5_apply m c t o))
    (funext fun o => iblk6_apply m c t o)) rfl
  rw [total_apply, iblk2_apply m c t r o g hg, OutProj.mix_apply]
  refine congrArg (Ffn.alpha * (V m c main_arg2 (ix2 g o) : EReal) + ·) ?_
  congr 1
  · funext e; exact iblk0_apply m c t r e g hg
  · funext e; exact iblk1_apply m c t r e g hg
  · funext e o; exact iblk3_apply m c t e o
  · funext e o; exact iblk4_apply m c t e o

/-- The logits of a point's rows. -/
theorem logits_at (hg : ∀ i, ∃ z : ℝ, (V m c main_arg4 i : EReal) = (z : EReal)) (hb : ∀ i, ∃ z : ℝ, (V m c main_arg5 i : EReal) = (z : EReal))
    (hw : ∀ i, ∃ z : ℝ, (V m c main_arg6 i : EReal) = (z : EReal)) (r : Fin 512) (o : Fin 128) (g : Fin 16384) (h : g.val = 512 * t.val + r.val) :
    k0_pay2 (rows m c t) (iblk m c 7 t) (ix2 r o) = logits (want m c) (V m c main_arg6) (ix2 g o) := by
  rw [split_apply, logits_apply]
  simp only [rows_at m c t r _ g h, iblk7_apply]
  exact split_sum _ _ (fun k => rows_real _ _ _ hg hb g k) (fun k => hw _)

/-- A row's grid point and its place in the block. -/
theorem row_point (r : Fin 16384) : ∃ (t : Fin cfg0.N) (x : Fin 512), r.val = 512 * t.val + x.val := by
  have h0 : r.val < 16384 := r.isLt
  have hN : cfg0.N = 32 := N_0
  exact ⟨⟨r.val / 512, by omega⟩, ⟨r.val % 512, by omega⟩, by show r.val = 512 * (r.val / 512) + r.val % 512; omega⟩

/-- A row of a block, as a row of the array. -/
theorem row_lt (x : ℕ) (hx : x < 512) : 512 * t.val + x < 16384 := by
  have hN : t.val < 32 := lt_of_lt_of_eq t.isLt N_0
  omega

/-- The place of the first result's block in its array. -/
theorem place8 (r : Fin 512) (o : Fin 1024) (g : Fin 16384) (hg : g.val = 512 * t.val + r.val) : ((cfg0.win 8).blk t).view.emb (ix2 r o) = ix2 g o := by
  obtain ⟨⟨e0, e1⟩, -⟩ := point_out t
  refine ix2_of (((cfg0.win 8).blk t).view.emb (ix2 r o)) g o ?_ ?_
  · show win0_8.index t (0 : Fin 2) * 512 + 1 * r.val = g.val; omega
  · show win0_8.index t (1 : Fin 2) * 1024 + 1 * o.val = o.val; omega

theorem covered8 (i : S16384x1024.Idx) : ∃ t : Fin cfg0.N, (cfg0.win 8).flush t = true ∧ i ∈ ((cfg0.win 8).blk t).view.set := by
  obtain ⟨t, x, h⟩ := row_point (i 0)
  refine ⟨t, flush0_8 t, ?_⟩
  rw [show i = ((cfg0.win 8).blk t).view.emb (ix2 x (i 1)) from (ix2_of i (i 0) (i 1) rfl rfl).trans (place8 t x (i 1) (i 0) h).symm]
  exact View.emb_mem_set _ _

/-- The place of the second result's block in its array. -/
theorem place9 (r : Fin 512) (o : Fin 1024) (g : Fin 16384) (hg : g.val = 512 * t.val + r.val) : ((cfg0.win 9).blk t).view.emb (ix2 r o) = ix2 g o := by
  obtain ⟨-, ⟨e0, e1⟩, -⟩ := point_out t
  refine ix2_of (((cfg0.win 9).blk t).view.emb (ix2 r o)) g o ?_ ?_
  · show win0_9.index t (0 : Fin 2) * 512 + 1 * r.val = g.val; omega
  · show win0_9.index t (1 : Fin 2) * 1024 + 1 * o.val = o.val; omega

theorem covered9 (i : S16384x1024.Idx) : ∃ t : Fin cfg0.N, (cfg0.win 9).flush t = true ∧ i ∈ ((cfg0.win 9).blk t).view.set := by
  obtain ⟨t, x, h⟩ := row_point (i 0)
  refine ⟨t, flush0_9 t, ?_⟩
  rw [show i = ((cfg0.win 9).blk t).view.emb (ix2 x (i 1)) from (ix2_of i (i 0) (i 1) rfl rfl).trans (place9 t x (i 1) (i 0) h).symm]
  exact View.emb_mem_set _ _

/-- The place of the logits' block in its array. -/
theorem place10 (r : Fin 512) (o : Fin 128) (g : Fin 16384) (hg : g.val = 512 * t.val + r.val) : ((cfg0.win 10).blk t).view.emb (ix2 r o) = ix2 g o := by
  obtain ⟨-, -, ⟨e0, e1⟩⟩ := point_out t
  refine ix2_of (((cfg0.win 10).blk t).view.emb (ix2 r o)) g o ?_ ?_
  · show win0_10.index t (0 : Fin 2) * 512 + 1 * r.val = g.val; omega
  · show win0_10.index t (1 : Fin 2) * 128 + 1 * o.val = o.val; omega

theorem covered10 (i : S16384x128.Idx) : ∃ t : Fin cfg0.N, (cfg0.win 10).flush t = true ∧ i ∈ ((cfg0.win 10).blk t).view.set := by
  obtain ⟨t, x, h⟩ := row_point (i 0)
  refine ⟨t, flush0_10 t, ?_⟩
  rw [show i = ((cfg0.win 10).blk t).view.emb (ix2 x (i 1)) from (ix2_of i (i 0) (i 1) rfl rfl).trans (place10 t x (i 1) (i 0) h).symm]
  exact View.emb_mem_set _ _

/-- The first array after the run. -/
theorem final8_eq : (dats m 0 c).arrAt 8 cfg0.N = want m c := by
  refine (dats m 0 c).arrAt_eq_of_cover 8 (want m c) (fun t _ => ?_) covered8
  rw [flushed8 m c t, out8_eq]
  funext y
  obtain ⟨r, o, rfl⟩ : ∃ (r : Fin 512) (o : Fin 1024), y = ix2 r o := ⟨y 0, y 1, ix2_of y (y 0) (y 1) rfl rfl⟩
  show _ = want m c (((cfg0.win 8).blk t).view.emb (ix2 r o))
  rw [place8 t r o ⟨_, row_lt t r.val r.isLt⟩ rfl]
  exact rows_at m c t r o _ rfl

/-- The second array after the run: the first in the narrow format. -/
theorem final9_eq : (dats m 0 c).arrAt 9 cfg0.N = truncf .bf16 (want m c) Cert.RouterReferenceIdeal.Gen.bitsLt_bf16_f32 := by
  refine (dats m 0 c).arrAt_eq_of_cover 9 (truncf .bf16 (want m c) Cert.RouterReferenceIdeal.Gen.bitsLt_bf16_f32) (fun t _ => ?_) covered9
  rw [flushed9 m c t, out9_eq]
  funext y
  obtain ⟨r, o, rfl⟩ : ∃ (r : Fin 512) (o : Fin 1024), y = ix2 r o := ⟨y 0, y 1, ix2_of y (y 0) (y 1) rfl rfl⟩
  show _ = want m c (((cfg0.win 9).blk t).view.emb (ix2 r o))
  rw [place9 t r o ⟨_, row_lt t r.val r.isLt⟩ rfl]
  exact rows_at m c t r o _ rfl

/-- The third array after the run: the logits. -/
theorem final10_eq (hg : ∀ i, ∃ z : ℝ, (V m c main_arg4 i : EReal) = (z : EReal)) (hb : ∀ i, ∃ z : ℝ, (V m c main_arg5 i : EReal) = (z : EReal))
    (hw : ∀ i, ∃ z : ℝ, (V m c main_arg6 i : EReal) = (z : EReal)) : (dats m 0 c).arrAt 10 cfg0.N = logits (want m c) (V m c main_arg6) := by
  refine (dats m 0 c).arrAt_eq_of_cover 10 (logits (want m c) (V m c main_arg6)) (fun t _ => ?_) covered10
  rw [flushed10 m c t, out10_eq]
  funext y
  obtain ⟨r, o, rfl⟩ : ∃ (r : Fin 512) (o : Fin 128), y = ix2 r o := ⟨y 0, y 1, ix2_of y (y 0) (y 1) rfl rfl⟩
  show _ = logits (want m c) (V m c main_arg6) (((cfg0.win 10).blk t).view.emb (ix2 r o))
  rw [place10 t r o ⟨_, row_lt t r.val r.isLt⟩ rfl]
  exact logits_at m c t hg hb hw r o _ rfl

end Cert.Router
end
-- ==== Proof.Router.Claims.lean ====
module

public import proofs.«01_k».proof.Defs
public import proofs.«01_k».proof.Proof.Gen.Router.Frame
public import proofs.«01_k».proof.Proof.Router.Out
public import Idealize.ShloMosaic.Lib.Quiescent

/-!
# The claims of the output projection with the router

The kernel's and the reference's runs, and that their results are equal.
-/

@[expose] public section

set_option maxRecDepth 16384

noncomputable section

namespace Cert.Router

open Idealize.ShloMosaic Idealize.ShloMosaic.TcCoe Idealize.SL.Sem

theorem frameP : Cert.quiescent_Router := fun m ρ _ => Cert.Router.Gen.frame m ρ

theorem framePI : Cert.quiescent_RouterIdeal := fun m ρ _ => Cert.RouterIdeal.Gen.frame m ρ

/-- The reference runs, keeps its arguments, and has no semaphore that could be left above zero. -/
theorem frameRI : Cert.quiescent_RouterReferenceIdeal := fun m ρ _ =>
  (θ_run Cert.RouterReferenceIdeal.defs _ _).mono
    (fun r h => ⟨fun c => (h c).2.2.2, sem_eq_zero_of_no_sems (by decide) r.2⟩) (Cert.RouterReferenceIdeal.Value.run m ρ)

/-- From finite weights of the norm and of the router, the kernel's three results and the reference's are equal. -/
theorem algebraic [Cert.Pre_plain.Facts] : Cert.algebraic_RouterIdeal_RouterReferenceIdeal_pre_plain := by
  intro m g m' g' hm hagree
  refine ⟨fun c => (Cert.RouterIdeal.Gen.dats m 0 c).arrAt 8 Cert.RouterIdeal.cfg0.N, fun c => (Cert.RouterIdeal.Gen.dats m 0 c).arrAt 9 Cert.RouterIdeal.cfg0.N,
    fun c => (Cert.RouterIdeal.Gen.dats m 0 c).arrAt 10 Cert.RouterIdeal.cfg0.N, Cert.RouterIdeal.Value.run_blocks m g, ?_⟩
  have key : ∀ c, Cert.RouterReferenceIdeal.Value.res_out0 m' c = want m c := fun c => by
    obtain ⟨a0, a1, a2, a3, a4, a5, -⟩ := hagree c
    exact (res0_eq m' c).trans (congr (congr (congrArg (Ffn.Ref.normed (F := Ideal))
      (congr (congr (congr (congrArg (total (F := Ideal)) a0) a1) a2) a3)) a4) a5)
  refine (θ_run Cert.RouterReferenceIdeal.defs _ _).mono (fun r h c => ⟨(h c).1.trans ?_, (h c).2.1.trans ?_, (h c).2.2.1.trans ?_, (h c).2.2.2⟩)
    (Cert.RouterReferenceIdeal.Value.run m' g')
  · exact (key c).trans (final8_eq m c).symm
  · exact ((res1_eq m' c).trans (congrArg (fun y => truncf .bf16 y Cert.RouterReferenceIdeal.Gen.bitsLt_bf16_f32) (key c))).trans (final9_eq m c).symm
  · obtain ⟨hg, hb, hw⟩ := plain_args _ _ _ _ _ _ _ (hm c)
    exact ((res2_eq m' c).trans (congr (congrArg (logits (F := Ideal)) (key c)) (hagree c).2.2.2.2.2.2)).trans (final10_eq m c hg hb hw).symm

end Cert.Router
end
-- ==== Proof.lean ====
module

public import proofs.«01_k».proof.Defs
public import proofs.«01_k».proof.Proof.Attn.Claims
public import proofs.«01_k».proof.Proof.Ffn.Claims
public import proofs.«01_k».proof.Proof.Experts.Equal
public import proofs.«01_k».proof.Proof.InProj.Claims
public import proofs.«01_k».proof.Proof.OutProj.Claims
public import proofs.«01_k».proof.Proof.Router.Claims

@[expose] public section

noncomputable section

namespace Cert.Proof

/-- Everything that the certificate claims. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Expert.Gen.facts, Cert.ExpertIdeal.Gen.facts, Cert.ExpertReferenceIdeal.Gen.facts,
    Cert.InProj.Gen.facts, Cert.InProjIdeal.Gen.facts, Cert.InProjReferenceIdeal.Gen.facts, Cert.OutProj.Gen.facts, Cert.OutProjIdeal.Gen.facts,
    Cert.OutProjReferenceIdeal.Gen.facts, Cert.Router.Gen.facts, Cert.RouterIdeal.Gen.facts, Cert.RouterReferenceIdeal.Gen.facts,
    Cert.Attn.finiteFacts, Cert.Pre_named.Gen.facts, Cert.Router.plainFacts,
    Cert.Attn.frameP, Cert.Attn.framePI, fun m ρ _ => Cert.Attn.framePI m ρ trivial,
    Cert.Attn.frameRI, fun m ρ _ => Cert.Attn.frameRI m ρ trivial,
    Cert.Ffn.frameP, Cert.Ffn.framePI, Cert.Ffn.frameRI,
    Cert.Experts.frameP, Cert.Experts.framePI, Cert.Experts.frameRI, Cert.Experts.frameRI_named,
    Cert.InProj.frameP, Cert.InProj.framePI, Cert.InProj.frameRI, Cert.OutProj.frameP, Cert.OutProj.framePI, Cert.OutProj.frameRI,
    Cert.Router.frameP, Cert.Router.framePI, fun m ρ _ => Cert.Router.framePI m ρ trivial,
    Cert.Router.frameRI, fun m ρ _ => Cert.Router.frameRI m ρ trivial,
    Cert.Attn.preserves, @Cert.Attn.algebraic Cert.Attn.finiteFacts, trivial, Cert.Ffn.algebraic,
    trivial, Cert.Experts.algebraic, trivial, Cert.InProj.algebraic, trivial, Cert.OutProj.algebraic,
    trivial, @Cert.Router.algebraic Cert.Router.plainFacts⟩

end Cert.Proof

end
